-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 16384, 8, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 16384, 8, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x8x64 : S_.BroadcastsInDim S2x512x8x64 (![] : Fin 0 → Fin S2x512x8x64.rank)

variable [Facts]

def fn {F : FTy → Type} [FloatOps F] (main_arg0 : FVec F S2x512x768 .f32) (main_arg1 : FVec F S768x512 .f32) (main_arg2 : FVec F S2x512x8x64 .f32) (main_arg3 : FVec F S2x512x8x64 .f32) (main_arg4 : FVec F S512x768 .f32) : IVec S2x512x768 1 × IVec S768x512 1 × IVec S2x512x8x64 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S2x512x8x64 .f32 := Host.absf main_arg2
  let main_cst_1 : FVec F S_ .f32 := constant S_ .f32 0x7F800000#32
  let main_v7 : FVec F S2x512x8x64 .f32 := broadcastInDim S2x512x8x64 ![] bcast_S_S2x512x8x64 main_cst_1
  let main_v8 : IVec S2x512x8x64 1 := cmpf .olt main_v6 main_v7
  (main_v2, main_v5, main_v8)
-- ==== Pre_finite_scores_ReferenceIdeal.lean ====
abbrev S2x512x768 : Shape := ⟨3, ![2, 512, 768]⟩
abbrev S768x512 : Shape := ⟨2, ![768, 512]⟩
abbrev S2x16384x8x64 : Shape := ⟨4, ![2, 16384, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S2x16384x8x64 : S_.BroadcastsInDim S2x16384x8x64 (![] : Fin 0 → Fin S2x16384x8x64.rank)

variable [Facts]

def fn {F : FTy → Type} [FloatOps F] (main_arg0 : FVec F S2x512x768 .f32) (main_arg1 : FVec F S768x512 .f32) (main_arg2 : FVec F S2x16384x8x64 .f32) (main_arg3 : FVec F S2x16384x8x64 .f32) (main_arg4 : FVec F S512x768 .f32) : IVec S2x512x768 1 × IVec S768x512 1 × IVec S2x16384x8x64 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S2x16384x8x64 .f32 := Host.absf main_arg2
  let main_cst_1 : FVec F S_ .f32 := constant S_ .f32 0x7F800000#32
  let main_v7 : FVec F S2x16384x8x64 .f32 := broadcastInDim S2x16384x8x64 ![] bcast_S_S2x16384x8x64 main_cst_1
  let main_v8 : IVec S2x16384x8x64 1 := cmpf .olt main_v6 main_v7
  (main_v2, main_v5, main_v8)
-- ==== Kernel.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S1024x520 : Shape := ⟨2, ![1024, 520]⟩
abbrev S4x32x8x520 : Shape := ⟨4, ![4, 32, 8, 520]⟩
abbrev S2x512x512 : Shape := ⟨3, ![2, 512, 512]⟩
abbrev S4x32 : Shape := ⟨2, ![4, 32]⟩
abbrev S_ : Shape := ⟨0, ![]⟩
abbrev S1x256x768 : Shape := ⟨3, ![1, 256, 768]⟩
abbrev S256x768 : Shape := ⟨2, ![256, 768]⟩
abbrev S256x512 : Shape := ⟨2, ![256, 512]⟩
abbrev S256x64 : Shape := ⟨2, ![256, 64]⟩
abbrev S4x64x64 : Shape := ⟨3, ![4, 64, 64]⟩
abbrev S1x512x1x64 : Shape := ⟨4, ![1, 512, 1, 64]⟩
abbrev S512x64 : Shape := ⟨2, ![512, 64]⟩
abbrev S2x4x64x64 : Shape := ⟨4, ![2, 4, 64, 64]⟩
abbrev S4x2x64x64 : Shape := ⟨4, ![4, 2, 64, 64]⟩
abbrev S4x128x64 : Shape := ⟨3, ![4, 128, 64]⟩
abbrev S4x64x128 : Shape := ⟨3, ![4, 64, 128]⟩
abbrev S4x64 : Shape := ⟨2, ![4, 64]⟩
abbrev S4x64x1 : Shape := ⟨3, ![4, 64, 1]⟩
abbrev S256x1 : Shape := ⟨2, ![256, 1]⟩
abbrev S256x8 : Shape := ⟨2, ![256, 8]⟩
abbrev S256x520 : Shape := ⟨2, ![256, 520]⟩
abbrev S1x1 : Shape := ⟨2, ![1, 1]⟩
abbrev S1x1x8x520 : Shape := ⟨4, ![1, 1, 8, 520]⟩
abbrev S8x520 : Shape := ⟨2, ![8, 520]⟩
abbrev S1x31x8x520 : Shape := ⟨4, ![1, 31, 8, 520]⟩
abbrev S31x8x520 : Shape := ⟨3, ![31, 8, 520]⟩
abbrev S8x64 : Shape := ⟨2, ![8, 64]⟩
abbrev S8x1 : Shape := ⟨2, ![8, 1]⟩
abbrev S8x512 : Shape := ⟨2, ![8, 512]⟩
abbrev S1x8x512 : Shape := ⟨3, ![1, 8, 512]⟩
abbrev S1x256x512 : Shape := ⟨3, ![1, 256, 512]⟩

abbrev nBuf : Space → Nat
  | .hbm => 6
  | .vmem => 10
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x8x64, .f32⟩
  | .hbm, ⟨3, _⟩ => ⟨S2x512x8x64, .f32⟩
  | .hbm, ⟨4, _⟩ => ⟨S512x768, .f32⟩
  | .hbm, ⟨5, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S2x512x8x64, .f32⟩
  | .local _ .vmem, ⟨3, _⟩ => ⟨S2x512x8x64, .f32⟩
  | .local _ .vmem, ⟨4, _⟩ => ⟨S512x768, .f32⟩
  | .local _ .vmem, ⟨5, _⟩ => ⟨S2x512x768, .f32⟩
  | .local _ .vmem, ⟨6, _⟩ => ⟨S1024x520, .f32⟩
  | .local _ .vmem, ⟨7, _⟩ => ⟨S1024x520, .bf16⟩
  | .local _ .vmem, ⟨8, _⟩ => ⟨S4x32x8x520, .bf16⟩
  | .local _ .vmem, ⟨9, _⟩ => ⟨S2x512x512, .bf16⟩
  | _, _ => ⟨S2x512x768, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_4 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | 4 => dmaSemScopedAt0_4 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 518 → Bool
  | ⟨i, _⟩ => dmaSemScopedAt i

abbrev sig : RefSig :=
  (ofTc nBuf bufTy 1 518 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c0_i32_237 : BitVec 32) (c1_i32_234 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v337 : BitVec 32 := Scalar.addi v2 c1_i32_234
  let c32_i32_235 : BitVec 32 := 32#32
  let v338 : BitVec 32 := Scalar.remsi v337 c32_i32_235
  let c8_i32_236 : BitVec 32 := 8#32
  let v339 : BitVec 32 := Scalar.muli v338 c8_i32_236
  let v340 : BitVec 32 := Scalar.addi c0_i32_237 v339
  let c0_i32_248 : BitVec 32 := 0#32
  ![v340.toNat, 0]
def k0_dev32 (d0 : Dev nD) : Nat :=
  let c0_i32_245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_234 : BitVec 32 := 1#32
  let v337 : BitVec 32 := Scalar.addi v2 c1_i32_234
  let c32_i32_235 : BitVec 32 := 32#32
  let v338 : BitVec 32 := Scalar.remsi v337 c32_i32_235
  let c1_i32_244 : BitVec 32 := 1#32
  let v341 : BitVec 32 := Scalar.muli v338 c1_i32_244
  let v342 : BitVec 32 := Scalar.addi c0_i32_245 v341
  v342.toNat
def k0_dev33 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_249 : BitVec 32 := 2#32
  let v350 : BitVec 32 := Scalar.addi v2 c2_i32_249
  let c32_i32_250 : BitVec 32 := 32#32
  let v351 : BitVec 32 := Scalar.remsi v350 c32_i32_250
  let c1_i32_259 : BitVec 32 := 1#32
  let v354 : BitVec 32 := Scalar.muli v351 c1_i32_259
  let v355 : BitVec 32 := Scalar.addi c0_i32_260 v354
  v355.toNat
def k0_dev34 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_264 : BitVec 32 := 3#32
  let v363 : BitVec 32 := Scalar.addi v2 c3_i32_264
  let c32_i32_265 : BitVec 32 := 32#32
  let v364 : BitVec 32 := Scalar.remsi v363 c32_i32_265
  let c1_i32_274 : BitVec 32 := 1#32
  let v367 : BitVec 32 := Scalar.muli v364 c1_i32_274
  let v368 : BitVec 32 := Scalar.addi c0_i32_275 v367
  v368.toNat
def k0_dev35 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_279 : BitVec 32 := 4#32
  let v376 : BitVec 32 := Scalar.addi v2 c4_i32_279
  let c32_i32_280 : BitVec 32 := 32#32
  let v377 : BitVec 32 := Scalar.remsi v376 c32_i32_280
  let c1_i32_289 : BitVec 32 := 1#32
  let v380 : BitVec 32 := Scalar.muli v377 c1_i32_289
  let v381 : BitVec 32 := Scalar.addi c0_i32_290 v380
  v381.toNat
def k0_dev36 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_294 : BitVec 32 := 5#32
  let v389 : BitVec 32 := Scalar.addi v2 c5_i32_294
  let c32_i32_295 : BitVec 32 := 32#32
  let v390 : BitVec 32 := Scalar.remsi v389 c32_i32_295
  let c1_i32_304 : BitVec 32 := 1#32
  let v393 : BitVec 32 := Scalar.muli v390 c1_i32_304
  let v394 : BitVec 32 := Scalar.addi c0_i32_305 v393
  v394.toNat
def k0_dev37 (d0 : Dev nD) : Nat :=
  let c0_i32_320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_309 : BitVec 32 := 6#32
  let v402 : BitVec 32 := Scalar.addi v2 c6_i32_309
  let c32_i32_310 : BitVec 32 := 32#32
  let v403 : BitVec 32 := Scalar.remsi v402 c32_i32_310
  let c1_i32_319 : BitVec 32 := 1#32
  let v406 : BitVec 32 := Scalar.muli v403 c1_i32_319
  let v407 : BitVec 32 := Scalar.addi c0_i32_320 v406
  v407.toNat
def k0_dev38 (d0 : Dev nD) : Nat :=
  let c0_i32_335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_324 : BitVec 32 := 7#32
  let v415 : BitVec 32 := Scalar.addi v2 c7_i32_324
  let c32_i32_325 : BitVec 32 := 32#32
  let v416 : BitVec 32 := Scalar.remsi v415 c32_i32_325
  let c1_i32_334 : BitVec 32 := 1#32
  let v419 : BitVec 32 := Scalar.muli v416 c1_i32_334
  let v420 : BitVec 32 := Scalar.addi c0_i32_335 v419
  v420.toNat
def k0_dev39 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_339 : BitVec 32 := 8#32
  let v428 : BitVec 32 := Scalar.addi v2 c8_i32_339
  let c32_i32_340 : BitVec 32 := 32#32
  let v429 : BitVec 32 := Scalar.remsi v428 c32_i32_340
  let c1_i32_349 : BitVec 32 := 1#32
  let v432 : BitVec 32 := Scalar.muli v429 c1_i32_349
  let v433 : BitVec 32 := Scalar.addi c0_i32_350 v432
  v433.toNat
def k0_dev40 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_354 : BitVec 32 := 9#32
  let v441 : BitVec 32 := Scalar.addi v2 c9_i32_354
  let c32_i32_355 : BitVec 32 := 32#32
  let v442 : BitVec 32 := Scalar.remsi v441 c32_i32_355
  let c1_i32_364 : BitVec 32 := 1#32
  let v445 : BitVec 32 := Scalar.muli v442 c1_i32_364
  let v446 : BitVec 32 := Scalar.addi c0_i32_365 v445
  v446.toNat
def k0_dev41 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_369 : BitVec 32 := 10#32
  let v454 : BitVec 32 := Scalar.addi v2 c10_i32_369
  let c32_i32_370 : BitVec 32 := 32#32
  let v455 : BitVec 32 := Scalar.remsi v454 c32_i32_370
  let c1_i32_379 : BitVec 32 := 1#32
  let v458 : BitVec 32 := Scalar.muli v455 c1_i32_379
  let v459 : BitVec 32 := Scalar.addi c0_i32_380 v458
  v459.toNat
def k0_dev42 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_384 : BitVec 32 := 11#32
  let v467 : BitVec 32 := Scalar.addi v2 c11_i32_384
  let c32_i32_385 : BitVec 32 := 32#32
  let v468 : BitVec 32 := Scalar.remsi v467 c32_i32_385
  let c1_i32_394 : BitVec 32 := 1#32
  let v471 : BitVec 32 := Scalar.muli v468 c1_i32_394
  let v472 : BitVec 32 := Scalar.addi c0_i32_395 v471
  v472.toNat
def k0_dev43 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_399 : BitVec 32 := 12#32
  let v480 : BitVec 32 := Scalar.addi v2 c12_i32_399
  let c32_i32_400 : BitVec 32 := 32#32
  let v481 : BitVec 32 := Scalar.remsi v480 c32_i32_400
  let c1_i32_409 : BitVec 32 := 1#32
  let v484 : BitVec 32 := Scalar.muli v481 c1_i32_409
  let v485 : BitVec 32 := Scalar.addi c0_i32_410 v484
  v485.toNat
def k0_dev44 (d0 : Dev nD) : Nat :=
  let c0_i32_425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_414 : BitVec 32 := 13#32
  let v493 : BitVec 32 := Scalar.addi v2 c13_i32_414
  let c32_i32_415 : BitVec 32 := 32#32
  let v494 : BitVec 32 := Scalar.remsi v493 c32_i32_415
  let c1_i32_424 : BitVec 32 := 1#32
  let v497 : BitVec 32 := Scalar.muli v494 c1_i32_424
  let v498 : BitVec 32 := Scalar.addi c0_i32_425 v497
  v498.toNat
def k0_dev45 (d0 : Dev nD) : Nat :=
  let c0_i32_440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_429 : BitVec 32 := 14#32
  let v506 : BitVec 32 := Scalar.addi v2 c14_i32_429
  let c32_i32_430 : BitVec 32 := 32#32
  let v507 : BitVec 32 := Scalar.remsi v506 c32_i32_430
  let c1_i32_439 : BitVec 32 := 1#32
  let v510 : BitVec 32 := Scalar.muli v507 c1_i32_439
  let v511 : BitVec 32 := Scalar.addi c0_i32_440 v510
  v511.toNat
def k0_dev46 (d0 : Dev nD) : Nat :=
  let c0_i32_455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_444 : BitVec 32 := 15#32
  let v519 : BitVec 32 := Scalar.addi v2 c15_i32_444
  let c32_i32_445 : BitVec 32 := 32#32
  let v520 : BitVec 32 := Scalar.remsi v519 c32_i32_445
  let c1_i32_454 : BitVec 32 := 1#32
  let v523 : BitVec 32 := Scalar.muli v520 c1_i32_454
  let v524 : BitVec 32 := Scalar.addi c0_i32_455 v523
  v524.toNat
def k0_dev47 (d0 : Dev nD) : Nat :=
  let c0_i32_470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_459 : BitVec 32 := 16#32
  let v532 : BitVec 32 := Scalar.addi v2 c16_i32_459
  let c32_i32_460 : BitVec 32 := 32#32
  let v533 : BitVec 32 := Scalar.remsi v532 c32_i32_460
  let c1_i32_469 : BitVec 32 := 1#32
  let v536 : BitVec 32 := Scalar.muli v533 c1_i32_469
  let v537 : BitVec 32 := Scalar.addi c0_i32_470 v536
  v537.toNat
def k0_dev48 (d0 : Dev nD) : Nat :=
  let c0_i32_485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_474 : BitVec 32 := 17#32
  let v545 : BitVec 32 := Scalar.addi v2 c17_i32_474
  let c32_i32_475 : BitVec 32 := 32#32
  let v546 : BitVec 32 := Scalar.remsi v545 c32_i32_475
  let c1_i32_484 : BitVec 32 := 1#32
  let v549 : BitVec 32 := Scalar.muli v546 c1_i32_484
  let v550 : BitVec 32 := Scalar.addi c0_i32_485 v549
  v550.toNat
def k0_dev49 (d0 : Dev nD) : Nat :=
  let c0_i32_500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_489 : BitVec 32 := 18#32
  let v558 : BitVec 32 := Scalar.addi v2 c18_i32_489
  let c32_i32_490 : BitVec 32 := 32#32
  let v559 : BitVec 32 := Scalar.remsi v558 c32_i32_490
  let c1_i32_499 : BitVec 32 := 1#32
  let v562 : BitVec 32 := Scalar.muli v559 c1_i32_499
  let v563 : BitVec 32 := Scalar.addi c0_i32_500 v562
  v563.toNat
def k0_dev50 (d0 : Dev nD) : Nat :=
  let c0_i32_515 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_504 : BitVec 32 := 19#32
  let v571 : BitVec 32 := Scalar.addi v2 c19_i32_504
  let c32_i32_505 : BitVec 32 := 32#32
  let v572 : BitVec 32 := Scalar.remsi v571 c32_i32_505
  let c1_i32_514 : BitVec 32 := 1#32
  let v575 : BitVec 32 := Scalar.muli v572 c1_i32_514
  let v576 : BitVec 32 := Scalar.addi c0_i32_515 v575
  v576.toNat
def k0_dev51 (d0 : Dev nD) : Nat :=
  let c0_i32_530 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_519 : BitVec 32 := 20#32
  let v584 : BitVec 32 := Scalar.addi v2 c20_i32_519
  let c32_i32_520 : BitVec 32 := 32#32
  let v585 : BitVec 32 := Scalar.remsi v584 c32_i32_520
  let c1_i32_529 : BitVec 32 := 1#32
  let v588 : BitVec 32 := Scalar.muli v585 c1_i32_529
  let v589 : BitVec 32 := Scalar.addi c0_i32_530 v588
  v589.toNat
def k0_dev52 (d0 : Dev nD) : Nat :=
  let c0_i32_545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_534 : BitVec 32 := 21#32
  let v597 : BitVec 32 := Scalar.addi v2 c21_i32_534
  let c32_i32_535 : BitVec 32 := 32#32
  let v598 : BitVec 32 := Scalar.remsi v597 c32_i32_535
  let c1_i32_544 : BitVec 32 := 1#32
  let v601 : BitVec 32 := Scalar.muli v598 c1_i32_544
  let v602 : BitVec 32 := Scalar.addi c0_i32_545 v601
  v602.toNat
def k0_dev53 (d0 : Dev nD) : Nat :=
  let c0_i32_560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_549 : BitVec 32 := 22#32
  let v610 : BitVec 32 := Scalar.addi v2 c22_i32_549
  let c32_i32_550 : BitVec 32 := 32#32
  let v611 : BitVec 32 := Scalar.remsi v610 c32_i32_550
  let c1_i32_559 : BitVec 32 := 1#32
  let v614 : BitVec 32 := Scalar.muli v611 c1_i32_559
  let v615 : BitVec 32 := Scalar.addi c0_i32_560 v614
  v615.toNat
def k0_dev54 (d0 : Dev nD) : Nat :=
  let c0_i32_575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_564 : BitVec 32 := 23#32
  let v623 : BitVec 32 := Scalar.addi v2 c23_i32_564
  let c32_i32_565 : BitVec 32 := 32#32
  let v624 : BitVec 32 := Scalar.remsi v623 c32_i32_565
  let c1_i32_574 : BitVec 32 := 1#32
  let v627 : BitVec 32 := Scalar.muli v624 c1_i32_574
  let v628 : BitVec 32 := Scalar.addi c0_i32_575 v627
  v628.toNat
def k0_dev55 (d0 : Dev nD) : Nat :=
  let c0_i32_590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_579 : BitVec 32 := 24#32
  let v636 : BitVec 32 := Scalar.addi v2 c24_i32_579
  let c32_i32_580 : BitVec 32 := 32#32
  let v637 : BitVec 32 := Scalar.remsi v636 c32_i32_580
  let c1_i32_589 : BitVec 32 := 1#32
  let v640 : BitVec 32 := Scalar.muli v637 c1_i32_589
  let v641 : BitVec 32 := Scalar.addi c0_i32_590 v640
  v641.toNat
def k0_dev56 (d0 : Dev nD) : Nat :=
  let c0_i32_605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_594 : BitVec 32 := 25#32
  let v649 : BitVec 32 := Scalar.addi v2 c25_i32_594
  let c32_i32_595 : BitVec 32 := 32#32
  let v650 : BitVec 32 := Scalar.remsi v649 c32_i32_595
  let c1_i32_604 : BitVec 32 := 1#32
  let v653 : BitVec 32 := Scalar.muli v650 c1_i32_604
  let v654 : BitVec 32 := Scalar.addi c0_i32_605 v653
  v654.toNat
def k0_dev57 (d0 : Dev nD) : Nat :=
  let c0_i32_620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_609 : BitVec 32 := 26#32
  let v662 : BitVec 32 := Scalar.addi v2 c26_i32_609
  let c32_i32_610 : BitVec 32 := 32#32
  let v663 : BitVec 32 := Scalar.remsi v662 c32_i32_610
  let c1_i32_619 : BitVec 32 := 1#32
  let v666 : BitVec 32 := Scalar.muli v663 c1_i32_619
  let v667 : BitVec 32 := Scalar.addi c0_i32_620 v666
  v667.toNat
def k0_dev58 (d0 : Dev nD) : Nat :=
  let c0_i32_635 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_624 : BitVec 32 := 27#32
  let v675 : BitVec 32 := Scalar.addi v2 c27_i32_624
  let c32_i32_625 : BitVec 32 := 32#32
  let v676 : BitVec 32 := Scalar.remsi v675 c32_i32_625
  let c1_i32_634 : BitVec 32 := 1#32
  let v679 : BitVec 32 := Scalar.muli v676 c1_i32_634
  let v680 : BitVec 32 := Scalar.addi c0_i32_635 v679
  v680.toNat
def k0_dev59 (d0 : Dev nD) : Nat :=
  let c0_i32_650 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_639 : BitVec 32 := 28#32
  let v688 : BitVec 32 := Scalar.addi v2 c28_i32_639
  let c32_i32_640 : BitVec 32 := 32#32
  let v689 : BitVec 32 := Scalar.remsi v688 c32_i32_640
  let c1_i32_649 : BitVec 32 := 1#32
  let v692 : BitVec 32 := Scalar.muli v689 c1_i32_649
  let v693 : BitVec 32 := Scalar.addi c0_i32_650 v692
  v693.toNat
def k0_dev60 (d0 : Dev nD) : Nat :=
  let c0_i32_665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_654 : BitVec 32 := 29#32
  let v701 : BitVec 32 := Scalar.addi v2 c29_i32_654
  let c32_i32_655 : BitVec 32 := 32#32
  let v702 : BitVec 32 := Scalar.remsi v701 c32_i32_655
  let c1_i32_664 : BitVec 32 := 1#32
  let v705 : BitVec 32 := Scalar.muli v702 c1_i32_664
  let v706 : BitVec 32 := Scalar.addi c0_i32_665 v705
  v706.toNat
def k0_dev61 (d0 : Dev nD) : Nat :=
  let c0_i32_680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_669 : BitVec 32 := 30#32
  let v714 : BitVec 32 := Scalar.addi v2 c30_i32_669
  let c32_i32_670 : BitVec 32 := 32#32
  let v715 : BitVec 32 := Scalar.remsi v714 c32_i32_670
  let c1_i32_679 : BitVec 32 := 1#32
  let v718 : BitVec 32 := Scalar.muli v715 c1_i32_679
  let v719 : BitVec 32 := Scalar.addi c0_i32_680 v718
  v719.toNat
def k0_dev62 (d0 : Dev nD) : Nat :=
  let c0_i32_695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_684 : BitVec 32 := 31#32
  let v727 : BitVec 32 := Scalar.addi v2 c31_i32_684
  let c32_i32_685 : BitVec 32 := 32#32
  let v728 : BitVec 32 := Scalar.remsi v727 c32_i32_685
  let c1_i32_694 : BitVec 32 := 1#32
  let v731 : BitVec 32 := Scalar.muli v728 c1_i32_694
  let v732 : BitVec 32 := Scalar.addi c0_i32_695 v731
  v732.toNat
def k0_dev63 (d0 : Dev nD) : Nat :=
  let c0_i32_769 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_759 : BitVec 32 := 1#32
  let v866 : BitVec 32 := Scalar.addi v2 c1_i32_759
  let c32_i32_760 : BitVec 32 := 32#32
  let v867 : BitVec 32 := Scalar.remsi v866 c32_i32_760
  let c1_i32_768 : BitVec 32 := 1#32
  let v870 : BitVec 32 := Scalar.muli v867 c1_i32_768
  let v871 : BitVec 32 := Scalar.addi c0_i32_769 v870
  v871.toNat
def k0_dev64 (d0 : Dev nD) : Nat :=
  let c0_i32_784 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_773 : BitVec 32 := 2#32
  let v879 : BitVec 32 := Scalar.addi v2 c2_i32_773
  let c32_i32_774 : BitVec 32 := 32#32
  let v880 : BitVec 32 := Scalar.remsi v879 c32_i32_774
  let c1_i32_783 : BitVec 32 := 1#32
  let v883 : BitVec 32 := Scalar.muli v880 c1_i32_783
  let v884 : BitVec 32 := Scalar.addi c0_i32_784 v883
  v884.toNat
def k0_dev65 (d0 : Dev nD) : Nat :=
  let c0_i32_799 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_788 : BitVec 32 := 3#32
  let v892 : BitVec 32 := Scalar.addi v2 c3_i32_788
  let c32_i32_789 : BitVec 32 := 32#32
  let v893 : BitVec 32 := Scalar.remsi v892 c32_i32_789
  let c1_i32_798 : BitVec 32 := 1#32
  let v896 : BitVec 32 := Scalar.muli v893 c1_i32_798
  let v897 : BitVec 32 := Scalar.addi c0_i32_799 v896
  v897.toNat
def k0_dev66 (d0 : Dev nD) : Nat :=
  let c0_i32_814 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_803 : BitVec 32 := 4#32
  let v905 : BitVec 32 := Scalar.addi v2 c4_i32_803
  let c32_i32_804 : BitVec 32 := 32#32
  let v906 : BitVec 32 := Scalar.remsi v905 c32_i32_804
  let c1_i32_813 : BitVec 32 := 1#32
  let v909 : BitVec 32 := Scalar.muli v906 c1_i32_813
  let v910 : BitVec 32 := Scalar.addi c0_i32_814 v909
  v910.toNat
def k0_dev67 (d0 : Dev nD) : Nat :=
  let c0_i32_829 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_818 : BitVec 32 := 5#32
  let v918 : BitVec 32 := Scalar.addi v2 c5_i32_818
  let c32_i32_819 : BitVec 32 := 32#32
  let v919 : BitVec 32 := Scalar.remsi v918 c32_i32_819
  let c1_i32_828 : BitVec 32 := 1#32
  let v922 : BitVec 32 := Scalar.muli v919 c1_i32_828
  let v923 : BitVec 32 := Scalar.addi c0_i32_829 v922
  v923.toNat
def k0_dev68 (d0 : Dev nD) : Nat :=
  let c0_i32_844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_833 : BitVec 32 := 6#32
  let v931 : BitVec 32 := Scalar.addi v2 c6_i32_833
  let c32_i32_834 : BitVec 32 := 32#32
  let v932 : BitVec 32 := Scalar.remsi v931 c32_i32_834
  let c1_i32_843 : BitVec 32 := 1#32
  let v935 : BitVec 32 := Scalar.muli v932 c1_i32_843
  let v936 : BitVec 32 := Scalar.addi c0_i32_844 v935
  v936.toNat
def k0_dev69 (d0 : Dev nD) : Nat :=
  let c0_i32_859 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_848 : BitVec 32 := 7#32
  let v944 : BitVec 32 := Scalar.addi v2 c7_i32_848
  let c32_i32_849 : BitVec 32 := 32#32
  let v945 : BitVec 32 := Scalar.remsi v944 c32_i32_849
  let c1_i32_858 : BitVec 32 := 1#32
  let v948 : BitVec 32 := Scalar.muli v945 c1_i32_858
  let v949 : BitVec 32 := Scalar.addi c0_i32_859 v948
  v949.toNat
def k0_dev70 (d0 : Dev nD) : Nat :=
  let c0_i32_874 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_863 : BitVec 32 := 8#32
  let v957 : BitVec 32 := Scalar.addi v2 c8_i32_863
  let c32_i32_864 : BitVec 32 := 32#32
  let v958 : BitVec 32 := Scalar.remsi v957 c32_i32_864
  let c1_i32_873 : BitVec 32 := 1#32
  let v961 : BitVec 32 := Scalar.muli v958 c1_i32_873
  let v962 : BitVec 32 := Scalar.addi c0_i32_874 v961
  v962.toNat
def k0_dev71 (d0 : Dev nD) : Nat :=
  let c0_i32_889 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_878 : BitVec 32 := 9#32
  let v970 : BitVec 32 := Scalar.addi v2 c9_i32_878
  let c32_i32_879 : BitVec 32 := 32#32
  let v971 : BitVec 32 := Scalar.remsi v970 c32_i32_879
  let c1_i32_888 : BitVec 32 := 1#32
  let v974 : BitVec 32 := Scalar.muli v971 c1_i32_888
  let v975 : BitVec 32 := Scalar.addi c0_i32_889 v974
  v975.toNat
def k0_dev72 (d0 : Dev nD) : Nat :=
  let c0_i32_904 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_893 : BitVec 32 := 10#32
  let v983 : BitVec 32 := Scalar.addi v2 c10_i32_893
  let c32_i32_894 : BitVec 32 := 32#32
  let v984 : BitVec 32 := Scalar.remsi v983 c32_i32_894
  let c1_i32_903 : BitVec 32 := 1#32
  let v987 : BitVec 32 := Scalar.muli v984 c1_i32_903
  let v988 : BitVec 32 := Scalar.addi c0_i32_904 v987
  v988.toNat
def k0_dev73 (d0 : Dev nD) : Nat :=
  let c0_i32_919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_908 : BitVec 32 := 11#32
  let v996 : BitVec 32 := Scalar.addi v2 c11_i32_908
  let c32_i32_909 : BitVec 32 := 32#32
  let v997 : BitVec 32 := Scalar.remsi v996 c32_i32_909
  let c1_i32_918 : BitVec 32 := 1#32
  let v1000 : BitVec 32 := Scalar.muli v997 c1_i32_918
  let v1001 : BitVec 32 := Scalar.addi c0_i32_919 v1000
  v1001.toNat
def k0_dev74 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_923 : BitVec 32 := 12#32
  let v1009 : BitVec 32 := Scalar.addi v2 c12_i32_923
  let c32_i32_924 : BitVec 32 := 32#32
  let v1010 : BitVec 32 := Scalar.remsi v1009 c32_i32_924
  let c1_i32_933 : BitVec 32 := 1#32
  let v1013 : BitVec 32 := Scalar.muli v1010 c1_i32_933
  let v1014 : BitVec 32 := Scalar.addi c0_i32_934 v1013
  v1014.toNat
def k0_dev75 (d0 : Dev nD) : Nat :=
  let c0_i32_949 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_938 : BitVec 32 := 13#32
  let v1022 : BitVec 32 := Scalar.addi v2 c13_i32_938
  let c32_i32_939 : BitVec 32 := 32#32
  let v1023 : BitVec 32 := Scalar.remsi v1022 c32_i32_939
  let c1_i32_948 : BitVec 32 := 1#32
  let v1026 : BitVec 32 := Scalar.muli v1023 c1_i32_948
  let v1027 : BitVec 32 := Scalar.addi c0_i32_949 v1026
  v1027.toNat
def k0_dev76 (d0 : Dev nD) : Nat :=
  let c0_i32_964 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_953 : BitVec 32 := 14#32
  let v1035 : BitVec 32 := Scalar.addi v2 c14_i32_953
  let c32_i32_954 : BitVec 32 := 32#32
  let v1036 : BitVec 32 := Scalar.remsi v1035 c32_i32_954
  let c1_i32_963 : BitVec 32 := 1#32
  let v1039 : BitVec 32 := Scalar.muli v1036 c1_i32_963
  let v1040 : BitVec 32 := Scalar.addi c0_i32_964 v1039
  v1040.toNat
def k0_dev77 (d0 : Dev nD) : Nat :=
  let c0_i32_979 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_968 : BitVec 32 := 15#32
  let v1048 : BitVec 32 := Scalar.addi v2 c15_i32_968
  let c32_i32_969 : BitVec 32 := 32#32
  let v1049 : BitVec 32 := Scalar.remsi v1048 c32_i32_969
  let c1_i32_978 : BitVec 32 := 1#32
  let v1052 : BitVec 32 := Scalar.muli v1049 c1_i32_978
  let v1053 : BitVec 32 := Scalar.addi c0_i32_979 v1052
  v1053.toNat
def k0_dev78 (d0 : Dev nD) : Nat :=
  let c0_i32_994 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_983 : BitVec 32 := 16#32
  let v1061 : BitVec 32 := Scalar.addi v2 c16_i32_983
  let c32_i32_984 : BitVec 32 := 32#32
  let v1062 : BitVec 32 := Scalar.remsi v1061 c32_i32_984
  let c1_i32_993 : BitVec 32 := 1#32
  let v1065 : BitVec 32 := Scalar.muli v1062 c1_i32_993
  let v1066 : BitVec 32 := Scalar.addi c0_i32_994 v1065
  v1066.toNat
def k0_dev79 (d0 : Dev nD) : Nat :=
  let c0_i32_1009 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_998 : BitVec 32 := 17#32
  let v1074 : BitVec 32 := Scalar.addi v2 c17_i32_998
  let c32_i32_999 : BitVec 32 := 32#32
  let v1075 : BitVec 32 := Scalar.remsi v1074 c32_i32_999
  let c1_i32_1008 : BitVec 32 := 1#32
  let v1078 : BitVec 32 := Scalar.muli v1075 c1_i32_1008
  let v1079 : BitVec 32 := Scalar.addi c0_i32_1009 v1078
  v1079.toNat
def k0_dev80 (d0 : Dev nD) : Nat :=
  let c0_i32_1024 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1013 : BitVec 32 := 18#32
  let v1087 : BitVec 32 := Scalar.addi v2 c18_i32_1013
  let c32_i32_1014 : BitVec 32 := 32#32
  let v1088 : BitVec 32 := Scalar.remsi v1087 c32_i32_1014
  let c1_i32_1023 : BitVec 32 := 1#32
  let v1091 : BitVec 32 := Scalar.muli v1088 c1_i32_1023
  let v1092 : BitVec 32 := Scalar.addi c0_i32_1024 v1091
  v1092.toNat
def k0_dev81 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1028 : BitVec 32 := 19#32
  let v1100 : BitVec 32 := Scalar.addi v2 c19_i32_1028
  let c32_i32_1029 : BitVec 32 := 32#32
  let v1101 : BitVec 32 := Scalar.remsi v1100 c32_i32_1029
  let c1_i32_1038 : BitVec 32 := 1#32
  let v1104 : BitVec 32 := Scalar.muli v1101 c1_i32_1038
  let v1105 : BitVec 32 := Scalar.addi c0_i32_1039 v1104
  v1105.toNat
def k0_dev82 (d0 : Dev nD) : Nat :=
  let c0_i32_1054 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1043 : BitVec 32 := 20#32
  let v1113 : BitVec 32 := Scalar.addi v2 c20_i32_1043
  let c32_i32_1044 : BitVec 32 := 32#32
  let v1114 : BitVec 32 := Scalar.remsi v1113 c32_i32_1044
  let c1_i32_1053 : BitVec 32 := 1#32
  let v1117 : BitVec 32 := Scalar.muli v1114 c1_i32_1053
  let v1118 : BitVec 32 := Scalar.addi c0_i32_1054 v1117
  v1118.toNat
def k0_dev83 (d0 : Dev nD) : Nat :=
  let c0_i32_1069 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1058 : BitVec 32 := 21#32
  let v1126 : BitVec 32 := Scalar.addi v2 c21_i32_1058
  let c32_i32_1059 : BitVec 32 := 32#32
  let v1127 : BitVec 32 := Scalar.remsi v1126 c32_i32_1059
  let c1_i32_1068 : BitVec 32 := 1#32
  let v1130 : BitVec 32 := Scalar.muli v1127 c1_i32_1068
  let v1131 : BitVec 32 := Scalar.addi c0_i32_1069 v1130
  v1131.toNat
def k0_dev84 (d0 : Dev nD) : Nat :=
  let c0_i32_1084 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1073 : BitVec 32 := 22#32
  let v1139 : BitVec 32 := Scalar.addi v2 c22_i32_1073
  let c32_i32_1074 : BitVec 32 := 32#32
  let v1140 : BitVec 32 := Scalar.remsi v1139 c32_i32_1074
  let c1_i32_1083 : BitVec 32 := 1#32
  let v1143 : BitVec 32 := Scalar.muli v1140 c1_i32_1083
  let v1144 : BitVec 32 := Scalar.addi c0_i32_1084 v1143
  v1144.toNat
def k0_dev85 (d0 : Dev nD) : Nat :=
  let c0_i32_1099 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1088 : BitVec 32 := 23#32
  let v1152 : BitVec 32 := Scalar.addi v2 c23_i32_1088
  let c32_i32_1089 : BitVec 32 := 32#32
  let v1153 : BitVec 32 := Scalar.remsi v1152 c32_i32_1089
  let c1_i32_1098 : BitVec 32 := 1#32
  let v1156 : BitVec 32 := Scalar.muli v1153 c1_i32_1098
  let v1157 : BitVec 32 := Scalar.addi c0_i32_1099 v1156
  v1157.toNat
def k0_dev86 (d0 : Dev nD) : Nat :=
  let c0_i32_1114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1103 : BitVec 32 := 24#32
  let v1165 : BitVec 32 := Scalar.addi v2 c24_i32_1103
  let c32_i32_1104 : BitVec 32 := 32#32
  let v1166 : BitVec 32 := Scalar.remsi v1165 c32_i32_1104
  let c1_i32_1113 : BitVec 32 := 1#32
  let v1169 : BitVec 32 := Scalar.muli v1166 c1_i32_1113
  let v1170 : BitVec 32 := Scalar.addi c0_i32_1114 v1169
  v1170.toNat
def k0_dev87 (d0 : Dev nD) : Nat :=
  let c0_i32_1129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1118 : BitVec 32 := 25#32
  let v1178 : BitVec 32 := Scalar.addi v2 c25_i32_1118
  let c32_i32_1119 : BitVec 32 := 32#32
  let v1179 : BitVec 32 := Scalar.remsi v1178 c32_i32_1119
  let c1_i32_1128 : BitVec 32 := 1#32
  let v1182 : BitVec 32 := Scalar.muli v1179 c1_i32_1128
  let v1183 : BitVec 32 := Scalar.addi c0_i32_1129 v1182
  v1183.toNat
def k0_dev88 (d0 : Dev nD) : Nat :=
  let c0_i32_1144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1133 : BitVec 32 := 26#32
  let v1191 : BitVec 32 := Scalar.addi v2 c26_i32_1133
  let c32_i32_1134 : BitVec 32 := 32#32
  let v1192 : BitVec 32 := Scalar.remsi v1191 c32_i32_1134
  let c1_i32_1143 : BitVec 32 := 1#32
  let v1195 : BitVec 32 := Scalar.muli v1192 c1_i32_1143
  let v1196 : BitVec 32 := Scalar.addi c0_i32_1144 v1195
  v1196.toNat
def k0_dev89 (d0 : Dev nD) : Nat :=
  let c0_i32_1159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1148 : BitVec 32 := 27#32
  let v1204 : BitVec 32 := Scalar.addi v2 c27_i32_1148
  let c32_i32_1149 : BitVec 32 := 32#32
  let v1205 : BitVec 32 := Scalar.remsi v1204 c32_i32_1149
  let c1_i32_1158 : BitVec 32 := 1#32
  let v1208 : BitVec 32 := Scalar.muli v1205 c1_i32_1158
  let v1209 : BitVec 32 := Scalar.addi c0_i32_1159 v1208
  v1209.toNat
def k0_dev90 (d0 : Dev nD) : Nat :=
  let c0_i32_1174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1163 : BitVec 32 := 28#32
  let v1217 : BitVec 32 := Scalar.addi v2 c28_i32_1163
  let c32_i32_1164 : BitVec 32 := 32#32
  let v1218 : BitVec 32 := Scalar.remsi v1217 c32_i32_1164
  let c1_i32_1173 : BitVec 32 := 1#32
  let v1221 : BitVec 32 := Scalar.muli v1218 c1_i32_1173
  let v1222 : BitVec 32 := Scalar.addi c0_i32_1174 v1221
  v1222.toNat
def k0_dev91 (d0 : Dev nD) : Nat :=
  let c0_i32_1189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1178 : BitVec 32 := 29#32
  let v1230 : BitVec 32 := Scalar.addi v2 c29_i32_1178
  let c32_i32_1179 : BitVec 32 := 32#32
  let v1231 : BitVec 32 := Scalar.remsi v1230 c32_i32_1179
  let c1_i32_1188 : BitVec 32 := 1#32
  let v1234 : BitVec 32 := Scalar.muli v1231 c1_i32_1188
  let v1235 : BitVec 32 := Scalar.addi c0_i32_1189 v1234
  v1235.toNat
def k0_dev92 (d0 : Dev nD) : Nat :=
  let c0_i32_1204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1193 : BitVec 32 := 30#32
  let v1243 : BitVec 32 := Scalar.addi v2 c30_i32_1193
  let c32_i32_1194 : BitVec 32 := 32#32
  let v1244 : BitVec 32 := Scalar.remsi v1243 c32_i32_1194
  let c1_i32_1203 : BitVec 32 := 1#32
  let v1247 : BitVec 32 := Scalar.muli v1244 c1_i32_1203
  let v1248 : BitVec 32 := Scalar.addi c0_i32_1204 v1247
  v1248.toNat
def k0_dev93 (d0 : Dev nD) : Nat :=
  let c0_i32_1219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1208 : BitVec 32 := 31#32
  let v1256 : BitVec 32 := Scalar.addi v2 c31_i32_1208
  let c32_i32_1209 : BitVec 32 := 32#32
  let v1257 : BitVec 32 := Scalar.remsi v1256 c32_i32_1209
  let c1_i32_1218 : BitVec 32 := 1#32
  let v1260 : BitVec 32 := Scalar.muli v1257 c1_i32_1218
  let v1261 : BitVec 32 := Scalar.addi c0_i32_1219 v1260
  v1261.toNat
def k0_off2 (d0 : Dev nD) (c0_i32_1875 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1874 : BitVec 32 := 8#32
  let v1641 : BitVec 32 := Scalar.muli v2 c8_i32_1874
  let v1642 : BitVec 32 := Scalar.addi c0_i32_1875 v1641
  let v1643 : Index := Scalar.indexCast v1642
  let c0_1876 : Index := 0#32
  ![v1643.toNat, 0]
def k0_off3 (d0 : Dev nD) (c0_i32_1883 : BitVec 32) : Fin 3 → Nat :=
  let c0_1884 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1882 : BitVec 32 := 8#32
  let v1683 : BitVec 32 := Scalar.muli v2 c8_i32_1882
  let v1684 : BitVec 32 := Scalar.addi c0_i32_1883 v1683
  let v1686 : Index := Scalar.indexCast v1684
  let c0_1885 : Index := 0#32
  ![0, v1686.toNat, 0]
def k0_off4 (d0 : Dev nD) (c0_i32_1883 : BitVec 32) : Fin 3 → Nat :=
  let c0_i32_1889 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1882 : BitVec 32 := 8#32
  let v1683 : BitVec 32 := Scalar.muli v2 c8_i32_1882
  let v1684 : BitVec 32 := Scalar.addi c0_i32_1883 v1683
  let c0_i32_1896 : BitVec 32 := 0#32
  ![0, v1684.toNat, 0]
def k0_dev94 (d0 : Dev nD) : Nat :=
  let c0_i32_1895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1886 : BitVec 32 := 1#32
  let v1690 : BitVec 32 := Scalar.addi v2 c1_i32_1886
  let c32_i32_1887 : BitVec 32 := 32#32
  let v1691 : BitVec 32 := Scalar.remsi v1690 c32_i32_1887
  let c1_i32_1894 : BitVec 32 := 1#32
  let v1692 : BitVec 32 := Scalar.muli v1691 c1_i32_1894
  let v1693 : BitVec 32 := Scalar.addi c0_i32_1895 v1692
  v1693.toNat
def k0_dev95 (d0 : Dev nD) : Nat :=
  let c0_i32_1907 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1898 : BitVec 32 := 2#32
  let v1702 : BitVec 32 := Scalar.addi v2 c2_i32_1898
  let c32_i32_1899 : BitVec 32 := 32#32
  let v1703 : BitVec 32 := Scalar.remsi v1702 c32_i32_1899
  let c1_i32_1906 : BitVec 32 := 1#32
  let v1704 : BitVec 32 := Scalar.muli v1703 c1_i32_1906
  let v1705 : BitVec 32 := Scalar.addi c0_i32_1907 v1704
  v1705.toNat
def k0_dev96 (d0 : Dev nD) : Nat :=
  let c0_i32_1919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1910 : BitVec 32 := 3#32
  let v1714 : BitVec 32 := Scalar.addi v2 c3_i32_1910
  let c32_i32_1911 : BitVec 32 := 32#32
  let v1715 : BitVec 32 := Scalar.remsi v1714 c32_i32_1911
  let c1_i32_1918 : BitVec 32 := 1#32
  let v1716 : BitVec 32 := Scalar.muli v1715 c1_i32_1918
  let v1717 : BitVec 32 := Scalar.addi c0_i32_1919 v1716
  v1717.toNat
def k0_dev97 (d0 : Dev nD) : Nat :=
  let c0_i32_1931 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1922 : BitVec 32 := 4#32
  let v1726 : BitVec 32 := Scalar.addi v2 c4_i32_1922
  let c32_i32_1923 : BitVec 32 := 32#32
  let v1727 : BitVec 32 := Scalar.remsi v1726 c32_i32_1923
  let c1_i32_1930 : BitVec 32 := 1#32
  let v1728 : BitVec 32 := Scalar.muli v1727 c1_i32_1930
  let v1729 : BitVec 32 := Scalar.addi c0_i32_1931 v1728
  v1729.toNat
def k0_dev98 (d0 : Dev nD) : Nat :=
  let c0_i32_1943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1934 : BitVec 32 := 5#32
  let v1738 : BitVec 32 := Scalar.addi v2 c5_i32_1934
  let c32_i32_1935 : BitVec 32 := 32#32
  let v1739 : BitVec 32 := Scalar.remsi v1738 c32_i32_1935
  let c1_i32_1942 : BitVec 32 := 1#32
  let v1740 : BitVec 32 := Scalar.muli v1739 c1_i32_1942
  let v1741 : BitVec 32 := Scalar.addi c0_i32_1943 v1740
  v1741.toNat
def k0_dev99 (d0 : Dev nD) : Nat :=
  let c0_i32_1955 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1946 : BitVec 32 := 6#32
  let v1750 : BitVec 32 := Scalar.addi v2 c6_i32_1946
  let c32_i32_1947 : BitVec 32 := 32#32
  let v1751 : BitVec 32 := Scalar.remsi v1750 c32_i32_1947
  let c1_i32_1954 : BitVec 32 := 1#32
  let v1752 : BitVec 32 := Scalar.muli v1751 c1_i32_1954
  let v1753 : BitVec 32 := Scalar.addi c0_i32_1955 v1752
  v1753.toNat
def k0_dev100 (d0 : Dev nD) : Nat :=
  let c0_i32_1967 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1958 : BitVec 32 := 7#32
  let v1762 : BitVec 32 := Scalar.addi v2 c7_i32_1958
  let c32_i32_1959 : BitVec 32 := 32#32
  let v1763 : BitVec 32 := Scalar.remsi v1762 c32_i32_1959
  let c1_i32_1966 : BitVec 32 := 1#32
  let v1764 : BitVec 32 := Scalar.muli v1763 c1_i32_1966
  let v1765 : BitVec 32 := Scalar.addi c0_i32_1967 v1764
  v1765.toNat
def k0_dev101 (d0 : Dev nD) : Nat :=
  let c0_i32_1979 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1970 : BitVec 32 := 8#32
  let v1774 : BitVec 32 := Scalar.addi v2 c8_i32_1970
  let c32_i32_1971 : BitVec 32 := 32#32
  let v1775 : BitVec 32 := Scalar.remsi v1774 c32_i32_1971
  let c1_i32_1978 : BitVec 32 := 1#32
  let v1776 : BitVec 32 := Scalar.muli v1775 c1_i32_1978
  let v1777 : BitVec 32 := Scalar.addi c0_i32_1979 v1776
  v1777.toNat
def k0_dev102 (d0 : Dev nD) : Nat :=
  let c0_i32_1991 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1982 : BitVec 32 := 9#32
  let v1786 : BitVec 32 := Scalar.addi v2 c9_i32_1982
  let c32_i32_1983 : BitVec 32 := 32#32
  let v1787 : BitVec 32 := Scalar.remsi v1786 c32_i32_1983
  let c1_i32_1990 : BitVec 32 := 1#32
  let v1788 : BitVec 32 := Scalar.muli v1787 c1_i32_1990
  let v1789 : BitVec 32 := Scalar.addi c0_i32_1991 v1788
  v1789.toNat
def k0_dev103 (d0 : Dev nD) : Nat :=
  let c0_i32_2003 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1994 : BitVec 32 := 10#32
  let v1798 : BitVec 32 := Scalar.addi v2 c10_i32_1994
  let c32_i32_1995 : BitVec 32 := 32#32
  let v1799 : BitVec 32 := Scalar.remsi v1798 c32_i32_1995
  let c1_i32_2002 : BitVec 32 := 1#32
  let v1800 : BitVec 32 := Scalar.muli v1799 c1_i32_2002
  let v1801 : BitVec 32 := Scalar.addi c0_i32_2003 v1800
  v1801.toNat
def k0_dev104 (d0 : Dev nD) : Nat :=
  let c0_i32_2015 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2006 : BitVec 32 := 11#32
  let v1810 : BitVec 32 := Scalar.addi v2 c11_i32_2006
  let c32_i32_2007 : BitVec 32 := 32#32
  let v1811 : BitVec 32 := Scalar.remsi v1810 c32_i32_2007
  let c1_i32_2014 : BitVec 32 := 1#32
  let v1812 : BitVec 32 := Scalar.muli v1811 c1_i32_2014
  let v1813 : BitVec 32 := Scalar.addi c0_i32_2015 v1812
  v1813.toNat
def k0_dev105 (d0 : Dev nD) : Nat :=
  let c0_i32_2027 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2018 : BitVec 32 := 12#32
  let v1822 : BitVec 32 := Scalar.addi v2 c12_i32_2018
  let c32_i32_2019 : BitVec 32 := 32#32
  let v1823 : BitVec 32 := Scalar.remsi v1822 c32_i32_2019
  let c1_i32_2026 : BitVec 32 := 1#32
  let v1824 : BitVec 32 := Scalar.muli v1823 c1_i32_2026
  let v1825 : BitVec 32 := Scalar.addi c0_i32_2027 v1824
  v1825.toNat
def k0_dev106 (d0 : Dev nD) : Nat :=
  let c0_i32_2039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2030 : BitVec 32 := 13#32
  let v1834 : BitVec 32 := Scalar.addi v2 c13_i32_2030
  let c32_i32_2031 : BitVec 32 := 32#32
  let v1835 : BitVec 32 := Scalar.remsi v1834 c32_i32_2031
  let c1_i32_2038 : BitVec 32 := 1#32
  let v1836 : BitVec 32 := Scalar.muli v1835 c1_i32_2038
  let v1837 : BitVec 32 := Scalar.addi c0_i32_2039 v1836
  v1837.toNat
def k0_dev107 (d0 : Dev nD) : Nat :=
  let c0_i32_2051 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2042 : BitVec 32 := 14#32
  let v1846 : BitVec 32 := Scalar.addi v2 c14_i32_2042
  let c32_i32_2043 : BitVec 32 := 32#32
  let v1847 : BitVec 32 := Scalar.remsi v1846 c32_i32_2043
  let c1_i32_2050 : BitVec 32 := 1#32
  let v1848 : BitVec 32 := Scalar.muli v1847 c1_i32_2050
  let v1849 : BitVec 32 := Scalar.addi c0_i32_2051 v1848
  v1849.toNat
def k0_dev108 (d0 : Dev nD) : Nat :=
  let c0_i32_2063 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2054 : BitVec 32 := 15#32
  let v1858 : BitVec 32 := Scalar.addi v2 c15_i32_2054
  let c32_i32_2055 : BitVec 32 := 32#32
  let v1859 : BitVec 32 := Scalar.remsi v1858 c32_i32_2055
  let c1_i32_2062 : BitVec 32 := 1#32
  let v1860 : BitVec 32 := Scalar.muli v1859 c1_i32_2062
  let v1861 : BitVec 32 := Scalar.addi c0_i32_2063 v1860
  v1861.toNat
def k0_dev109 (d0 : Dev nD) : Nat :=
  let c0_i32_2075 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2066 : BitVec 32 := 16#32
  let v1870 : BitVec 32 := Scalar.addi v2 c16_i32_2066
  let c32_i32_2067 : BitVec 32 := 32#32
  let v1871 : BitVec 32 := Scalar.remsi v1870 c32_i32_2067
  let c1_i32_2074 : BitVec 32 := 1#32
  let v1872 : BitVec 32 := Scalar.muli v1871 c1_i32_2074
  let v1873 : BitVec 32 := Scalar.addi c0_i32_2075 v1872
  v1873.toNat
def k0_dev110 (d0 : Dev nD) : Nat :=
  let c0_i32_2087 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2078 : BitVec 32 := 17#32
  let v1882 : BitVec 32 := Scalar.addi v2 c17_i32_2078
  let c32_i32_2079 : BitVec 32 := 32#32
  let v1883 : BitVec 32 := Scalar.remsi v1882 c32_i32_2079
  let c1_i32_2086 : BitVec 32 := 1#32
  let v1884 : BitVec 32 := Scalar.muli v1883 c1_i32_2086
  let v1885 : BitVec 32 := Scalar.addi c0_i32_2087 v1884
  v1885.toNat
def k0_dev111 (d0 : Dev nD) : Nat :=
  let c0_i32_2099 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2090 : BitVec 32 := 18#32
  let v1894 : BitVec 32 := Scalar.addi v2 c18_i32_2090
  let c32_i32_2091 : BitVec 32 := 32#32
  let v1895 : BitVec 32 := Scalar.remsi v1894 c32_i32_2091
  let c1_i32_2098 : BitVec 32 := 1#32
  let v1896 : BitVec 32 := Scalar.muli v1895 c1_i32_2098
  let v1897 : BitVec 32 := Scalar.addi c0_i32_2099 v1896
  v1897.toNat
def k0_dev112 (d0 : Dev nD) : Nat :=
  let c0_i32_2111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2102 : BitVec 32 := 19#32
  let v1906 : BitVec 32 := Scalar.addi v2 c19_i32_2102
  let c32_i32_2103 : BitVec 32 := 32#32
  let v1907 : BitVec 32 := Scalar.remsi v1906 c32_i32_2103
  let c1_i32_2110 : BitVec 32 := 1#32
  let v1908 : BitVec 32 := Scalar.muli v1907 c1_i32_2110
  let v1909 : BitVec 32 := Scalar.addi c0_i32_2111 v1908
  v1909.toNat
def k0_dev113 (d0 : Dev nD) : Nat :=
  let c0_i32_2123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2114 : BitVec 32 := 20#32
  let v1918 : BitVec 32 := Scalar.addi v2 c20_i32_2114
  let c32_i32_2115 : BitVec 32 := 32#32
  let v1919 : BitVec 32 := Scalar.remsi v1918 c32_i32_2115
  let c1_i32_2122 : BitVec 32 := 1#32
  let v1920 : BitVec 32 := Scalar.muli v1919 c1_i32_2122
  let v1921 : BitVec 32 := Scalar.addi c0_i32_2123 v1920
  v1921.toNat
def k0_dev114 (d0 : Dev nD) : Nat :=
  let c0_i32_2135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2126 : BitVec 32 := 21#32
  let v1930 : BitVec 32 := Scalar.addi v2 c21_i32_2126
  let c32_i32_2127 : BitVec 32 := 32#32
  let v1931 : BitVec 32 := Scalar.remsi v1930 c32_i32_2127
  let c1_i32_2134 : BitVec 32 := 1#32
  let v1932 : BitVec 32 := Scalar.muli v1931 c1_i32_2134
  let v1933 : BitVec 32 := Scalar.addi c0_i32_2135 v1932
  v1933.toNat
def k0_dev115 (d0 : Dev nD) : Nat :=
  let c0_i32_2147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2138 : BitVec 32 := 22#32
  let v1942 : BitVec 32 := Scalar.addi v2 c22_i32_2138
  let c32_i32_2139 : BitVec 32 := 32#32
  let v1943 : BitVec 32 := Scalar.remsi v1942 c32_i32_2139
  let c1_i32_2146 : BitVec 32 := 1#32
  let v1944 : BitVec 32 := Scalar.muli v1943 c1_i32_2146
  let v1945 : BitVec 32 := Scalar.addi c0_i32_2147 v1944
  v1945.toNat
def k0_dev116 (d0 : Dev nD) : Nat :=
  let c0_i32_2159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2150 : BitVec 32 := 23#32
  let v1954 : BitVec 32 := Scalar.addi v2 c23_i32_2150
  let c32_i32_2151 : BitVec 32 := 32#32
  let v1955 : BitVec 32 := Scalar.remsi v1954 c32_i32_2151
  let c1_i32_2158 : BitVec 32 := 1#32
  let v1956 : BitVec 32 := Scalar.muli v1955 c1_i32_2158
  let v1957 : BitVec 32 := Scalar.addi c0_i32_2159 v1956
  v1957.toNat
def k0_dev117 (d0 : Dev nD) : Nat :=
  let c0_i32_2171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2162 : BitVec 32 := 24#32
  let v1966 : BitVec 32 := Scalar.addi v2 c24_i32_2162
  let c32_i32_2163 : BitVec 32 := 32#32
  let v1967 : BitVec 32 := Scalar.remsi v1966 c32_i32_2163
  let c1_i32_2170 : BitVec 32 := 1#32
  let v1968 : BitVec 32 := Scalar.muli v1967 c1_i32_2170
  let v1969 : BitVec 32 := Scalar.addi c0_i32_2171 v1968
  v1969.toNat
def k0_dev118 (d0 : Dev nD) : Nat :=
  let c0_i32_2183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2174 : BitVec 32 := 25#32
  let v1978 : BitVec 32 := Scalar.addi v2 c25_i32_2174
  let c32_i32_2175 : BitVec 32 := 32#32
  let v1979 : BitVec 32 := Scalar.remsi v1978 c32_i32_2175
  let c1_i32_2182 : BitVec 32 := 1#32
  let v1980 : BitVec 32 := Scalar.muli v1979 c1_i32_2182
  let v1981 : BitVec 32 := Scalar.addi c0_i32_2183 v1980
  v1981.toNat
def k0_dev119 (d0 : Dev nD) : Nat :=
  let c0_i32_2195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2186 : BitVec 32 := 26#32
  let v1990 : BitVec 32 := Scalar.addi v2 c26_i32_2186
  let c32_i32_2187 : BitVec 32 := 32#32
  let v1991 : BitVec 32 := Scalar.remsi v1990 c32_i32_2187
  let c1_i32_2194 : BitVec 32 := 1#32
  let v1992 : BitVec 32 := Scalar.muli v1991 c1_i32_2194
  let v1993 : BitVec 32 := Scalar.addi c0_i32_2195 v1992
  v1993.toNat
def k0_dev120 (d0 : Dev nD) : Nat :=
  let c0_i32_2207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2198 : BitVec 32 := 27#32
  let v2002 : BitVec 32 := Scalar.addi v2 c27_i32_2198
  let c32_i32_2199 : BitVec 32 := 32#32
  let v2003 : BitVec 32 := Scalar.remsi v2002 c32_i32_2199
  let c1_i32_2206 : BitVec 32 := 1#32
  let v2004 : BitVec 32 := Scalar.muli v2003 c1_i32_2206
  let v2005 : BitVec 32 := Scalar.addi c0_i32_2207 v2004
  v2005.toNat
def k0_dev121 (d0 : Dev nD) : Nat :=
  let c0_i32_2219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2210 : BitVec 32 := 28#32
  let v2014 : BitVec 32 := Scalar.addi v2 c28_i32_2210
  let c32_i32_2211 : BitVec 32 := 32#32
  let v2015 : BitVec 32 := Scalar.remsi v2014 c32_i32_2211
  let c1_i32_2218 : BitVec 32 := 1#32
  let v2016 : BitVec 32 := Scalar.muli v2015 c1_i32_2218
  let v2017 : BitVec 32 := Scalar.addi c0_i32_2219 v2016
  v2017.toNat
def k0_dev122 (d0 : Dev nD) : Nat :=
  let c0_i32_2231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2222 : BitVec 32 := 29#32
  let v2026 : BitVec 32 := Scalar.addi v2 c29_i32_2222
  let c32_i32_2223 : BitVec 32 := 32#32
  let v2027 : BitVec 32 := Scalar.remsi v2026 c32_i32_2223
  let c1_i32_2230 : BitVec 32 := 1#32
  let v2028 : BitVec 32 := Scalar.muli v2027 c1_i32_2230
  let v2029 : BitVec 32 := Scalar.addi c0_i32_2231 v2028
  v2029.toNat
def k0_dev123 (d0 : Dev nD) : Nat :=
  let c0_i32_2243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2234 : BitVec 32 := 30#32
  let v2038 : BitVec 32 := Scalar.addi v2 c30_i32_2234
  let c32_i32_2235 : BitVec 32 := 32#32
  let v2039 : BitVec 32 := Scalar.remsi v2038 c32_i32_2235
  let c1_i32_2242 : BitVec 32 := 1#32
  let v2040 : BitVec 32 := Scalar.muli v2039 c1_i32_2242
  let v2041 : BitVec 32 := Scalar.addi c0_i32_2243 v2040
  v2041.toNat
def k0_dev124 (d0 : Dev nD) : Nat :=
  let c0_i32_2255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2246 : BitVec 32 := 31#32
  let v2050 : BitVec 32 := Scalar.addi v2 c31_i32_2246
  let c32_i32_2247 : BitVec 32 := 32#32
  let v2051 : BitVec 32 := Scalar.remsi v2050 c32_i32_2247
  let c1_i32_2254 : BitVec 32 := 1#32
  let v2052 : BitVec 32 := Scalar.muli v2051 c1_i32_2254
  let v2053 : BitVec 32 := Scalar.addi c0_i32_2255 v2052
  v2053.toNat
def k0_dev125 (d0 : Dev nD) : Nat :=
  let c0_i32_2392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2382 : BitVec 32 := 1#32
  let v2268 : BitVec 32 := Scalar.addi v2 c1_i32_2382
  let c32_i32_2383 : BitVec 32 := 32#32
  let v2269 : BitVec 32 := Scalar.remsi v2268 c32_i32_2383
  let c1_i32_2391 : BitVec 32 := 1#32
  let v2272 : BitVec 32 := Scalar.muli v2269 c1_i32_2391
  let v2273 : BitVec 32 := Scalar.addi c0_i32_2392 v2272
  v2273.toNat
def k0_dev126 (d0 : Dev nD) : Nat :=
  let c0_i32_2407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2396 : BitVec 32 := 2#32
  let v2281 : BitVec 32 := Scalar.addi v2 c2_i32_2396
  let c32_i32_2397 : BitVec 32 := 32#32
  let v2282 : BitVec 32 := Scalar.remsi v2281 c32_i32_2397
  let c1_i32_2406 : BitVec 32 := 1#32
  let v2285 : BitVec 32 := Scalar.muli v2282 c1_i32_2406
  let v2286 : BitVec 32 := Scalar.addi c0_i32_2407 v2285
  v2286.toNat
def k0_dev127 (d0 : Dev nD) : Nat :=
  let c0_i32_2422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2411 : BitVec 32 := 3#32
  let v2294 : BitVec 32 := Scalar.addi v2 c3_i32_2411
  let c32_i32_2412 : BitVec 32 := 32#32
  let v2295 : BitVec 32 := Scalar.remsi v2294 c32_i32_2412
  let c1_i32_2421 : BitVec 32 := 1#32
  let v2298 : BitVec 32 := Scalar.muli v2295 c1_i32_2421
  let v2299 : BitVec 32 := Scalar.addi c0_i32_2422 v2298
  v2299.toNat
def k0_dev128 (d0 : Dev nD) : Nat :=
  let c0_i32_2437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2426 : BitVec 32 := 4#32
  let v2307 : BitVec 32 := Scalar.addi v2 c4_i32_2426
  let c32_i32_2427 : BitVec 32 := 32#32
  let v2308 : BitVec 32 := Scalar.remsi v2307 c32_i32_2427
  let c1_i32_2436 : BitVec 32 := 1#32
  let v2311 : BitVec 32 := Scalar.muli v2308 c1_i32_2436
  let v2312 : BitVec 32 := Scalar.addi c0_i32_2437 v2311
  v2312.toNat
def k0_dev129 (d0 : Dev nD) : Nat :=
  let c0_i32_2452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2441 : BitVec 32 := 5#32
  let v2320 : BitVec 32 := Scalar.addi v2 c5_i32_2441
  let c32_i32_2442 : BitVec 32 := 32#32
  let v2321 : BitVec 32 := Scalar.remsi v2320 c32_i32_2442
  let c1_i32_2451 : BitVec 32 := 1#32
  let v2324 : BitVec 32 := Scalar.muli v2321 c1_i32_2451
  let v2325 : BitVec 32 := Scalar.addi c0_i32_2452 v2324
  v2325.toNat
def k0_dev130 (d0 : Dev nD) : Nat :=
  let c0_i32_2467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2456 : BitVec 32 := 6#32
  let v2333 : BitVec 32 := Scalar.addi v2 c6_i32_2456
  let c32_i32_2457 : BitVec 32 := 32#32
  let v2334 : BitVec 32 := Scalar.remsi v2333 c32_i32_2457
  let c1_i32_2466 : BitVec 32 := 1#32
  let v2337 : BitVec 32 := Scalar.muli v2334 c1_i32_2466
  let v2338 : BitVec 32 := Scalar.addi c0_i32_2467 v2337
  v2338.toNat
def k0_dev131 (d0 : Dev nD) : Nat :=
  let c0_i32_2482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2471 : BitVec 32 := 7#32
  let v2346 : BitVec 32 := Scalar.addi v2 c7_i32_2471
  let c32_i32_2472 : BitVec 32 := 32#32
  let v2347 : BitVec 32 := Scalar.remsi v2346 c32_i32_2472
  let c1_i32_2481 : BitVec 32 := 1#32
  let v2350 : BitVec 32 := Scalar.muli v2347 c1_i32_2481
  let v2351 : BitVec 32 := Scalar.addi c0_i32_2482 v2350
  v2351.toNat
def k0_dev132 (d0 : Dev nD) : Nat :=
  let c0_i32_2497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2486 : BitVec 32 := 8#32
  let v2359 : BitVec 32 := Scalar.addi v2 c8_i32_2486
  let c32_i32_2487 : BitVec 32 := 32#32
  let v2360 : BitVec 32 := Scalar.remsi v2359 c32_i32_2487
  let c1_i32_2496 : BitVec 32 := 1#32
  let v2363 : BitVec 32 := Scalar.muli v2360 c1_i32_2496
  let v2364 : BitVec 32 := Scalar.addi c0_i32_2497 v2363
  v2364.toNat
def k0_dev133 (d0 : Dev nD) : Nat :=
  let c0_i32_2512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2501 : BitVec 32 := 9#32
  let v2372 : BitVec 32 := Scalar.addi v2 c9_i32_2501
  let c32_i32_2502 : BitVec 32 := 32#32
  let v2373 : BitVec 32 := Scalar.remsi v2372 c32_i32_2502
  let c1_i32_2511 : BitVec 32 := 1#32
  let v2376 : BitVec 32 := Scalar.muli v2373 c1_i32_2511
  let v2377 : BitVec 32 := Scalar.addi c0_i32_2512 v2376
  v2377.toNat
def k0_dev134 (d0 : Dev nD) : Nat :=
  let c0_i32_2527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2516 : BitVec 32 := 10#32
  let v2385 : BitVec 32 := Scalar.addi v2 c10_i32_2516
  let c32_i32_2517 : BitVec 32 := 32#32
  let v2386 : BitVec 32 := Scalar.remsi v2385 c32_i32_2517
  let c1_i32_2526 : BitVec 32 := 1#32
  let v2389 : BitVec 32 := Scalar.muli v2386 c1_i32_2526
  let v2390 : BitVec 32 := Scalar.addi c0_i32_2527 v2389
  v2390.toNat
def k0_dev135 (d0 : Dev nD) : Nat :=
  let c0_i32_2542 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2531 : BitVec 32 := 11#32
  let v2398 : BitVec 32 := Scalar.addi v2 c11_i32_2531
  let c32_i32_2532 : BitVec 32 := 32#32
  let v2399 : BitVec 32 := Scalar.remsi v2398 c32_i32_2532
  let c1_i32_2541 : BitVec 32 := 1#32
  let v2402 : BitVec 32 := Scalar.muli v2399 c1_i32_2541
  let v2403 : BitVec 32 := Scalar.addi c0_i32_2542 v2402
  v2403.toNat
def k0_dev136 (d0 : Dev nD) : Nat :=
  let c0_i32_2557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2546 : BitVec 32 := 12#32
  let v2411 : BitVec 32 := Scalar.addi v2 c12_i32_2546
  let c32_i32_2547 : BitVec 32 := 32#32
  let v2412 : BitVec 32 := Scalar.remsi v2411 c32_i32_2547
  let c1_i32_2556 : BitVec 32 := 1#32
  let v2415 : BitVec 32 := Scalar.muli v2412 c1_i32_2556
  let v2416 : BitVec 32 := Scalar.addi c0_i32_2557 v2415
  v2416.toNat
def k0_dev137 (d0 : Dev nD) : Nat :=
  let c0_i32_2572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2561 : BitVec 32 := 13#32
  let v2424 : BitVec 32 := Scalar.addi v2 c13_i32_2561
  let c32_i32_2562 : BitVec 32 := 32#32
  let v2425 : BitVec 32 := Scalar.remsi v2424 c32_i32_2562
  let c1_i32_2571 : BitVec 32 := 1#32
  let v2428 : BitVec 32 := Scalar.muli v2425 c1_i32_2571
  let v2429 : BitVec 32 := Scalar.addi c0_i32_2572 v2428
  v2429.toNat
def k0_dev138 (d0 : Dev nD) : Nat :=
  let c0_i32_2587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2576 : BitVec 32 := 14#32
  let v2437 : BitVec 32 := Scalar.addi v2 c14_i32_2576
  let c32_i32_2577 : BitVec 32 := 32#32
  let v2438 : BitVec 32 := Scalar.remsi v2437 c32_i32_2577
  let c1_i32_2586 : BitVec 32 := 1#32
  let v2441 : BitVec 32 := Scalar.muli v2438 c1_i32_2586
  let v2442 : BitVec 32 := Scalar.addi c0_i32_2587 v2441
  v2442.toNat
def k0_dev139 (d0 : Dev nD) : Nat :=
  let c0_i32_2602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2591 : BitVec 32 := 15#32
  let v2450 : BitVec 32 := Scalar.addi v2 c15_i32_2591
  let c32_i32_2592 : BitVec 32 := 32#32
  let v2451 : BitVec 32 := Scalar.remsi v2450 c32_i32_2592
  let c1_i32_2601 : BitVec 32 := 1#32
  let v2454 : BitVec 32 := Scalar.muli v2451 c1_i32_2601
  let v2455 : BitVec 32 := Scalar.addi c0_i32_2602 v2454
  v2455.toNat
def k0_dev140 (d0 : Dev nD) : Nat :=
  let c0_i32_2617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2606 : BitVec 32 := 16#32
  let v2463 : BitVec 32 := Scalar.addi v2 c16_i32_2606
  let c32_i32_2607 : BitVec 32 := 32#32
  let v2464 : BitVec 32 := Scalar.remsi v2463 c32_i32_2607
  let c1_i32_2616 : BitVec 32 := 1#32
  let v2467 : BitVec 32 := Scalar.muli v2464 c1_i32_2616
  let v2468 : BitVec 32 := Scalar.addi c0_i32_2617 v2467
  v2468.toNat
def k0_dev141 (d0 : Dev nD) : Nat :=
  let c0_i32_2632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2621 : BitVec 32 := 17#32
  let v2476 : BitVec 32 := Scalar.addi v2 c17_i32_2621
  let c32_i32_2622 : BitVec 32 := 32#32
  let v2477 : BitVec 32 := Scalar.remsi v2476 c32_i32_2622
  let c1_i32_2631 : BitVec 32 := 1#32
  let v2480 : BitVec 32 := Scalar.muli v2477 c1_i32_2631
  let v2481 : BitVec 32 := Scalar.addi c0_i32_2632 v2480
  v2481.toNat
def k0_dev142 (d0 : Dev nD) : Nat :=
  let c0_i32_2647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2636 : BitVec 32 := 18#32
  let v2489 : BitVec 32 := Scalar.addi v2 c18_i32_2636
  let c32_i32_2637 : BitVec 32 := 32#32
  let v2490 : BitVec 32 := Scalar.remsi v2489 c32_i32_2637
  let c1_i32_2646 : BitVec 32 := 1#32
  let v2493 : BitVec 32 := Scalar.muli v2490 c1_i32_2646
  let v2494 : BitVec 32 := Scalar.addi c0_i32_2647 v2493
  v2494.toNat
def k0_dev143 (d0 : Dev nD) : Nat :=
  let c0_i32_2662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2651 : BitVec 32 := 19#32
  let v2502 : BitVec 32 := Scalar.addi v2 c19_i32_2651
  let c32_i32_2652 : BitVec 32 := 32#32
  let v2503 : BitVec 32 := Scalar.remsi v2502 c32_i32_2652
  let c1_i32_2661 : BitVec 32 := 1#32
  let v2506 : BitVec 32 := Scalar.muli v2503 c1_i32_2661
  let v2507 : BitVec 32 := Scalar.addi c0_i32_2662 v2506
  v2507.toNat
def k0_dev144 (d0 : Dev nD) : Nat :=
  let c0_i32_2677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2666 : BitVec 32 := 20#32
  let v2515 : BitVec 32 := Scalar.addi v2 c20_i32_2666
  let c32_i32_2667 : BitVec 32 := 32#32
  let v2516 : BitVec 32 := Scalar.remsi v2515 c32_i32_2667
  let c1_i32_2676 : BitVec 32 := 1#32
  let v2519 : BitVec 32 := Scalar.muli v2516 c1_i32_2676
  let v2520 : BitVec 32 := Scalar.addi c0_i32_2677 v2519
  v2520.toNat
def k0_dev145 (d0 : Dev nD) : Nat :=
  let c0_i32_2692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2681 : BitVec 32 := 21#32
  let v2528 : BitVec 32 := Scalar.addi v2 c21_i32_2681
  let c32_i32_2682 : BitVec 32 := 32#32
  let v2529 : BitVec 32 := Scalar.remsi v2528 c32_i32_2682
  let c1_i32_2691 : BitVec 32 := 1#32
  let v2532 : BitVec 32 := Scalar.muli v2529 c1_i32_2691
  let v2533 : BitVec 32 := Scalar.addi c0_i32_2692 v2532
  v2533.toNat
def k0_dev146 (d0 : Dev nD) : Nat :=
  let c0_i32_2707 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2696 : BitVec 32 := 22#32
  let v2541 : BitVec 32 := Scalar.addi v2 c22_i32_2696
  let c32_i32_2697 : BitVec 32 := 32#32
  let v2542 : BitVec 32 := Scalar.remsi v2541 c32_i32_2697
  let c1_i32_2706 : BitVec 32 := 1#32
  let v2545 : BitVec 32 := Scalar.muli v2542 c1_i32_2706
  let v2546 : BitVec 32 := Scalar.addi c0_i32_2707 v2545
  v2546.toNat
def k0_dev147 (d0 : Dev nD) : Nat :=
  let c0_i32_2722 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2711 : BitVec 32 := 23#32
  let v2554 : BitVec 32 := Scalar.addi v2 c23_i32_2711
  let c32_i32_2712 : BitVec 32 := 32#32
  let v2555 : BitVec 32 := Scalar.remsi v2554 c32_i32_2712
  let c1_i32_2721 : BitVec 32 := 1#32
  let v2558 : BitVec 32 := Scalar.muli v2555 c1_i32_2721
  let v2559 : BitVec 32 := Scalar.addi c0_i32_2722 v2558
  v2559.toNat
def k0_dev148 (d0 : Dev nD) : Nat :=
  let c0_i32_2737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2726 : BitVec 32 := 24#32
  let v2567 : BitVec 32 := Scalar.addi v2 c24_i32_2726
  let c32_i32_2727 : BitVec 32 := 32#32
  let v2568 : BitVec 32 := Scalar.remsi v2567 c32_i32_2727
  let c1_i32_2736 : BitVec 32 := 1#32
  let v2571 : BitVec 32 := Scalar.muli v2568 c1_i32_2736
  let v2572 : BitVec 32 := Scalar.addi c0_i32_2737 v2571
  v2572.toNat
def k0_dev149 (d0 : Dev nD) : Nat :=
  let c0_i32_2752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2741 : BitVec 32 := 25#32
  let v2580 : BitVec 32 := Scalar.addi v2 c25_i32_2741
  let c32_i32_2742 : BitVec 32 := 32#32
  let v2581 : BitVec 32 := Scalar.remsi v2580 c32_i32_2742
  let c1_i32_2751 : BitVec 32 := 1#32
  let v2584 : BitVec 32 := Scalar.muli v2581 c1_i32_2751
  let v2585 : BitVec 32 := Scalar.addi c0_i32_2752 v2584
  v2585.toNat
def k0_dev150 (d0 : Dev nD) : Nat :=
  let c0_i32_2767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2756 : BitVec 32 := 26#32
  let v2593 : BitVec 32 := Scalar.addi v2 c26_i32_2756
  let c32_i32_2757 : BitVec 32 := 32#32
  let v2594 : BitVec 32 := Scalar.remsi v2593 c32_i32_2757
  let c1_i32_2766 : BitVec 32 := 1#32
  let v2597 : BitVec 32 := Scalar.muli v2594 c1_i32_2766
  let v2598 : BitVec 32 := Scalar.addi c0_i32_2767 v2597
  v2598.toNat
def k0_dev151 (d0 : Dev nD) : Nat :=
  let c0_i32_2782 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2771 : BitVec 32 := 27#32
  let v2606 : BitVec 32 := Scalar.addi v2 c27_i32_2771
  let c32_i32_2772 : BitVec 32 := 32#32
  let v2607 : BitVec 32 := Scalar.remsi v2606 c32_i32_2772
  let c1_i32_2781 : BitVec 32 := 1#32
  let v2610 : BitVec 32 := Scalar.muli v2607 c1_i32_2781
  let v2611 : BitVec 32 := Scalar.addi c0_i32_2782 v2610
  v2611.toNat
def k0_dev152 (d0 : Dev nD) : Nat :=
  let c0_i32_2797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2786 : BitVec 32 := 28#32
  let v2619 : BitVec 32 := Scalar.addi v2 c28_i32_2786
  let c32_i32_2787 : BitVec 32 := 32#32
  let v2620 : BitVec 32 := Scalar.remsi v2619 c32_i32_2787
  let c1_i32_2796 : BitVec 32 := 1#32
  let v2623 : BitVec 32 := Scalar.muli v2620 c1_i32_2796
  let v2624 : BitVec 32 := Scalar.addi c0_i32_2797 v2623
  v2624.toNat
def k0_dev153 (d0 : Dev nD) : Nat :=
  let c0_i32_2812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2801 : BitVec 32 := 29#32
  let v2632 : BitVec 32 := Scalar.addi v2 c29_i32_2801
  let c32_i32_2802 : BitVec 32 := 32#32
  let v2633 : BitVec 32 := Scalar.remsi v2632 c32_i32_2802
  let c1_i32_2811 : BitVec 32 := 1#32
  let v2636 : BitVec 32 := Scalar.muli v2633 c1_i32_2811
  let v2637 : BitVec 32 := Scalar.addi c0_i32_2812 v2636
  v2637.toNat
def k0_dev154 (d0 : Dev nD) : Nat :=
  let c0_i32_2827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2816 : BitVec 32 := 30#32
  let v2645 : BitVec 32 := Scalar.addi v2 c30_i32_2816
  let c32_i32_2817 : BitVec 32 := 32#32
  let v2646 : BitVec 32 := Scalar.remsi v2645 c32_i32_2817
  let c1_i32_2826 : BitVec 32 := 1#32
  let v2649 : BitVec 32 := Scalar.muli v2646 c1_i32_2826
  let v2650 : BitVec 32 := Scalar.addi c0_i32_2827 v2649
  v2650.toNat
def k0_dev155 (d0 : Dev nD) : Nat :=
  let c0_i32_2842 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2831 : BitVec 32 := 31#32
  let v2658 : BitVec 32 := Scalar.addi v2 c31_i32_2831
  let c32_i32_2832 : BitVec 32 := 32#32
  let v2659 : BitVec 32 := Scalar.remsi v2658 c32_i32_2832
  let c1_i32_2841 : BitVec 32 := 1#32
  let v2662 : BitVec 32 := Scalar.muli v2659 c1_i32_2841
  let v2663 : BitVec 32 := Scalar.addi c0_i32_2842 v2662
  v2663.toNat
def k0_dev156 (d0 : Dev nD) : Nat :=
  let c0_i32_3518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3509 : BitVec 32 := 1#32
  let v3092 : BitVec 32 := Scalar.addi v2 c1_i32_3509
  let c32_i32_3510 : BitVec 32 := 32#32
  let v3093 : BitVec 32 := Scalar.remsi v3092 c32_i32_3510
  let c1_i32_3517 : BitVec 32 := 1#32
  let v3094 : BitVec 32 := Scalar.muli v3093 c1_i32_3517
  let v3095 : BitVec 32 := Scalar.addi c0_i32_3518 v3094
  v3095.toNat
def k0_dev157 (d0 : Dev nD) : Nat :=
  let c0_i32_3530 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3521 : BitVec 32 := 2#32
  let v3104 : BitVec 32 := Scalar.addi v2 c2_i32_3521
  let c32_i32_3522 : BitVec 32 := 32#32
  let v3105 : BitVec 32 := Scalar.remsi v3104 c32_i32_3522
  let c1_i32_3529 : BitVec 32 := 1#32
  let v3106 : BitVec 32 := Scalar.muli v3105 c1_i32_3529
  let v3107 : BitVec 32 := Scalar.addi c0_i32_3530 v3106
  v3107.toNat
def k0_dev158 (d0 : Dev nD) : Nat :=
  let c0_i32_3542 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3533 : BitVec 32 := 3#32
  let v3116 : BitVec 32 := Scalar.addi v2 c3_i32_3533
  let c32_i32_3534 : BitVec 32 := 32#32
  let v3117 : BitVec 32 := Scalar.remsi v3116 c32_i32_3534
  let c1_i32_3541 : BitVec 32 := 1#32
  let v3118 : BitVec 32 := Scalar.muli v3117 c1_i32_3541
  let v3119 : BitVec 32 := Scalar.addi c0_i32_3542 v3118
  v3119.toNat
def k0_dev159 (d0 : Dev nD) : Nat :=
  let c0_i32_3554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3545 : BitVec 32 := 4#32
  let v3128 : BitVec 32 := Scalar.addi v2 c4_i32_3545
  let c32_i32_3546 : BitVec 32 := 32#32
  let v3129 : BitVec 32 := Scalar.remsi v3128 c32_i32_3546
  let c1_i32_3553 : BitVec 32 := 1#32
  let v3130 : BitVec 32 := Scalar.muli v3129 c1_i32_3553
  let v3131 : BitVec 32 := Scalar.addi c0_i32_3554 v3130
  v3131.toNat
def k0_dev160 (d0 : Dev nD) : Nat :=
  let c0_i32_3566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_3557 : BitVec 32 := 5#32
  let v3140 : BitVec 32 := Scalar.addi v2 c5_i32_3557
  let c32_i32_3558 : BitVec 32 := 32#32
  let v3141 : BitVec 32 := Scalar.remsi v3140 c32_i32_3558
  let c1_i32_3565 : BitVec 32 := 1#32
  let v3142 : BitVec 32 := Scalar.muli v3141 c1_i32_3565
  let v3143 : BitVec 32 := Scalar.addi c0_i32_3566 v3142
  v3143.toNat
def k0_dev161 (d0 : Dev nD) : Nat :=
  let c0_i32_3578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_3569 : BitVec 32 := 6#32
  let v3152 : BitVec 32 := Scalar.addi v2 c6_i32_3569
  let c32_i32_3570 : BitVec 32 := 32#32
  let v3153 : BitVec 32 := Scalar.remsi v3152 c32_i32_3570
  let c1_i32_3577 : BitVec 32 := 1#32
  let v3154 : BitVec 32 := Scalar.muli v3153 c1_i32_3577
  let v3155 : BitVec 32 := Scalar.addi c0_i32_3578 v3154
  v3155.toNat
def k0_dev162 (d0 : Dev nD) : Nat :=
  let c0_i32_3590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_3581 : BitVec 32 := 7#32
  let v3164 : BitVec 32 := Scalar.addi v2 c7_i32_3581
  let c32_i32_3582 : BitVec 32 := 32#32
  let v3165 : BitVec 32 := Scalar.remsi v3164 c32_i32_3582
  let c1_i32_3589 : BitVec 32 := 1#32
  let v3166 : BitVec 32 := Scalar.muli v3165 c1_i32_3589
  let v3167 : BitVec 32 := Scalar.addi c0_i32_3590 v3166
  v3167.toNat
def k0_dev163 (d0 : Dev nD) : Nat :=
  let c0_i32_3602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3593 : BitVec 32 := 8#32
  let v3176 : BitVec 32 := Scalar.addi v2 c8_i32_3593
  let c32_i32_3594 : BitVec 32 := 32#32
  let v3177 : BitVec 32 := Scalar.remsi v3176 c32_i32_3594
  let c1_i32_3601 : BitVec 32 := 1#32
  let v3178 : BitVec 32 := Scalar.muli v3177 c1_i32_3601
  let v3179 : BitVec 32 := Scalar.addi c0_i32_3602 v3178
  v3179.toNat
def k0_dev164 (d0 : Dev nD) : Nat :=
  let c0_i32_3614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_3605 : BitVec 32 := 9#32
  let v3188 : BitVec 32 := Scalar.addi v2 c9_i32_3605
  let c32_i32_3606 : BitVec 32 := 32#32
  let v3189 : BitVec 32 := Scalar.remsi v3188 c32_i32_3606
  let c1_i32_3613 : BitVec 32 := 1#32
  let v3190 : BitVec 32 := Scalar.muli v3189 c1_i32_3613
  let v3191 : BitVec 32 := Scalar.addi c0_i32_3614 v3190
  v3191.toNat
def k0_dev165 (d0 : Dev nD) : Nat :=
  let c0_i32_3626 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_3617 : BitVec 32 := 10#32
  let v3200 : BitVec 32 := Scalar.addi v2 c10_i32_3617
  let c32_i32_3618 : BitVec 32 := 32#32
  let v3201 : BitVec 32 := Scalar.remsi v3200 c32_i32_3618
  let c1_i32_3625 : BitVec 32 := 1#32
  let v3202 : BitVec 32 := Scalar.muli v3201 c1_i32_3625
  let v3203 : BitVec 32 := Scalar.addi c0_i32_3626 v3202
  v3203.toNat
def k0_dev166 (d0 : Dev nD) : Nat :=
  let c0_i32_3638 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_3629 : BitVec 32 := 11#32
  let v3212 : BitVec 32 := Scalar.addi v2 c11_i32_3629
  let c32_i32_3630 : BitVec 32 := 32#32
  let v3213 : BitVec 32 := Scalar.remsi v3212 c32_i32_3630
  let c1_i32_3637 : BitVec 32 := 1#32
  let v3214 : BitVec 32 := Scalar.muli v3213 c1_i32_3637
  let v3215 : BitVec 32 := Scalar.addi c0_i32_3638 v3214
  v3215.toNat
def k0_dev167 (d0 : Dev nD) : Nat :=
  let c0_i32_3650 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_3641 : BitVec 32 := 12#32
  let v3224 : BitVec 32 := Scalar.addi v2 c12_i32_3641
  let c32_i32_3642 : BitVec 32 := 32#32
  let v3225 : BitVec 32 := Scalar.remsi v3224 c32_i32_3642
  let c1_i32_3649 : BitVec 32 := 1#32
  let v3226 : BitVec 32 := Scalar.muli v3225 c1_i32_3649
  let v3227 : BitVec 32 := Scalar.addi c0_i32_3650 v3226
  v3227.toNat
def k0_dev168 (d0 : Dev nD) : Nat :=
  let c0_i32_3662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_3653 : BitVec 32 := 13#32
  let v3236 : BitVec 32 := Scalar.addi v2 c13_i32_3653
  let c32_i32_3654 : BitVec 32 := 32#32
  let v3237 : BitVec 32 := Scalar.remsi v3236 c32_i32_3654
  let c1_i32_3661 : BitVec 32 := 1#32
  let v3238 : BitVec 32 := Scalar.muli v3237 c1_i32_3661
  let v3239 : BitVec 32 := Scalar.addi c0_i32_3662 v3238
  v3239.toNat
def k0_dev169 (d0 : Dev nD) : Nat :=
  let c0_i32_3674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_3665 : BitVec 32 := 14#32
  let v3248 : BitVec 32 := Scalar.addi v2 c14_i32_3665
  let c32_i32_3666 : BitVec 32 := 32#32
  let v3249 : BitVec 32 := Scalar.remsi v3248 c32_i32_3666
  let c1_i32_3673 : BitVec 32 := 1#32
  let v3250 : BitVec 32 := Scalar.muli v3249 c1_i32_3673
  let v3251 : BitVec 32 := Scalar.addi c0_i32_3674 v3250
  v3251.toNat
def k0_dev170 (d0 : Dev nD) : Nat :=
  let c0_i32_3686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_3677 : BitVec 32 := 15#32
  let v3260 : BitVec 32 := Scalar.addi v2 c15_i32_3677
  let c32_i32_3678 : BitVec 32 := 32#32
  let v3261 : BitVec 32 := Scalar.remsi v3260 c32_i32_3678
  let c1_i32_3685 : BitVec 32 := 1#32
  let v3262 : BitVec 32 := Scalar.muli v3261 c1_i32_3685
  let v3263 : BitVec 32 := Scalar.addi c0_i32_3686 v3262
  v3263.toNat
def k0_dev171 (d0 : Dev nD) : Nat :=
  let c0_i32_3698 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3689 : BitVec 32 := 16#32
  let v3272 : BitVec 32 := Scalar.addi v2 c16_i32_3689
  let c32_i32_3690 : BitVec 32 := 32#32
  let v3273 : BitVec 32 := Scalar.remsi v3272 c32_i32_3690
  let c1_i32_3697 : BitVec 32 := 1#32
  let v3274 : BitVec 32 := Scalar.muli v3273 c1_i32_3697
  let v3275 : BitVec 32 := Scalar.addi c0_i32_3698 v3274
  v3275.toNat
def k0_dev172 (d0 : Dev nD) : Nat :=
  let c0_i32_3710 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_3701 : BitVec 32 := 17#32
  let v3284 : BitVec 32 := Scalar.addi v2 c17_i32_3701
  let c32_i32_3702 : BitVec 32 := 32#32
  let v3285 : BitVec 32 := Scalar.remsi v3284 c32_i32_3702
  let c1_i32_3709 : BitVec 32 := 1#32
  let v3286 : BitVec 32 := Scalar.muli v3285 c1_i32_3709
  let v3287 : BitVec 32 := Scalar.addi c0_i32_3710 v3286
  v3287.toNat
def k0_dev173 (d0 : Dev nD) : Nat :=
  let c0_i32_3722 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_3713 : BitVec 32 := 18#32
  let v3296 : BitVec 32 := Scalar.addi v2 c18_i32_3713
  let c32_i32_3714 : BitVec 32 := 32#32
  let v3297 : BitVec 32 := Scalar.remsi v3296 c32_i32_3714
  let c1_i32_3721 : BitVec 32 := 1#32
  let v3298 : BitVec 32 := Scalar.muli v3297 c1_i32_3721
  let v3299 : BitVec 32 := Scalar.addi c0_i32_3722 v3298
  v3299.toNat
def k0_dev174 (d0 : Dev nD) : Nat :=
  let c0_i32_3734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_3725 : BitVec 32 := 19#32
  let v3308 : BitVec 32 := Scalar.addi v2 c19_i32_3725
  let c32_i32_3726 : BitVec 32 := 32#32
  let v3309 : BitVec 32 := Scalar.remsi v3308 c32_i32_3726
  let c1_i32_3733 : BitVec 32 := 1#32
  let v3310 : BitVec 32 := Scalar.muli v3309 c1_i32_3733
  let v3311 : BitVec 32 := Scalar.addi c0_i32_3734 v3310
  v3311.toNat
def k0_dev175 (d0 : Dev nD) : Nat :=
  let c0_i32_3746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_3737 : BitVec 32 := 20#32
  let v3320 : BitVec 32 := Scalar.addi v2 c20_i32_3737
  let c32_i32_3738 : BitVec 32 := 32#32
  let v3321 : BitVec 32 := Scalar.remsi v3320 c32_i32_3738
  let c1_i32_3745 : BitVec 32 := 1#32
  let v3322 : BitVec 32 := Scalar.muli v3321 c1_i32_3745
  let v3323 : BitVec 32 := Scalar.addi c0_i32_3746 v3322
  v3323.toNat
def k0_dev176 (d0 : Dev nD) : Nat :=
  let c0_i32_3758 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_3749 : BitVec 32 := 21#32
  let v3332 : BitVec 32 := Scalar.addi v2 c21_i32_3749
  let c32_i32_3750 : BitVec 32 := 32#32
  let v3333 : BitVec 32 := Scalar.remsi v3332 c32_i32_3750
  let c1_i32_3757 : BitVec 32 := 1#32
  let v3334 : BitVec 32 := Scalar.muli v3333 c1_i32_3757
  let v3335 : BitVec 32 := Scalar.addi c0_i32_3758 v3334
  v3335.toNat
def k0_dev177 (d0 : Dev nD) : Nat :=
  let c0_i32_3770 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_3761 : BitVec 32 := 22#32
  let v3344 : BitVec 32 := Scalar.addi v2 c22_i32_3761
  let c32_i32_3762 : BitVec 32 := 32#32
  let v3345 : BitVec 32 := Scalar.remsi v3344 c32_i32_3762
  let c1_i32_3769 : BitVec 32 := 1#32
  let v3346 : BitVec 32 := Scalar.muli v3345 c1_i32_3769
  let v3347 : BitVec 32 := Scalar.addi c0_i32_3770 v3346
  v3347.toNat
def k0_dev178 (d0 : Dev nD) : Nat :=
  let c0_i32_3782 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_3773 : BitVec 32 := 23#32
  let v3356 : BitVec 32 := Scalar.addi v2 c23_i32_3773
  let c32_i32_3774 : BitVec 32 := 32#32
  let v3357 : BitVec 32 := Scalar.remsi v3356 c32_i32_3774
  let c1_i32_3781 : BitVec 32 := 1#32
  let v3358 : BitVec 32 := Scalar.muli v3357 c1_i32_3781
  let v3359 : BitVec 32 := Scalar.addi c0_i32_3782 v3358
  v3359.toNat
def k0_dev179 (d0 : Dev nD) : Nat :=
  let c0_i32_3794 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3785 : BitVec 32 := 24#32
  let v3368 : BitVec 32 := Scalar.addi v2 c24_i32_3785
  let c32_i32_3786 : BitVec 32 := 32#32
  let v3369 : BitVec 32 := Scalar.remsi v3368 c32_i32_3786
  let c1_i32_3793 : BitVec 32 := 1#32
  let v3370 : BitVec 32 := Scalar.muli v3369 c1_i32_3793
  let v3371 : BitVec 32 := Scalar.addi c0_i32_3794 v3370
  v3371.toNat
def k0_dev180 (d0 : Dev nD) : Nat :=
  let c0_i32_3806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3797 : BitVec 32 := 25#32
  let v3380 : BitVec 32 := Scalar.addi v2 c25_i32_3797
  let c32_i32_3798 : BitVec 32 := 32#32
  let v3381 : BitVec 32 := Scalar.remsi v3380 c32_i32_3798
  let c1_i32_3805 : BitVec 32 := 1#32
  let v3382 : BitVec 32 := Scalar.muli v3381 c1_i32_3805
  let v3383 : BitVec 32 := Scalar.addi c0_i32_3806 v3382
  v3383.toNat
def k0_dev181 (d0 : Dev nD) : Nat :=
  let c0_i32_3818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3809 : BitVec 32 := 26#32
  let v3392 : BitVec 32 := Scalar.addi v2 c26_i32_3809
  let c32_i32_3810 : BitVec 32 := 32#32
  let v3393 : BitVec 32 := Scalar.remsi v3392 c32_i32_3810
  let c1_i32_3817 : BitVec 32 := 1#32
  let v3394 : BitVec 32 := Scalar.muli v3393 c1_i32_3817
  let v3395 : BitVec 32 := Scalar.addi c0_i32_3818 v3394
  v3395.toNat
def k0_dev182 (d0 : Dev nD) : Nat :=
  let c0_i32_3830 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3821 : BitVec 32 := 27#32
  let v3404 : BitVec 32 := Scalar.addi v2 c27_i32_3821
  let c32_i32_3822 : BitVec 32 := 32#32
  let v3405 : BitVec 32 := Scalar.remsi v3404 c32_i32_3822
  let c1_i32_3829 : BitVec 32 := 1#32
  let v3406 : BitVec 32 := Scalar.muli v3405 c1_i32_3829
  let v3407 : BitVec 32 := Scalar.addi c0_i32_3830 v3406
  v3407.toNat
def k0_dev183 (d0 : Dev nD) : Nat :=
  let c0_i32_3842 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3833 : BitVec 32 := 28#32
  let v3416 : BitVec 32 := Scalar.addi v2 c28_i32_3833
  let c32_i32_3834 : BitVec 32 := 32#32
  let v3417 : BitVec 32 := Scalar.remsi v3416 c32_i32_3834
  let c1_i32_3841 : BitVec 32 := 1#32
  let v3418 : BitVec 32 := Scalar.muli v3417 c1_i32_3841
  let v3419 : BitVec 32 := Scalar.addi c0_i32_3842 v3418
  v3419.toNat
def k0_dev184 (d0 : Dev nD) : Nat :=
  let c0_i32_3854 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3845 : BitVec 32 := 29#32
  let v3428 : BitVec 32 := Scalar.addi v2 c29_i32_3845
  let c32_i32_3846 : BitVec 32 := 32#32
  let v3429 : BitVec 32 := Scalar.remsi v3428 c32_i32_3846
  let c1_i32_3853 : BitVec 32 := 1#32
  let v3430 : BitVec 32 := Scalar.muli v3429 c1_i32_3853
  let v3431 : BitVec 32 := Scalar.addi c0_i32_3854 v3430
  v3431.toNat
def k0_dev185 (d0 : Dev nD) : Nat :=
  let c0_i32_3866 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3857 : BitVec 32 := 30#32
  let v3440 : BitVec 32 := Scalar.addi v2 c30_i32_3857
  let c32_i32_3858 : BitVec 32 := 32#32
  let v3441 : BitVec 32 := Scalar.remsi v3440 c32_i32_3858
  let c1_i32_3865 : BitVec 32 := 1#32
  let v3442 : BitVec 32 := Scalar.muli v3441 c1_i32_3865
  let v3443 : BitVec 32 := Scalar.addi c0_i32_3866 v3442
  v3443.toNat
def k0_dev186 (d0 : Dev nD) : Nat :=
  let c0_i32_3878 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3869 : BitVec 32 := 31#32
  let v3452 : BitVec 32 := Scalar.addi v2 c31_i32_3869
  let c32_i32_3870 : BitVec 32 := 32#32
  let v3453 : BitVec 32 := Scalar.remsi v3452 c32_i32_3870
  let c1_i32_3877 : BitVec 32 := 1#32
  let v3454 : BitVec 32 := Scalar.muli v3453 c1_i32_3877
  let v3455 : BitVec 32 := Scalar.addi c0_i32_3878 v3454
  v3455.toNat
def k0_dev187 (d0 : Dev nD) : Nat :=
  let c0_i32_4546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4536 : BitVec 32 := 1#32
  let v4030 : BitVec 32 := Scalar.addi v2 c1_i32_4536
  let c32_i32_4537 : BitVec 32 := 32#32
  let v4031 : BitVec 32 := Scalar.remsi v4030 c32_i32_4537
  let c1_i32_4545 : BitVec 32 := 1#32
  let v4034 : BitVec 32 := Scalar.muli v4031 c1_i32_4545
  let v4035 : BitVec 32 := Scalar.addi c0_i32_4546 v4034
  v4035.toNat
def k0_dev188 (d0 : Dev nD) : Nat :=
  let c0_i32_4561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4550 : BitVec 32 := 2#32
  let v4043 : BitVec 32 := Scalar.addi v2 c2_i32_4550
  let c32_i32_4551 : BitVec 32 := 32#32
  let v4044 : BitVec 32 := Scalar.remsi v4043 c32_i32_4551
  let c1_i32_4560 : BitVec 32 := 1#32
  let v4047 : BitVec 32 := Scalar.muli v4044 c1_i32_4560
  let v4048 : BitVec 32 := Scalar.addi c0_i32_4561 v4047
  v4048.toNat
def k0_dev189 (d0 : Dev nD) : Nat :=
  let c0_i32_4576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_4565 : BitVec 32 := 3#32
  let v4056 : BitVec 32 := Scalar.addi v2 c3_i32_4565
  let c32_i32_4566 : BitVec 32 := 32#32
  let v4057 : BitVec 32 := Scalar.remsi v4056 c32_i32_4566
  let c1_i32_4575 : BitVec 32 := 1#32
  let v4060 : BitVec 32 := Scalar.muli v4057 c1_i32_4575
  let v4061 : BitVec 32 := Scalar.addi c0_i32_4576 v4060
  v4061.toNat
def k0_dev190 (d0 : Dev nD) : Nat :=
  let c0_i32_4591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_4580 : BitVec 32 := 4#32
  let v4069 : BitVec 32 := Scalar.addi v2 c4_i32_4580
  let c32_i32_4581 : BitVec 32 := 32#32
  let v4070 : BitVec 32 := Scalar.remsi v4069 c32_i32_4581
  let c1_i32_4590 : BitVec 32 := 1#32
  let v4073 : BitVec 32 := Scalar.muli v4070 c1_i32_4590
  let v4074 : BitVec 32 := Scalar.addi c0_i32_4591 v4073
  v4074.toNat
def k0_dev191 (d0 : Dev nD) : Nat :=
  let c0_i32_4606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_4595 : BitVec 32 := 5#32
  let v4082 : BitVec 32 := Scalar.addi v2 c5_i32_4595
  let c32_i32_4596 : BitVec 32 := 32#32
  let v4083 : BitVec 32 := Scalar.remsi v4082 c32_i32_4596
  let c1_i32_4605 : BitVec 32 := 1#32
  let v4086 : BitVec 32 := Scalar.muli v4083 c1_i32_4605
  let v4087 : BitVec 32 := Scalar.addi c0_i32_4606 v4086
  v4087.toNat
def k0_dev192 (d0 : Dev nD) : Nat :=
  let c0_i32_4621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_4610 : BitVec 32 := 6#32
  let v4095 : BitVec 32 := Scalar.addi v2 c6_i32_4610
  let c32_i32_4611 : BitVec 32 := 32#32
  let v4096 : BitVec 32 := Scalar.remsi v4095 c32_i32_4611
  let c1_i32_4620 : BitVec 32 := 1#32
  let v4099 : BitVec 32 := Scalar.muli v4096 c1_i32_4620
  let v4100 : BitVec 32 := Scalar.addi c0_i32_4621 v4099
  v4100.toNat
def k0_dev193 (d0 : Dev nD) : Nat :=
  let c0_i32_4636 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_4625 : BitVec 32 := 7#32
  let v4108 : BitVec 32 := Scalar.addi v2 c7_i32_4625
  let c32_i32_4626 : BitVec 32 := 32#32
  let v4109 : BitVec 32 := Scalar.remsi v4108 c32_i32_4626
  let c1_i32_4635 : BitVec 32 := 1#32
  let v4112 : BitVec 32 := Scalar.muli v4109 c1_i32_4635
  let v4113 : BitVec 32 := Scalar.addi c0_i32_4636 v4112
  v4113.toNat
def k0_dev194 (d0 : Dev nD) : Nat :=
  let c0_i32_4651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4640 : BitVec 32 := 8#32
  let v4121 : BitVec 32 := Scalar.addi v2 c8_i32_4640
  let c32_i32_4641 : BitVec 32 := 32#32
  let v4122 : BitVec 32 := Scalar.remsi v4121 c32_i32_4641
  let c1_i32_4650 : BitVec 32 := 1#32
  let v4125 : BitVec 32 := Scalar.muli v4122 c1_i32_4650
  let v4126 : BitVec 32 := Scalar.addi c0_i32_4651 v4125
  v4126.toNat
def k0_dev195 (d0 : Dev nD) : Nat :=
  let c0_i32_4666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_4655 : BitVec 32 := 9#32
  let v4134 : BitVec 32 := Scalar.addi v2 c9_i32_4655
  let c32_i32_4656 : BitVec 32 := 32#32
  let v4135 : BitVec 32 := Scalar.remsi v4134 c32_i32_4656
  let c1_i32_4665 : BitVec 32 := 1#32
  let v4138 : BitVec 32 := Scalar.muli v4135 c1_i32_4665
  let v4139 : BitVec 32 := Scalar.addi c0_i32_4666 v4138
  v4139.toNat
def k0_dev196 (d0 : Dev nD) : Nat :=
  let c0_i32_4681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_4670 : BitVec 32 := 10#32
  let v4147 : BitVec 32 := Scalar.addi v2 c10_i32_4670
  let c32_i32_4671 : BitVec 32 := 32#32
  let v4148 : BitVec 32 := Scalar.remsi v4147 c32_i32_4671
  let c1_i32_4680 : BitVec 32 := 1#32
  let v4151 : BitVec 32 := Scalar.muli v4148 c1_i32_4680
  let v4152 : BitVec 32 := Scalar.addi c0_i32_4681 v4151
  v4152.toNat
def k0_dev197 (d0 : Dev nD) : Nat :=
  let c0_i32_4696 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_4685 : BitVec 32 := 11#32
  let v4160 : BitVec 32 := Scalar.addi v2 c11_i32_4685
  let c32_i32_4686 : BitVec 32 := 32#32
  let v4161 : BitVec 32 := Scalar.remsi v4160 c32_i32_4686
  let c1_i32_4695 : BitVec 32 := 1#32
  let v4164 : BitVec 32 := Scalar.muli v4161 c1_i32_4695
  let v4165 : BitVec 32 := Scalar.addi c0_i32_4696 v4164
  v4165.toNat
def k0_dev198 (d0 : Dev nD) : Nat :=
  let c0_i32_4711 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_4700 : BitVec 32 := 12#32
  let v4173 : BitVec 32 := Scalar.addi v2 c12_i32_4700
  let c32_i32_4701 : BitVec 32 := 32#32
  let v4174 : BitVec 32 := Scalar.remsi v4173 c32_i32_4701
  let c1_i32_4710 : BitVec 32 := 1#32
  let v4177 : BitVec 32 := Scalar.muli v4174 c1_i32_4710
  let v4178 : BitVec 32 := Scalar.addi c0_i32_4711 v4177
  v4178.toNat
def k0_dev199 (d0 : Dev nD) : Nat :=
  let c0_i32_4726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_4715 : BitVec 32 := 13#32
  let v4186 : BitVec 32 := Scalar.addi v2 c13_i32_4715
  let c32_i32_4716 : BitVec 32 := 32#32
  let v4187 : BitVec 32 := Scalar.remsi v4186 c32_i32_4716
  let c1_i32_4725 : BitVec 32 := 1#32
  let v4190 : BitVec 32 := Scalar.muli v4187 c1_i32_4725
  let v4191 : BitVec 32 := Scalar.addi c0_i32_4726 v4190
  v4191.toNat
def k0_dev200 (d0 : Dev nD) : Nat :=
  let c0_i32_4741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_4730 : BitVec 32 := 14#32
  let v4199 : BitVec 32 := Scalar.addi v2 c14_i32_4730
  let c32_i32_4731 : BitVec 32 := 32#32
  let v4200 : BitVec 32 := Scalar.remsi v4199 c32_i32_4731
  let c1_i32_4740 : BitVec 32 := 1#32
  let v4203 : BitVec 32 := Scalar.muli v4200 c1_i32_4740
  let v4204 : BitVec 32 := Scalar.addi c0_i32_4741 v4203
  v4204.toNat
def k0_dev201 (d0 : Dev nD) : Nat :=
  let c0_i32_4756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_4745 : BitVec 32 := 15#32
  let v4212 : BitVec 32 := Scalar.addi v2 c15_i32_4745
  let c32_i32_4746 : BitVec 32 := 32#32
  let v4213 : BitVec 32 := Scalar.remsi v4212 c32_i32_4746
  let c1_i32_4755 : BitVec 32 := 1#32
  let v4216 : BitVec 32 := Scalar.muli v4213 c1_i32_4755
  let v4217 : BitVec 32 := Scalar.addi c0_i32_4756 v4216
  v4217.toNat
def k0_dev202 (d0 : Dev nD) : Nat :=
  let c0_i32_4771 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4760 : BitVec 32 := 16#32
  let v4225 : BitVec 32 := Scalar.addi v2 c16_i32_4760
  let c32_i32_4761 : BitVec 32 := 32#32
  let v4226 : BitVec 32 := Scalar.remsi v4225 c32_i32_4761
  let c1_i32_4770 : BitVec 32 := 1#32
  let v4229 : BitVec 32 := Scalar.muli v4226 c1_i32_4770
  let v4230 : BitVec 32 := Scalar.addi c0_i32_4771 v4229
  v4230.toNat
def k0_dev203 (d0 : Dev nD) : Nat :=
  let c0_i32_4786 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_4775 : BitVec 32 := 17#32
  let v4238 : BitVec 32 := Scalar.addi v2 c17_i32_4775
  let c32_i32_4776 : BitVec 32 := 32#32
  let v4239 : BitVec 32 := Scalar.remsi v4238 c32_i32_4776
  let c1_i32_4785 : BitVec 32 := 1#32
  let v4242 : BitVec 32 := Scalar.muli v4239 c1_i32_4785
  let v4243 : BitVec 32 := Scalar.addi c0_i32_4786 v4242
  v4243.toNat
def k0_dev204 (d0 : Dev nD) : Nat :=
  let c0_i32_4801 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_4790 : BitVec 32 := 18#32
  let v4251 : BitVec 32 := Scalar.addi v2 c18_i32_4790
  let c32_i32_4791 : BitVec 32 := 32#32
  let v4252 : BitVec 32 := Scalar.remsi v4251 c32_i32_4791
  let c1_i32_4800 : BitVec 32 := 1#32
  let v4255 : BitVec 32 := Scalar.muli v4252 c1_i32_4800
  let v4256 : BitVec 32 := Scalar.addi c0_i32_4801 v4255
  v4256.toNat
def k0_dev205 (d0 : Dev nD) : Nat :=
  let c0_i32_4816 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_4805 : BitVec 32 := 19#32
  let v4264 : BitVec 32 := Scalar.addi v2 c19_i32_4805
  let c32_i32_4806 : BitVec 32 := 32#32
  let v4265 : BitVec 32 := Scalar.remsi v4264 c32_i32_4806
  let c1_i32_4815 : BitVec 32 := 1#32
  let v4268 : BitVec 32 := Scalar.muli v4265 c1_i32_4815
  let v4269 : BitVec 32 := Scalar.addi c0_i32_4816 v4268
  v4269.toNat
def k0_dev206 (d0 : Dev nD) : Nat :=
  let c0_i32_4831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_4820 : BitVec 32 := 20#32
  let v4277 : BitVec 32 := Scalar.addi v2 c20_i32_4820
  let c32_i32_4821 : BitVec 32 := 32#32
  let v4278 : BitVec 32 := Scalar.remsi v4277 c32_i32_4821
  let c1_i32_4830 : BitVec 32 := 1#32
  let v4281 : BitVec 32 := Scalar.muli v4278 c1_i32_4830
  let v4282 : BitVec 32 := Scalar.addi c0_i32_4831 v4281
  v4282.toNat
def k0_dev207 (d0 : Dev nD) : Nat :=
  let c0_i32_4846 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_4835 : BitVec 32 := 21#32
  let v4290 : BitVec 32 := Scalar.addi v2 c21_i32_4835
  let c32_i32_4836 : BitVec 32 := 32#32
  let v4291 : BitVec 32 := Scalar.remsi v4290 c32_i32_4836
  let c1_i32_4845 : BitVec 32 := 1#32
  let v4294 : BitVec 32 := Scalar.muli v4291 c1_i32_4845
  let v4295 : BitVec 32 := Scalar.addi c0_i32_4846 v4294
  v4295.toNat
def k0_dev208 (d0 : Dev nD) : Nat :=
  let c0_i32_4861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_4850 : BitVec 32 := 22#32
  let v4303 : BitVec 32 := Scalar.addi v2 c22_i32_4850
  let c32_i32_4851 : BitVec 32 := 32#32
  let v4304 : BitVec 32 := Scalar.remsi v4303 c32_i32_4851
  let c1_i32_4860 : BitVec 32 := 1#32
  let v4307 : BitVec 32 := Scalar.muli v4304 c1_i32_4860
  let v4308 : BitVec 32 := Scalar.addi c0_i32_4861 v4307
  v4308.toNat
def k0_dev209 (d0 : Dev nD) : Nat :=
  let c0_i32_4876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_4865 : BitVec 32 := 23#32
  let v4316 : BitVec 32 := Scalar.addi v2 c23_i32_4865
  let c32_i32_4866 : BitVec 32 := 32#32
  let v4317 : BitVec 32 := Scalar.remsi v4316 c32_i32_4866
  let c1_i32_4875 : BitVec 32 := 1#32
  let v4320 : BitVec 32 := Scalar.muli v4317 c1_i32_4875
  let v4321 : BitVec 32 := Scalar.addi c0_i32_4876 v4320
  v4321.toNat
def k0_dev210 (d0 : Dev nD) : Nat :=
  let c0_i32_4891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_4880 : BitVec 32 := 24#32
  let v4329 : BitVec 32 := Scalar.addi v2 c24_i32_4880
  let c32_i32_4881 : BitVec 32 := 32#32
  let v4330 : BitVec 32 := Scalar.remsi v4329 c32_i32_4881
  let c1_i32_4890 : BitVec 32 := 1#32
  let v4333 : BitVec 32 := Scalar.muli v4330 c1_i32_4890
  let v4334 : BitVec 32 := Scalar.addi c0_i32_4891 v4333
  v4334.toNat
def k0_dev211 (d0 : Dev nD) : Nat :=
  let c0_i32_4906 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_4895 : BitVec 32 := 25#32
  let v4342 : BitVec 32 := Scalar.addi v2 c25_i32_4895
  let c32_i32_4896 : BitVec 32 := 32#32
  let v4343 : BitVec 32 := Scalar.remsi v4342 c32_i32_4896
  let c1_i32_4905 : BitVec 32 := 1#32
  let v4346 : BitVec 32 := Scalar.muli v4343 c1_i32_4905
  let v4347 : BitVec 32 := Scalar.addi c0_i32_4906 v4346
  v4347.toNat
def k0_dev212 (d0 : Dev nD) : Nat :=
  let c0_i32_4921 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_4910 : BitVec 32 := 26#32
  let v4355 : BitVec 32 := Scalar.addi v2 c26_i32_4910
  let c32_i32_4911 : BitVec 32 := 32#32
  let v4356 : BitVec 32 := Scalar.remsi v4355 c32_i32_4911
  let c1_i32_4920 : BitVec 32 := 1#32
  let v4359 : BitVec 32 := Scalar.muli v4356 c1_i32_4920
  let v4360 : BitVec 32 := Scalar.addi c0_i32_4921 v4359
  v4360.toNat
def k0_dev213 (d0 : Dev nD) : Nat :=
  let c0_i32_4936 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_4925 : BitVec 32 := 27#32
  let v4368 : BitVec 32 := Scalar.addi v2 c27_i32_4925
  let c32_i32_4926 : BitVec 32 := 32#32
  let v4369 : BitVec 32 := Scalar.remsi v4368 c32_i32_4926
  let c1_i32_4935 : BitVec 32 := 1#32
  let v4372 : BitVec 32 := Scalar.muli v4369 c1_i32_4935
  let v4373 : BitVec 32 := Scalar.addi c0_i32_4936 v4372
  v4373.toNat
def k0_dev214 (d0 : Dev nD) : Nat :=
  let c0_i32_4951 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_4940 : BitVec 32 := 28#32
  let v4381 : BitVec 32 := Scalar.addi v2 c28_i32_4940
  let c32_i32_4941 : BitVec 32 := 32#32
  let v4382 : BitVec 32 := Scalar.remsi v4381 c32_i32_4941
  let c1_i32_4950 : BitVec 32 := 1#32
  let v4385 : BitVec 32 := Scalar.muli v4382 c1_i32_4950
  let v4386 : BitVec 32 := Scalar.addi c0_i32_4951 v4385
  v4386.toNat
def k0_dev215 (d0 : Dev nD) : Nat :=
  let c0_i32_4966 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_4955 : BitVec 32 := 29#32
  let v4394 : BitVec 32 := Scalar.addi v2 c29_i32_4955
  let c32_i32_4956 : BitVec 32 := 32#32
  let v4395 : BitVec 32 := Scalar.remsi v4394 c32_i32_4956
  let c1_i32_4965 : BitVec 32 := 1#32
  let v4398 : BitVec 32 := Scalar.muli v4395 c1_i32_4965
  let v4399 : BitVec 32 := Scalar.addi c0_i32_4966 v4398
  v4399.toNat
def k0_dev216 (d0 : Dev nD) : Nat :=
  let c0_i32_4981 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_4970 : BitVec 32 := 30#32
  let v4407 : BitVec 32 := Scalar.addi v2 c30_i32_4970
  let c32_i32_4971 : BitVec 32 := 32#32
  let v4408 : BitVec 32 := Scalar.remsi v4407 c32_i32_4971
  let c1_i32_4980 : BitVec 32 := 1#32
  let v4411 : BitVec 32 := Scalar.muli v4408 c1_i32_4980
  let v4412 : BitVec 32 := Scalar.addi c0_i32_4981 v4411
  v4412.toNat
def k0_dev217 (d0 : Dev nD) : Nat :=
  let c0_i32_4996 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_4985 : BitVec 32 := 31#32
  let v4420 : BitVec 32 := Scalar.addi v2 c31_i32_4985
  let c32_i32_4986 : BitVec 32 := 32#32
  let v4421 : BitVec 32 := Scalar.remsi v4420 c32_i32_4986
  let c1_i32_4995 : BitVec 32 := 1#32
  let v4424 : BitVec 32 := Scalar.muli v4421 c1_i32_4995
  let v4425 : BitVec 32 := Scalar.addi c0_i32_4996 v4424
  v4425.toNat
def k0_off5 (d0 : Dev nD) (c0_i32_5660 : BitVec 32) : Fin 3 → Nat :=
  let c1_5661 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5659 : BitVec 32 := 8#32
  let v4847 : BitVec 32 := Scalar.muli v2 c8_i32_5659
  let v4848 : BitVec 32 := Scalar.addi c0_i32_5660 v4847
  let v4850 : Index := Scalar.indexCast v4848
  let c0_5662 : Index := 0#32
  ![1, v4850.toNat, 0]
def k0_off6 (d0 : Dev nD) (c0_i32_5660 : BitVec 32) : Fin 3 → Nat :=
  let c1_i32_5666 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5659 : BitVec 32 := 8#32
  let v4847 : BitVec 32 := Scalar.muli v2 c8_i32_5659
  let v4848 : BitVec 32 := Scalar.addi c0_i32_5660 v4847
  let c0_i32_5673 : BitVec 32 := 0#32
  ![1, v4848.toNat, 0]
def k0_dev218 (d0 : Dev nD) : Nat :=
  let c0_i32_5672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5663 : BitVec 32 := 1#32
  let v4854 : BitVec 32 := Scalar.addi v2 c1_i32_5663
  let c32_i32_5664 : BitVec 32 := 32#32
  let v4855 : BitVec 32 := Scalar.remsi v4854 c32_i32_5664
  let c1_i32_5671 : BitVec 32 := 1#32
  let v4856 : BitVec 32 := Scalar.muli v4855 c1_i32_5671
  let v4857 : BitVec 32 := Scalar.addi c0_i32_5672 v4856
  v4857.toNat
def k0_dev219 (d0 : Dev nD) : Nat :=
  let c0_i32_5684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5675 : BitVec 32 := 2#32
  let v4866 : BitVec 32 := Scalar.addi v2 c2_i32_5675
  let c32_i32_5676 : BitVec 32 := 32#32
  let v4867 : BitVec 32 := Scalar.remsi v4866 c32_i32_5676
  let c1_i32_5683 : BitVec 32 := 1#32
  let v4868 : BitVec 32 := Scalar.muli v4867 c1_i32_5683
  let v4869 : BitVec 32 := Scalar.addi c0_i32_5684 v4868
  v4869.toNat
def k0_dev220 (d0 : Dev nD) : Nat :=
  let c0_i32_5696 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_5687 : BitVec 32 := 3#32
  let v4878 : BitVec 32 := Scalar.addi v2 c3_i32_5687
  let c32_i32_5688 : BitVec 32 := 32#32
  let v4879 : BitVec 32 := Scalar.remsi v4878 c32_i32_5688
  let c1_i32_5695 : BitVec 32 := 1#32
  let v4880 : BitVec 32 := Scalar.muli v4879 c1_i32_5695
  let v4881 : BitVec 32 := Scalar.addi c0_i32_5696 v4880
  v4881.toNat
def k0_dev221 (d0 : Dev nD) : Nat :=
  let c0_i32_5708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_5699 : BitVec 32 := 4#32
  let v4890 : BitVec 32 := Scalar.addi v2 c4_i32_5699
  let c32_i32_5700 : BitVec 32 := 32#32
  let v4891 : BitVec 32 := Scalar.remsi v4890 c32_i32_5700
  let c1_i32_5707 : BitVec 32 := 1#32
  let v4892 : BitVec 32 := Scalar.muli v4891 c1_i32_5707
  let v4893 : BitVec 32 := Scalar.addi c0_i32_5708 v4892
  v4893.toNat
def k0_dev222 (d0 : Dev nD) : Nat :=
  let c0_i32_5720 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_5711 : BitVec 32 := 5#32
  let v4902 : BitVec 32 := Scalar.addi v2 c5_i32_5711
  let c32_i32_5712 : BitVec 32 := 32#32
  let v4903 : BitVec 32 := Scalar.remsi v4902 c32_i32_5712
  let c1_i32_5719 : BitVec 32 := 1#32
  let v4904 : BitVec 32 := Scalar.muli v4903 c1_i32_5719
  let v4905 : BitVec 32 := Scalar.addi c0_i32_5720 v4904
  v4905.toNat
def k0_dev223 (d0 : Dev nD) : Nat :=
  let c0_i32_5732 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_5723 : BitVec 32 := 6#32
  let v4914 : BitVec 32 := Scalar.addi v2 c6_i32_5723
  let c32_i32_5724 : BitVec 32 := 32#32
  let v4915 : BitVec 32 := Scalar.remsi v4914 c32_i32_5724
  let c1_i32_5731 : BitVec 32 := 1#32
  let v4916 : BitVec 32 := Scalar.muli v4915 c1_i32_5731
  let v4917 : BitVec 32 := Scalar.addi c0_i32_5732 v4916
  v4917.toNat
def k0_dev224 (d0 : Dev nD) : Nat :=
  let c0_i32_5744 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_5735 : BitVec 32 := 7#32
  let v4926 : BitVec 32 := Scalar.addi v2 c7_i32_5735
  let c32_i32_5736 : BitVec 32 := 32#32
  let v4927 : BitVec 32 := Scalar.remsi v4926 c32_i32_5736
  let c1_i32_5743 : BitVec 32 := 1#32
  let v4928 : BitVec 32 := Scalar.muli v4927 c1_i32_5743
  let v4929 : BitVec 32 := Scalar.addi c0_i32_5744 v4928
  v4929.toNat
def k0_dev225 (d0 : Dev nD) : Nat :=
  let c0_i32_5756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5747 : BitVec 32 := 8#32
  let v4938 : BitVec 32 := Scalar.addi v2 c8_i32_5747
  let c32_i32_5748 : BitVec 32 := 32#32
  let v4939 : BitVec 32 := Scalar.remsi v4938 c32_i32_5748
  let c1_i32_5755 : BitVec 32 := 1#32
  let v4940 : BitVec 32 := Scalar.muli v4939 c1_i32_5755
  let v4941 : BitVec 32 := Scalar.addi c0_i32_5756 v4940
  v4941.toNat
def k0_dev226 (d0 : Dev nD) : Nat :=
  let c0_i32_5768 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_5759 : BitVec 32 := 9#32
  let v4950 : BitVec 32 := Scalar.addi v2 c9_i32_5759
  let c32_i32_5760 : BitVec 32 := 32#32
  let v4951 : BitVec 32 := Scalar.remsi v4950 c32_i32_5760
  let c1_i32_5767 : BitVec 32 := 1#32
  let v4952 : BitVec 32 := Scalar.muli v4951 c1_i32_5767
  let v4953 : BitVec 32 := Scalar.addi c0_i32_5768 v4952
  v4953.toNat
def k0_dev227 (d0 : Dev nD) : Nat :=
  let c0_i32_5780 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_5771 : BitVec 32 := 10#32
  let v4962 : BitVec 32 := Scalar.addi v2 c10_i32_5771
  let c32_i32_5772 : BitVec 32 := 32#32
  let v4963 : BitVec 32 := Scalar.remsi v4962 c32_i32_5772
  let c1_i32_5779 : BitVec 32 := 1#32
  let v4964 : BitVec 32 := Scalar.muli v4963 c1_i32_5779
  let v4965 : BitVec 32 := Scalar.addi c0_i32_5780 v4964
  v4965.toNat
def k0_dev228 (d0 : Dev nD) : Nat :=
  let c0_i32_5792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_5783 : BitVec 32 := 11#32
  let v4974 : BitVec 32 := Scalar.addi v2 c11_i32_5783
  let c32_i32_5784 : BitVec 32 := 32#32
  let v4975 : BitVec 32 := Scalar.remsi v4974 c32_i32_5784
  let c1_i32_5791 : BitVec 32 := 1#32
  let v4976 : BitVec 32 := Scalar.muli v4975 c1_i32_5791
  let v4977 : BitVec 32 := Scalar.addi c0_i32_5792 v4976
  v4977.toNat
def k0_dev229 (d0 : Dev nD) : Nat :=
  let c0_i32_5804 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_5795 : BitVec 32 := 12#32
  let v4986 : BitVec 32 := Scalar.addi v2 c12_i32_5795
  let c32_i32_5796 : BitVec 32 := 32#32
  let v4987 : BitVec 32 := Scalar.remsi v4986 c32_i32_5796
  let c1_i32_5803 : BitVec 32 := 1#32
  let v4988 : BitVec 32 := Scalar.muli v4987 c1_i32_5803
  let v4989 : BitVec 32 := Scalar.addi c0_i32_5804 v4988
  v4989.toNat
def k0_dev230 (d0 : Dev nD) : Nat :=
  let c0_i32_5816 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_5807 : BitVec 32 := 13#32
  let v4998 : BitVec 32 := Scalar.addi v2 c13_i32_5807
  let c32_i32_5808 : BitVec 32 := 32#32
  let v4999 : BitVec 32 := Scalar.remsi v4998 c32_i32_5808
  let c1_i32_5815 : BitVec 32 := 1#32
  let v5000 : BitVec 32 := Scalar.muli v4999 c1_i32_5815
  let v5001 : BitVec 32 := Scalar.addi c0_i32_5816 v5000
  v5001.toNat
def k0_dev231 (d0 : Dev nD) : Nat :=
  let c0_i32_5828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_5819 : BitVec 32 := 14#32
  let v5010 : BitVec 32 := Scalar.addi v2 c14_i32_5819
  let c32_i32_5820 : BitVec 32 := 32#32
  let v5011 : BitVec 32 := Scalar.remsi v5010 c32_i32_5820
  let c1_i32_5827 : BitVec 32 := 1#32
  let v5012 : BitVec 32 := Scalar.muli v5011 c1_i32_5827
  let v5013 : BitVec 32 := Scalar.addi c0_i32_5828 v5012
  v5013.toNat
def k0_dev232 (d0 : Dev nD) : Nat :=
  let c0_i32_5840 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_5831 : BitVec 32 := 15#32
  let v5022 : BitVec 32 := Scalar.addi v2 c15_i32_5831
  let c32_i32_5832 : BitVec 32 := 32#32
  let v5023 : BitVec 32 := Scalar.remsi v5022 c32_i32_5832
  let c1_i32_5839 : BitVec 32 := 1#32
  let v5024 : BitVec 32 := Scalar.muli v5023 c1_i32_5839
  let v5025 : BitVec 32 := Scalar.addi c0_i32_5840 v5024
  v5025.toNat
def k0_dev233 (d0 : Dev nD) : Nat :=
  let c0_i32_5852 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_5843 : BitVec 32 := 16#32
  let v5034 : BitVec 32 := Scalar.addi v2 c16_i32_5843
  let c32_i32_5844 : BitVec 32 := 32#32
  let v5035 : BitVec 32 := Scalar.remsi v5034 c32_i32_5844
  let c1_i32_5851 : BitVec 32 := 1#32
  let v5036 : BitVec 32 := Scalar.muli v5035 c1_i32_5851
  let v5037 : BitVec 32 := Scalar.addi c0_i32_5852 v5036
  v5037.toNat
def k0_dev234 (d0 : Dev nD) : Nat :=
  let c0_i32_5864 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_5855 : BitVec 32 := 17#32
  let v5046 : BitVec 32 := Scalar.addi v2 c17_i32_5855
  let c32_i32_5856 : BitVec 32 := 32#32
  let v5047 : BitVec 32 := Scalar.remsi v5046 c32_i32_5856
  let c1_i32_5863 : BitVec 32 := 1#32
  let v5048 : BitVec 32 := Scalar.muli v5047 c1_i32_5863
  let v5049 : BitVec 32 := Scalar.addi c0_i32_5864 v5048
  v5049.toNat
def k0_dev235 (d0 : Dev nD) : Nat :=
  let c0_i32_5876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_5867 : BitVec 32 := 18#32
  let v5058 : BitVec 32 := Scalar.addi v2 c18_i32_5867
  let c32_i32_5868 : BitVec 32 := 32#32
  let v5059 : BitVec 32 := Scalar.remsi v5058 c32_i32_5868
  let c1_i32_5875 : BitVec 32 := 1#32
  let v5060 : BitVec 32 := Scalar.muli v5059 c1_i32_5875
  let v5061 : BitVec 32 := Scalar.addi c0_i32_5876 v5060
  v5061.toNat
def k0_dev236 (d0 : Dev nD) : Nat :=
  let c0_i32_5888 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_5879 : BitVec 32 := 19#32
  let v5070 : BitVec 32 := Scalar.addi v2 c19_i32_5879
  let c32_i32_5880 : BitVec 32 := 32#32
  let v5071 : BitVec 32 := Scalar.remsi v5070 c32_i32_5880
  let c1_i32_5887 : BitVec 32 := 1#32
  let v5072 : BitVec 32 := Scalar.muli v5071 c1_i32_5887
  let v5073 : BitVec 32 := Scalar.addi c0_i32_5888 v5072
  v5073.toNat
def k0_dev237 (d0 : Dev nD) : Nat :=
  let c0_i32_5900 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_5891 : BitVec 32 := 20#32
  let v5082 : BitVec 32 := Scalar.addi v2 c20_i32_5891
  let c32_i32_5892 : BitVec 32 := 32#32
  let v5083 : BitVec 32 := Scalar.remsi v5082 c32_i32_5892
  let c1_i32_5899 : BitVec 32 := 1#32
  let v5084 : BitVec 32 := Scalar.muli v5083 c1_i32_5899
  let v5085 : BitVec 32 := Scalar.addi c0_i32_5900 v5084
  v5085.toNat
def k0_dev238 (d0 : Dev nD) : Nat :=
  let c0_i32_5912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_5903 : BitVec 32 := 21#32
  let v5094 : BitVec 32 := Scalar.addi v2 c21_i32_5903
  let c32_i32_5904 : BitVec 32 := 32#32
  let v5095 : BitVec 32 := Scalar.remsi v5094 c32_i32_5904
  let c1_i32_5911 : BitVec 32 := 1#32
  let v5096 : BitVec 32 := Scalar.muli v5095 c1_i32_5911
  let v5097 : BitVec 32 := Scalar.addi c0_i32_5912 v5096
  v5097.toNat
def k0_dev239 (d0 : Dev nD) : Nat :=
  let c0_i32_5924 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_5915 : BitVec 32 := 22#32
  let v5106 : BitVec 32 := Scalar.addi v2 c22_i32_5915
  let c32_i32_5916 : BitVec 32 := 32#32
  let v5107 : BitVec 32 := Scalar.remsi v5106 c32_i32_5916
  let c1_i32_5923 : BitVec 32 := 1#32
  let v5108 : BitVec 32 := Scalar.muli v5107 c1_i32_5923
  let v5109 : BitVec 32 := Scalar.addi c0_i32_5924 v5108
  v5109.toNat
def k0_dev240 (d0 : Dev nD) : Nat :=
  let c0_i32_5936 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_5927 : BitVec 32 := 23#32
  let v5118 : BitVec 32 := Scalar.addi v2 c23_i32_5927
  let c32_i32_5928 : BitVec 32 := 32#32
  let v5119 : BitVec 32 := Scalar.remsi v5118 c32_i32_5928
  let c1_i32_5935 : BitVec 32 := 1#32
  let v5120 : BitVec 32 := Scalar.muli v5119 c1_i32_5935
  let v5121 : BitVec 32 := Scalar.addi c0_i32_5936 v5120
  v5121.toNat
def k0_dev241 (d0 : Dev nD) : Nat :=
  let c0_i32_5948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_5939 : BitVec 32 := 24#32
  let v5130 : BitVec 32 := Scalar.addi v2 c24_i32_5939
  let c32_i32_5940 : BitVec 32 := 32#32
  let v5131 : BitVec 32 := Scalar.remsi v5130 c32_i32_5940
  let c1_i32_5947 : BitVec 32 := 1#32
  let v5132 : BitVec 32 := Scalar.muli v5131 c1_i32_5947
  let v5133 : BitVec 32 := Scalar.addi c0_i32_5948 v5132
  v5133.toNat
def k0_dev242 (d0 : Dev nD) : Nat :=
  let c0_i32_5960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_5951 : BitVec 32 := 25#32
  let v5142 : BitVec 32 := Scalar.addi v2 c25_i32_5951
  let c32_i32_5952 : BitVec 32 := 32#32
  let v5143 : BitVec 32 := Scalar.remsi v5142 c32_i32_5952
  let c1_i32_5959 : BitVec 32 := 1#32
  let v5144 : BitVec 32 := Scalar.muli v5143 c1_i32_5959
  let v5145 : BitVec 32 := Scalar.addi c0_i32_5960 v5144
  v5145.toNat
def k0_dev243 (d0 : Dev nD) : Nat :=
  let c0_i32_5972 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_5963 : BitVec 32 := 26#32
  let v5154 : BitVec 32 := Scalar.addi v2 c26_i32_5963
  let c32_i32_5964 : BitVec 32 := 32#32
  let v5155 : BitVec 32 := Scalar.remsi v5154 c32_i32_5964
  let c1_i32_5971 : BitVec 32 := 1#32
  let v5156 : BitVec 32 := Scalar.muli v5155 c1_i32_5971
  let v5157 : BitVec 32 := Scalar.addi c0_i32_5972 v5156
  v5157.toNat
def k0_dev244 (d0 : Dev nD) : Nat :=
  let c0_i32_5984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_5975 : BitVec 32 := 27#32
  let v5166 : BitVec 32 := Scalar.addi v2 c27_i32_5975
  let c32_i32_5976 : BitVec 32 := 32#32
  let v5167 : BitVec 32 := Scalar.remsi v5166 c32_i32_5976
  let c1_i32_5983 : BitVec 32 := 1#32
  let v5168 : BitVec 32 := Scalar.muli v5167 c1_i32_5983
  let v5169 : BitVec 32 := Scalar.addi c0_i32_5984 v5168
  v5169.toNat
def k0_dev245 (d0 : Dev nD) : Nat :=
  let c0_i32_5996 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_5987 : BitVec 32 := 28#32
  let v5178 : BitVec 32 := Scalar.addi v2 c28_i32_5987
  let c32_i32_5988 : BitVec 32 := 32#32
  let v5179 : BitVec 32 := Scalar.remsi v5178 c32_i32_5988
  let c1_i32_5995 : BitVec 32 := 1#32
  let v5180 : BitVec 32 := Scalar.muli v5179 c1_i32_5995
  let v5181 : BitVec 32 := Scalar.addi c0_i32_5996 v5180
  v5181.toNat
def k0_dev246 (d0 : Dev nD) : Nat :=
  let c0_i32_6008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_5999 : BitVec 32 := 29#32
  let v5190 : BitVec 32 := Scalar.addi v2 c29_i32_5999
  let c32_i32_6000 : BitVec 32 := 32#32
  let v5191 : BitVec 32 := Scalar.remsi v5190 c32_i32_6000
  let c1_i32_6007 : BitVec 32 := 1#32
  let v5192 : BitVec 32 := Scalar.muli v5191 c1_i32_6007
  let v5193 : BitVec 32 := Scalar.addi c0_i32_6008 v5192
  v5193.toNat
def k0_dev247 (d0 : Dev nD) : Nat :=
  let c0_i32_6020 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_6011 : BitVec 32 := 30#32
  let v5202 : BitVec 32 := Scalar.addi v2 c30_i32_6011
  let c32_i32_6012 : BitVec 32 := 32#32
  let v5203 : BitVec 32 := Scalar.remsi v5202 c32_i32_6012
  let c1_i32_6019 : BitVec 32 := 1#32
  let v5204 : BitVec 32 := Scalar.muli v5203 c1_i32_6019
  let v5205 : BitVec 32 := Scalar.addi c0_i32_6020 v5204
  v5205.toNat
def k0_dev248 (d0 : Dev nD) : Nat :=
  let c0_i32_6032 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_6023 : BitVec 32 := 31#32
  let v5214 : BitVec 32 := Scalar.addi v2 c31_i32_6023
  let c32_i32_6024 : BitVec 32 := 32#32
  let v5215 : BitVec 32 := Scalar.remsi v5214 c32_i32_6024
  let c1_i32_6031 : BitVec 32 := 1#32
  let v5216 : BitVec 32 := Scalar.muli v5215 c1_i32_6031
  let v5217 : BitVec 32 := Scalar.addi c0_i32_6032 v5216
  v5217.toNat
def k0_dev249 (d0 : Dev nD) : Nat :=
  let c0_i32_7303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7294 : BitVec 32 := 1#32
  let v6087 : BitVec 32 := Scalar.addi v2 c1_i32_7294
  let c32_i32_7295 : BitVec 32 := 32#32
  let v6088 : BitVec 32 := Scalar.remsi v6087 c32_i32_7295
  let c1_i32_7302 : BitVec 32 := 1#32
  let v6089 : BitVec 32 := Scalar.muli v6088 c1_i32_7302
  let v6090 : BitVec 32 := Scalar.addi c0_i32_7303 v6089
  v6090.toNat
def k0_dev250 (d0 : Dev nD) : Nat :=
  let c0_i32_7315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_7306 : BitVec 32 := 2#32
  let v6099 : BitVec 32 := Scalar.addi v2 c2_i32_7306
  let c32_i32_7307 : BitVec 32 := 32#32
  let v6100 : BitVec 32 := Scalar.remsi v6099 c32_i32_7307
  let c1_i32_7314 : BitVec 32 := 1#32
  let v6101 : BitVec 32 := Scalar.muli v6100 c1_i32_7314
  let v6102 : BitVec 32 := Scalar.addi c0_i32_7315 v6101
  v6102.toNat
def k0_dev251 (d0 : Dev nD) : Nat :=
  let c0_i32_7327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_7318 : BitVec 32 := 3#32
  let v6111 : BitVec 32 := Scalar.addi v2 c3_i32_7318
  let c32_i32_7319 : BitVec 32 := 32#32
  let v6112 : BitVec 32 := Scalar.remsi v6111 c32_i32_7319
  let c1_i32_7326 : BitVec 32 := 1#32
  let v6113 : BitVec 32 := Scalar.muli v6112 c1_i32_7326
  let v6114 : BitVec 32 := Scalar.addi c0_i32_7327 v6113
  v6114.toNat
def k0_dev252 (d0 : Dev nD) : Nat :=
  let c0_i32_7339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_7330 : BitVec 32 := 4#32
  let v6123 : BitVec 32 := Scalar.addi v2 c4_i32_7330
  let c32_i32_7331 : BitVec 32 := 32#32
  let v6124 : BitVec 32 := Scalar.remsi v6123 c32_i32_7331
  let c1_i32_7338 : BitVec 32 := 1#32
  let v6125 : BitVec 32 := Scalar.muli v6124 c1_i32_7338
  let v6126 : BitVec 32 := Scalar.addi c0_i32_7339 v6125
  v6126.toNat
def k0_dev253 (d0 : Dev nD) : Nat :=
  let c0_i32_7351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_7342 : BitVec 32 := 5#32
  let v6135 : BitVec 32 := Scalar.addi v2 c5_i32_7342
  let c32_i32_7343 : BitVec 32 := 32#32
  let v6136 : BitVec 32 := Scalar.remsi v6135 c32_i32_7343
  let c1_i32_7350 : BitVec 32 := 1#32
  let v6137 : BitVec 32 := Scalar.muli v6136 c1_i32_7350
  let v6138 : BitVec 32 := Scalar.addi c0_i32_7351 v6137
  v6138.toNat
def k0_dev254 (d0 : Dev nD) : Nat :=
  let c0_i32_7363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_7354 : BitVec 32 := 6#32
  let v6147 : BitVec 32 := Scalar.addi v2 c6_i32_7354
  let c32_i32_7355 : BitVec 32 := 32#32
  let v6148 : BitVec 32 := Scalar.remsi v6147 c32_i32_7355
  let c1_i32_7362 : BitVec 32 := 1#32
  let v6149 : BitVec 32 := Scalar.muli v6148 c1_i32_7362
  let v6150 : BitVec 32 := Scalar.addi c0_i32_7363 v6149
  v6150.toNat
def k0_dev255 (d0 : Dev nD) : Nat :=
  let c0_i32_7375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_7366 : BitVec 32 := 7#32
  let v6159 : BitVec 32 := Scalar.addi v2 c7_i32_7366
  let c32_i32_7367 : BitVec 32 := 32#32
  let v6160 : BitVec 32 := Scalar.remsi v6159 c32_i32_7367
  let c1_i32_7374 : BitVec 32 := 1#32
  let v6161 : BitVec 32 := Scalar.muli v6160 c1_i32_7374
  let v6162 : BitVec 32 := Scalar.addi c0_i32_7375 v6161
  v6162.toNat
def k0_dev256 (d0 : Dev nD) : Nat :=
  let c0_i32_7387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_7378 : BitVec 32 := 8#32
  let v6171 : BitVec 32 := Scalar.addi v2 c8_i32_7378
  let c32_i32_7379 : BitVec 32 := 32#32
  let v6172 : BitVec 32 := Scalar.remsi v6171 c32_i32_7379
  let c1_i32_7386 : BitVec 32 := 1#32
  let v6173 : BitVec 32 := Scalar.muli v6172 c1_i32_7386
  let v6174 : BitVec 32 := Scalar.addi c0_i32_7387 v6173
  v6174.toNat
def k0_dev257 (d0 : Dev nD) : Nat :=
  let c0_i32_7399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_7390 : BitVec 32 := 9#32
  let v6183 : BitVec 32 := Scalar.addi v2 c9_i32_7390
  let c32_i32_7391 : BitVec 32 := 32#32
  let v6184 : BitVec 32 := Scalar.remsi v6183 c32_i32_7391
  let c1_i32_7398 : BitVec 32 := 1#32
  let v6185 : BitVec 32 := Scalar.muli v6184 c1_i32_7398
  let v6186 : BitVec 32 := Scalar.addi c0_i32_7399 v6185
  v6186.toNat
def k0_dev258 (d0 : Dev nD) : Nat :=
  let c0_i32_7411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_7402 : BitVec 32 := 10#32
  let v6195 : BitVec 32 := Scalar.addi v2 c10_i32_7402
  let c32_i32_7403 : BitVec 32 := 32#32
  let v6196 : BitVec 32 := Scalar.remsi v6195 c32_i32_7403
  let c1_i32_7410 : BitVec 32 := 1#32
  let v6197 : BitVec 32 := Scalar.muli v6196 c1_i32_7410
  let v6198 : BitVec 32 := Scalar.addi c0_i32_7411 v6197
  v6198.toNat
def k0_dev259 (d0 : Dev nD) : Nat :=
  let c0_i32_7423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_7414 : BitVec 32 := 11#32
  let v6207 : BitVec 32 := Scalar.addi v2 c11_i32_7414
  let c32_i32_7415 : BitVec 32 := 32#32
  let v6208 : BitVec 32 := Scalar.remsi v6207 c32_i32_7415
  let c1_i32_7422 : BitVec 32 := 1#32
  let v6209 : BitVec 32 := Scalar.muli v6208 c1_i32_7422
  let v6210 : BitVec 32 := Scalar.addi c0_i32_7423 v6209
  v6210.toNat
def k0_dev260 (d0 : Dev nD) : Nat :=
  let c0_i32_7435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_7426 : BitVec 32 := 12#32
  let v6219 : BitVec 32 := Scalar.addi v2 c12_i32_7426
  let c32_i32_7427 : BitVec 32 := 32#32
  let v6220 : BitVec 32 := Scalar.remsi v6219 c32_i32_7427
  let c1_i32_7434 : BitVec 32 := 1#32
  let v6221 : BitVec 32 := Scalar.muli v6220 c1_i32_7434
  let v6222 : BitVec 32 := Scalar.addi c0_i32_7435 v6221
  v6222.toNat
def k0_dev261 (d0 : Dev nD) : Nat :=
  let c0_i32_7447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_7438 : BitVec 32 := 13#32
  let v6231 : BitVec 32 := Scalar.addi v2 c13_i32_7438
  let c32_i32_7439 : BitVec 32 := 32#32
  let v6232 : BitVec 32 := Scalar.remsi v6231 c32_i32_7439
  let c1_i32_7446 : BitVec 32 := 1#32
  let v6233 : BitVec 32 := Scalar.muli v6232 c1_i32_7446
  let v6234 : BitVec 32 := Scalar.addi c0_i32_7447 v6233
  v6234.toNat
def k0_dev262 (d0 : Dev nD) : Nat :=
  let c0_i32_7459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_7450 : BitVec 32 := 14#32
  let v6243 : BitVec 32 := Scalar.addi v2 c14_i32_7450
  let c32_i32_7451 : BitVec 32 := 32#32
  let v6244 : BitVec 32 := Scalar.remsi v6243 c32_i32_7451
  let c1_i32_7458 : BitVec 32 := 1#32
  let v6245 : BitVec 32 := Scalar.muli v6244 c1_i32_7458
  let v6246 : BitVec 32 := Scalar.addi c0_i32_7459 v6245
  v6246.toNat
def k0_dev263 (d0 : Dev nD) : Nat :=
  let c0_i32_7471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_7462 : BitVec 32 := 15#32
  let v6255 : BitVec 32 := Scalar.addi v2 c15_i32_7462
  let c32_i32_7463 : BitVec 32 := 32#32
  let v6256 : BitVec 32 := Scalar.remsi v6255 c32_i32_7463
  let c1_i32_7470 : BitVec 32 := 1#32
  let v6257 : BitVec 32 := Scalar.muli v6256 c1_i32_7470
  let v6258 : BitVec 32 := Scalar.addi c0_i32_7471 v6257
  v6258.toNat
def k0_dev264 (d0 : Dev nD) : Nat :=
  let c0_i32_7483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_7474 : BitVec 32 := 16#32
  let v6267 : BitVec 32 := Scalar.addi v2 c16_i32_7474
  let c32_i32_7475 : BitVec 32 := 32#32
  let v6268 : BitVec 32 := Scalar.remsi v6267 c32_i32_7475
  let c1_i32_7482 : BitVec 32 := 1#32
  let v6269 : BitVec 32 := Scalar.muli v6268 c1_i32_7482
  let v6270 : BitVec 32 := Scalar.addi c0_i32_7483 v6269
  v6270.toNat
def k0_dev265 (d0 : Dev nD) : Nat :=
  let c0_i32_7495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_7486 : BitVec 32 := 17#32
  let v6279 : BitVec 32 := Scalar.addi v2 c17_i32_7486
  let c32_i32_7487 : BitVec 32 := 32#32
  let v6280 : BitVec 32 := Scalar.remsi v6279 c32_i32_7487
  let c1_i32_7494 : BitVec 32 := 1#32
  let v6281 : BitVec 32 := Scalar.muli v6280 c1_i32_7494
  let v6282 : BitVec 32 := Scalar.addi c0_i32_7495 v6281
  v6282.toNat
def k0_dev266 (d0 : Dev nD) : Nat :=
  let c0_i32_7507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_7498 : BitVec 32 := 18#32
  let v6291 : BitVec 32 := Scalar.addi v2 c18_i32_7498
  let c32_i32_7499 : BitVec 32 := 32#32
  let v6292 : BitVec 32 := Scalar.remsi v6291 c32_i32_7499
  let c1_i32_7506 : BitVec 32 := 1#32
  let v6293 : BitVec 32 := Scalar.muli v6292 c1_i32_7506
  let v6294 : BitVec 32 := Scalar.addi c0_i32_7507 v6293
  v6294.toNat
def k0_dev267 (d0 : Dev nD) : Nat :=
  let c0_i32_7519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_7510 : BitVec 32 := 19#32
  let v6303 : BitVec 32 := Scalar.addi v2 c19_i32_7510
  let c32_i32_7511 : BitVec 32 := 32#32
  let v6304 : BitVec 32 := Scalar.remsi v6303 c32_i32_7511
  let c1_i32_7518 : BitVec 32 := 1#32
  let v6305 : BitVec 32 := Scalar.muli v6304 c1_i32_7518
  let v6306 : BitVec 32 := Scalar.addi c0_i32_7519 v6305
  v6306.toNat
def k0_dev268 (d0 : Dev nD) : Nat :=
  let c0_i32_7531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_7522 : BitVec 32 := 20#32
  let v6315 : BitVec 32 := Scalar.addi v2 c20_i32_7522
  let c32_i32_7523 : BitVec 32 := 32#32
  let v6316 : BitVec 32 := Scalar.remsi v6315 c32_i32_7523
  let c1_i32_7530 : BitVec 32 := 1#32
  let v6317 : BitVec 32 := Scalar.muli v6316 c1_i32_7530
  let v6318 : BitVec 32 := Scalar.addi c0_i32_7531 v6317
  v6318.toNat
def k0_dev269 (d0 : Dev nD) : Nat :=
  let c0_i32_7543 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_7534 : BitVec 32 := 21#32
  let v6327 : BitVec 32 := Scalar.addi v2 c21_i32_7534
  let c32_i32_7535 : BitVec 32 := 32#32
  let v6328 : BitVec 32 := Scalar.remsi v6327 c32_i32_7535
  let c1_i32_7542 : BitVec 32 := 1#32
  let v6329 : BitVec 32 := Scalar.muli v6328 c1_i32_7542
  let v6330 : BitVec 32 := Scalar.addi c0_i32_7543 v6329
  v6330.toNat
def k0_dev270 (d0 : Dev nD) : Nat :=
  let c0_i32_7555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_7546 : BitVec 32 := 22#32
  let v6339 : BitVec 32 := Scalar.addi v2 c22_i32_7546
  let c32_i32_7547 : BitVec 32 := 32#32
  let v6340 : BitVec 32 := Scalar.remsi v6339 c32_i32_7547
  let c1_i32_7554 : BitVec 32 := 1#32
  let v6341 : BitVec 32 := Scalar.muli v6340 c1_i32_7554
  let v6342 : BitVec 32 := Scalar.addi c0_i32_7555 v6341
  v6342.toNat
def k0_dev271 (d0 : Dev nD) : Nat :=
  let c0_i32_7567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_7558 : BitVec 32 := 23#32
  let v6351 : BitVec 32 := Scalar.addi v2 c23_i32_7558
  let c32_i32_7559 : BitVec 32 := 32#32
  let v6352 : BitVec 32 := Scalar.remsi v6351 c32_i32_7559
  let c1_i32_7566 : BitVec 32 := 1#32
  let v6353 : BitVec 32 := Scalar.muli v6352 c1_i32_7566
  let v6354 : BitVec 32 := Scalar.addi c0_i32_7567 v6353
  v6354.toNat
def k0_dev272 (d0 : Dev nD) : Nat :=
  let c0_i32_7579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_7570 : BitVec 32 := 24#32
  let v6363 : BitVec 32 := Scalar.addi v2 c24_i32_7570
  let c32_i32_7571 : BitVec 32 := 32#32
  let v6364 : BitVec 32 := Scalar.remsi v6363 c32_i32_7571
  let c1_i32_7578 : BitVec 32 := 1#32
  let v6365 : BitVec 32 := Scalar.muli v6364 c1_i32_7578
  let v6366 : BitVec 32 := Scalar.addi c0_i32_7579 v6365
  v6366.toNat
def k0_dev273 (d0 : Dev nD) : Nat :=
  let c0_i32_7591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_7582 : BitVec 32 := 25#32
  let v6375 : BitVec 32 := Scalar.addi v2 c25_i32_7582
  let c32_i32_7583 : BitVec 32 := 32#32
  let v6376 : BitVec 32 := Scalar.remsi v6375 c32_i32_7583
  let c1_i32_7590 : BitVec 32 := 1#32
  let v6377 : BitVec 32 := Scalar.muli v6376 c1_i32_7590
  let v6378 : BitVec 32 := Scalar.addi c0_i32_7591 v6377
  v6378.toNat
def k0_dev274 (d0 : Dev nD) : Nat :=
  let c0_i32_7603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_7594 : BitVec 32 := 26#32
  let v6387 : BitVec 32 := Scalar.addi v2 c26_i32_7594
  let c32_i32_7595 : BitVec 32 := 32#32
  let v6388 : BitVec 32 := Scalar.remsi v6387 c32_i32_7595
  let c1_i32_7602 : BitVec 32 := 1#32
  let v6389 : BitVec 32 := Scalar.muli v6388 c1_i32_7602
  let v6390 : BitVec 32 := Scalar.addi c0_i32_7603 v6389
  v6390.toNat
def k0_dev275 (d0 : Dev nD) : Nat :=
  let c0_i32_7615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_7606 : BitVec 32 := 27#32
  let v6399 : BitVec 32 := Scalar.addi v2 c27_i32_7606
  let c32_i32_7607 : BitVec 32 := 32#32
  let v6400 : BitVec 32 := Scalar.remsi v6399 c32_i32_7607
  let c1_i32_7614 : BitVec 32 := 1#32
  let v6401 : BitVec 32 := Scalar.muli v6400 c1_i32_7614
  let v6402 : BitVec 32 := Scalar.addi c0_i32_7615 v6401
  v6402.toNat
def k0_dev276 (d0 : Dev nD) : Nat :=
  let c0_i32_7627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_7618 : BitVec 32 := 28#32
  let v6411 : BitVec 32 := Scalar.addi v2 c28_i32_7618
  let c32_i32_7619 : BitVec 32 := 32#32
  let v6412 : BitVec 32 := Scalar.remsi v6411 c32_i32_7619
  let c1_i32_7626 : BitVec 32 := 1#32
  let v6413 : BitVec 32 := Scalar.muli v6412 c1_i32_7626
  let v6414 : BitVec 32 := Scalar.addi c0_i32_7627 v6413
  v6414.toNat
def k0_dev277 (d0 : Dev nD) : Nat :=
  let c0_i32_7639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_7630 : BitVec 32 := 29#32
  let v6423 : BitVec 32 := Scalar.addi v2 c29_i32_7630
  let c32_i32_7631 : BitVec 32 := 32#32
  let v6424 : BitVec 32 := Scalar.remsi v6423 c32_i32_7631
  let c1_i32_7638 : BitVec 32 := 1#32
  let v6425 : BitVec 32 := Scalar.muli v6424 c1_i32_7638
  let v6426 : BitVec 32 := Scalar.addi c0_i32_7639 v6425
  v6426.toNat
def k0_dev278 (d0 : Dev nD) : Nat :=
  let c0_i32_7651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_7642 : BitVec 32 := 30#32
  let v6435 : BitVec 32 := Scalar.addi v2 c30_i32_7642
  let c32_i32_7643 : BitVec 32 := 32#32
  let v6436 : BitVec 32 := Scalar.remsi v6435 c32_i32_7643
  let c1_i32_7650 : BitVec 32 := 1#32
  let v6437 : BitVec 32 := Scalar.muli v6436 c1_i32_7650
  let v6438 : BitVec 32 := Scalar.addi c0_i32_7651 v6437
  v6438.toNat
def k0_dev279 (d0 : Dev nD) : Nat :=
  let c0_i32_7663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_7654 : BitVec 32 := 31#32
  let v6447 : BitVec 32 := Scalar.addi v2 c31_i32_7654
  let c32_i32_7655 : BitVec 32 := 32#32
  let v6448 : BitVec 32 := Scalar.remsi v6447 c32_i32_7655
  let c1_i32_7662 : BitVec 32 := 1#32
  let v6449 : BitVec 32 := Scalar.muli v6448 c1_i32_7662
  let v6450 : BitVec 32 := Scalar.addi c0_i32_7663 v6449
  v6450.toNat
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x512 : Shape := ⟨2, ![768, 512]⟩
abbrev S2x16384x8x64 : Shape := ⟨4, ![2, 16384, 8, 64]⟩
abbrev S512x768 : Shape := ⟨2, ![512, 768]⟩
abbrev S2x512x512 : Shape := ⟨3, ![2, 512, 512]⟩
abbrev S2x512x8x64 : Shape := ⟨4, ![2, 512, 8, 64]⟩
abbrev S512 : Shape := ⟨1, ![512]⟩
abbrev S_ : Shape := ⟨0, ![]⟩
abbrev S512x1 : Shape := ⟨2, ![512, 1]⟩
abbrev S16384 : Shape := ⟨1, ![16384]⟩
abbrev S1x16384 : Shape := ⟨2, ![1, 16384]⟩
abbrev S512x16384 : Shape := ⟨2, ![512, 16384]⟩
abbrev S2x8x512x16384 : Shape := ⟨4, ![2, 8, 512, 16384]⟩
abbrev S1x1x512x16384 : Shape := ⟨4, ![1, 1, 512, 16384]⟩
abbrev S2x8x512 : Shape := ⟨3, ![2, 8, 512]⟩
abbrev S2x8x512x1 : Shape := ⟨4, ![2, 8, 512, 1]⟩
abbrev S1x1x512x1 : Shape := ⟨4, ![1, 1, 512, 1]⟩
abbrev S2x8x64x512 : Shape := ⟨4, ![2, 8, 64, 512]⟩

abbrev nBuf : Space → Nat
  | .hbm => 137
  | .vmem => 0
  | .smem => 0
  | _ => 0

abbrev hbmTy0_0 (i : Nat) : BufTy := match i % 128 with
  | 0 => ⟨S2x512x768, .f32⟩
  | 1 => ⟨S768x512, .f32⟩
  | 2 => ⟨S2x16384x8x64, .f32⟩
  | 3 => ⟨S2x16384x8x64, .f32⟩
  | 4 => ⟨S512x768, .f32⟩
  | 5 => ⟨S2x512x512, .f32⟩
  | 6 => ⟨S2x512x8x64, .f32⟩
  | 7 => ⟨S512, .i32⟩
  | 8 => ⟨S_, .i32⟩
  | 9 => ⟨S_, .i32⟩
  | 10 => ⟨S512, .i32⟩
  | 11 => ⟨S512, .i32⟩
  | 12 => ⟨S512, .i32⟩
  | 13 => ⟨S_, .i32⟩
  | 14 => ⟨S512, .i32⟩
  | 15 => ⟨S512, .i1⟩
  | 16 => ⟨S512, .i32⟩
  | 17 => ⟨S512, .i32⟩
  | 18 => ⟨S_, .i32⟩
  | 19 => ⟨S512, .i32⟩
  | 20 => ⟨S512, .i1⟩
  | 21 => ⟨S512, .i1⟩
  | 22 => ⟨S_, .i32⟩
  | 23 => ⟨S512, .i32⟩
  | 24 => ⟨S512, .i32⟩
  | 25 => ⟨S512, .i32⟩
  | 26 => ⟨S512x1, .i32⟩
  | 27 => ⟨S16384, .i32⟩
  | 28 => ⟨S_, .i32⟩
  | 29 => ⟨S_, .i32⟩
  | 30 => ⟨S16384, .i32⟩
  | 31 => ⟨S16384, .i32⟩
  | 32 => ⟨S16384, .i32⟩
  | 33 => ⟨S_, .i32⟩
  | 34 => ⟨S16384, .i32⟩
  | 35 => ⟨S16384, .i1⟩
  | 36 => ⟨S16384, .i32⟩
  | 37 => ⟨S16384, .i32⟩
  | 38 => ⟨S_, .i32⟩
  | 39 => ⟨S16384, .i32⟩
  | 40 => ⟨S16384, .i1⟩
  | 41 => ⟨S16384, .i1⟩
  | 42 => ⟨S_, .i32⟩
  | 43 => ⟨S16384, .i32⟩
  | 44 => ⟨S16384, .i32⟩
  | 45 => ⟨S16384, .i32⟩
  | 46 => ⟨S1x16384, .i32⟩
  | 47 => ⟨S512x16384, .i32⟩
  | 48 => ⟨S512x16384, .i32⟩
  | 49 => ⟨S512x16384, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x16384, .i32⟩
  | 57 => ⟨S1x16384, .i32⟩
  | 58 => ⟨S_, .i32⟩
  | 59 => ⟨S1x16384, .i32⟩
  | 60 => ⟨S1x16384, .i1⟩
  | 61 => ⟨S_, .i32⟩
  | 62 => ⟨S1x16384, .i32⟩
  | 63 => ⟨S1x16384, .i1⟩
  | 64 => ⟨S_, .i32⟩
  | 65 => ⟨S_, .i1⟩
  | 66 => ⟨S1x16384, .i1⟩
  | 67 => ⟨S1x16384, .i1⟩
  | 68 => ⟨S1x16384, .i1⟩
  | 69 => ⟨S1x16384, .i32⟩
  | 70 => ⟨S1x16384, .i32⟩
  | 71 => ⟨S1x16384, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S512x1, .i32⟩
  | 79 => ⟨S512x1, .i32⟩
  | 80 => ⟨S_, .i32⟩
  | 81 => ⟨S512x1, .i32⟩
  | 82 => ⟨S512x1, .i1⟩
  | 83 => ⟨S_, .i32⟩
  | 84 => ⟨S512x1, .i32⟩
  | 85 => ⟨S512x1, .i1⟩
  | 86 => ⟨S_, .i32⟩
  | 87 => ⟨S_, .i1⟩
  | 88 => ⟨S512x1, .i1⟩
  | 89 => ⟨S512x1, .i1⟩
  | 90 => ⟨S512x1, .i1⟩
  | 91 => ⟨S512x1, .i32⟩
  | 92 => ⟨S512x1, .i32⟩
  | 93 => ⟨S512x1, .i32⟩
  | 94 => ⟨S512x16384, .i32⟩
  | 95 => ⟨S512x16384, .i32⟩
  | 96 => ⟨S512x16384, .i1⟩
  | 97 => ⟨S512x16384, .i1⟩
  | 98 => ⟨S2x8x512x16384, .f32⟩
  | 99 => ⟨S_, .f32⟩
  | 100 => ⟨S2x8x512x16384, .f32⟩
  | 101 => ⟨S2x8x512x16384, .f32⟩
  | 102 => ⟨S1x1x512x16384, .i1⟩
  | 103 => ⟨S_, .f32⟩
  | 104 => ⟨S_, .f32⟩
  | 105 => ⟨S2x8x512x16384, .i1⟩
  | 106 => ⟨S2x8x512x16384, .f32⟩
  | 107 => ⟨S2x8x512x16384, .f32⟩
  | 108 => ⟨S_, .f32⟩
  | 109 => ⟨S2x8x512, .f32⟩
  | 110 => ⟨S2x8x512x1, .f32⟩
  | 111 => ⟨S2x8x512x16384, .f32⟩
  | 112 => ⟨S2x8x512x16384, .f32⟩
  | 113 => ⟨S2x8x512x16384, .f32⟩
  | 114 => ⟨S_, .i1⟩
  | 115 => ⟨S512, .i1⟩
  | 116 => ⟨S1x1x512x1, .i1⟩
  | 117 => ⟨S_, .f32⟩
  | 118 => ⟨S2x8x512, .f32⟩
  | 119 => ⟨S2x8x512x1, .f32⟩
  | 120 => ⟨S_, .f32⟩
  | 121 => ⟨S_, .f32⟩
  | 122 => ⟨S2x8x512x1, .i1⟩
  | 123 => ⟨S2x8x512x1, .f32⟩
  | 124 => ⟨S2x8x512x1, .f32⟩
  | 125 => ⟨S2x8x512x16384, .f32⟩
  | 126 => ⟨S2x8x512x16384, .f32⟩
  | 127 => ⟨S1x1x512x1, .i1⟩
  | _ => ⟨S2x512x768, .f32⟩

abbrev hbmTy0_1 (i : Nat) : BufTy := match i % 128 with
  | 0 => ⟨S_, .f32⟩
  | 1 => ⟨S_, .f32⟩
  | 2 => ⟨S2x8x512x16384, .i1⟩
  | 3 => ⟨S2x8x512x16384, .f32⟩
  | 4 => ⟨S2x8x512x16384, .f32⟩
  | 5 => ⟨S2x8x64x512, .f32⟩
  | 6 => ⟨S2x512x8x64, .f32⟩
  | 7 => ⟨S2x512x512, .f32⟩
  | 8 => ⟨S2x512x768, .f32⟩
  | _ => ⟨S2x512x768, .f32⟩

abbrev hbmTy (i : Nat) : BufTy := match i / 128 with
  | 0 => hbmTy0_0 i
  | 1 => hbmTy0_1 i
  | _ => ⟨S2x512x768, .f32⟩

abbrev bufTy : (tb : Table) → Fin (tcTables nBuf tb) → BufTy
  | .hbm, ⟨i, _⟩ => hbmTy i
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Vals.lean ====
/-
# The values of the kernel, as functions of the inputs

What every buffer of the kernel holds at the end, written once over any float values: the accumulator of a
device (numerators and denominators of its own keys), the row blocks the devices exchange, the normalised
blocks, and the result. `p` is the phase (one half of one batch row), `h` the head.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.ValueLayout
public import Idealize.ShloMosaic.Lib.Pipeline.Value

@[expose] public section

noncomputable section

namespace Cert.Ring

open Cert.KernelIdeal Cert.KernelIdeal.Gen
open Idealize.ShloMosaic Idealize.ShloMosaic.ValueIdx

variable {F : FTy → Type} [FloatOps F]

/-- The operands as one device holds them. -/
structure Ins (F : FTy → Type) where
  x : Vec F S2x512x768 .f32
  wq : Vec F S768x512 .f32
  k : Vec F S2x512x8x64 .f32
  v : Vec F S2x512x8x64 .f32
  wo : Vec F S512x768 .f32

/-- The device `o` places after `c`. -/
def peer (c : Dev nD) (o : ℕ) : Dev nD := ⟨(c.val + o) % 32, Nat.mod_lt _ (by decide)⟩
/-- The device `o` places before `c`. -/
def back (c : Dev nD) (o : ℕ) : Dev nD := ⟨(c.val + (32 - o % 32)) % 32, Nat.mod_lt _ (by decide)⟩

theorem peer_val (c : Dev nD) (o : ℕ) : (peer c o).val = (c.val + o) % 32 := rfl
theorem back_val (c : Dev nD) (o : ℕ) : (back c o).val = (c.val + (32 - o % 32)) % 32 := rfl
theorem back_peer (c : Dev nD) (o : ℕ) : back (peer c o) o = c := by
  have h : c.val < 32 := c.isLt
  exact Fin.ext (by rw [back_val, peer_val]; omega)
theorem peer_back (c : Dev nD) (o : ℕ) : peer (back c o) o = c := by
  have h : c.val < 32 := c.isLt
  exact Fin.ext (by rw [peer_val, back_val]; omega)
theorem peer_zero (c : Dev nD) : peer c 0 = c := by
  have h : c.val < 32 := c.isLt
  exact Fin.ext (by rw [peer_val]; omega)

/-! ## The rectangles the kernel reads and writes -/

theorem inbX (p : ℕ) (hp : p < 4) : ∀ a, (![p / 2, 256 * (p % 2), 0] : Fin 3 → ℕ) a + S1x256x768.size a ≤ S2x512x768.size a := by
  intro a; fin_cases a
  · show p / 2 + 1 ≤ 2; omega
  · show 256 * (p % 2) + 256 ≤ 512; omega
  · show 0 + 768 ≤ 768; omega
theorem inbO (p : ℕ) (hp : p < 4) : ∀ a, (![p / 2, 256 * (p % 2), 0] : Fin 3 → ℕ) a + S1x256x512.size a ≤ S2x512x512.size a := by
  intro a; fin_cases a
  · show p / 2 + 1 ≤ 2; omega
  · show 256 * (p % 2) + 256 ≤ 512; omega
  · show 0 + 512 ≤ 512; omega
theorem inbKV (b h : ℕ) (hb : b < 2) (hh : h < 8) : ∀ a, (![b, 0, h, 0] : Fin 4 → ℕ) a + S1x512x1x64.size a ≤ S2x512x8x64.size a := by
  intro a; fin_cases a
  · show b + 1 ≤ 2; omega
  · show 0 + 512 ≤ 512; omega
  · show h + 1 ≤ 8; omega
  · show 0 + 64 ≤ 64; omega
theorem inbQ (h : ℕ) (hh : h < 8) : S256x512.Slices ![0, 64 * h] S256x64 :=
  ⟨rfl, fun a => by
    fin_cases a
    · show 0 + 256 ≤ 256; omega
    · show 64 * h + 64 ≤ 512; omega⟩
theorem inbCtx (h : ℕ) (hh : h < 8) : S8x520.Slices ![0, 64 * h] S8x64 :=
  ⟨rfl, fun a => by
    fin_cases a
    · show 0 + 8 ≤ 8; omega
    · show 64 * h + 64 ≤ 520; omega⟩
theorem inbDen (h : ℕ) (hh : h < 8) : S8x520.Slices ![0, 512 + h] S8x1 :=
  ⟨rfl, fun a => by
    fin_cases a
    · show 0 + 8 ≤ 8; omega
    · show 512 + h + 1 ≤ 520; omega⟩
theorem inbAcc (p h : ℕ) (hp : p < 4) (hh : h < 8) : ∀ a, (![256 * p, 64 * h] : Fin 2 → ℕ) a + S256x64.size a ≤ S1024x520.size a := by
  intro a; fin_cases a
  · show 256 * p + 256 ≤ 1024; omega
  · show 64 * h + 64 ≤ 520; omega
theorem inbL (p : ℕ) (hp : p < 4) : ∀ a, (![256 * p, 512] : Fin 2 → ℕ) a + S256x8.size a ≤ S1024x520.size a := by
  intro a; fin_cases a
  · show 256 * p + 256 ≤ 1024; omega
  · show 512 + 8 ≤ 520; omega
theorem inbBlk (p : ℕ) (hp : p < 4) : ∀ a, (![256 * p, 0] : Fin 2 → ℕ) a + S256x520.size a ≤ S1024x520.size a := by
  intro a; fin_cases a
  · show 256 * p + 256 ≤ 1024; omega
  · show 0 + 520 ≤ 520; omega
theorem inbRow (p : ℕ) (hp : p < 4) (t : Dev nD) : ∀ a, (![256 * p + 8 * t.val, 0] : Fin 2 → ℕ) a + S8x520.size a ≤ S1024x520.size a := by
  have ht : t.val < 32 := t.isLt
  intro a; fin_cases a
  · show 256 * p + 8 * t.val + 8 ≤ 1024; omega
  · show 0 + 520 ≤ 520; omega
theorem inbStage (p : ℕ) (hp : p < 4) : ∀ a, (![p, 1, 0, 0] : Fin 4 → ℕ) a + S1x31x8x520.size a ≤ S4x32x8x520.size a := by
  intro a; fin_cases a
  · show p + 1 ≤ 4; omega
  · show 1 + 31 ≤ 32; omega
  · show 0 + 8 ≤ 8; omega
  · show 0 + 520 ≤ 520; omega

abbrev rX (p : ℕ) (hp : p < 4) : Rect S2x512x768 := Rect.unit (s := S2x512x768) ![p / 2, 256 * (p % 2), 0] S1x256x768.size (inbX p hp)
abbrev rO (p : ℕ) (hp : p < 4) : Rect S2x512x512 := Rect.unit (s := S2x512x512) ![p / 2, 256 * (p % 2), 0] S1x256x512.size (inbO p hp)
abbrev rKV (b h : ℕ) (hb : b < 2) (hh : h < 8) : Rect S2x512x8x64 := Rect.unit (s := S2x512x8x64) ![b, 0, h, 0] S1x512x1x64.size (inbKV b h hb hh)
abbrev rWq : Rect S768x512 := Rect.unit (s := S768x512) ![0, 0] S768x512.size inb_S768x512_S768x512_0_0
abbrev rWo : Rect S512x768 := Rect.unit (s := S512x768) ![0, 0] S512x768.size inb_S512x768_S512x768_0_0
abbrev rAcc (p h : ℕ) (hp : p < 4) (hh : h < 8) : Rect S1024x520 := Rect.unit (s := S1024x520) ![256 * p, 64 * h] S256x64.size (inbAcc p h hp hh)
abbrev rL (p : ℕ) (hp : p < 4) : Rect S1024x520 := Rect.unit (s := S1024x520) ![256 * p, 512] S256x8.size (inbL p hp)
abbrev rBlk (p : ℕ) (hp : p < 4) : Rect S1024x520 := Rect.unit (s := S1024x520) ![256 * p, 0] S256x520.size (inbBlk p hp)
abbrev rRow (p : ℕ) (hp : p < 4) (t : Dev nD) : Rect S1024x520 := Rect.unit (s := S1024x520) ![256 * p + 8 * t.val, 0] S8x520.size (inbRow p hp t)
abbrev rStage (p : ℕ) (hp : p < 4) : Rect S4x32x8x520 := Rect.unit (s := S4x32x8x520) ![p, 1, 0, 0] S1x31x8x520.size (inbStage p hp)

/-! ## The buffers -/

abbrev xM : Memref sig .tc .vmem S2x512x768 .f32 := Memref.whole cc0_stg0_0
abbrev wqM : Memref sig .tc .vmem S768x512 .f32 := Memref.whole cc0_stg1_0
abbrev kM : Memref sig .tc .vmem S2x512x8x64 .f32 := Memref.whole cc0_stg2_0
abbrev vM : Memref sig .tc .vmem S2x512x8x64 .f32 := Memref.whole cc0_stg3_0
abbrev woM : Memref sig .tc .vmem S512x768 .f32 := Memref.whole cc0_stg4_0
abbrev outM : Memref sig .tc .vmem S2x512x768 .f32 := Memref.whole cc0_stg5_0
abbrev accM : Memref sig .tc .vmem S1024x520 .f32 := Memref.whole cc0_scratch0
abbrev sbM : Memref sig .tc .vmem S1024x520 .bf16 := Memref.whole cc0_scratch1
abbrev stM : Memref sig .tc .vmem S4x32x8x520 .bf16 := Memref.whole cc0_scratch2
abbrev osM : Memref sig .tc .vmem S2x512x512 .bf16 := Memref.whole cc0_scratch3

/-! ## One device's accumulator -/

variable (I : Ins F)

def ldX (p : ℕ) (hp : p < 4) : Vec F S1x256x768 .f32 := xM.view.readAt (Elt F) (rX p hp).toLoadRect I.x
def ldWq : Vec F S768x512 .f32 := wqM.view.readAt (Elt F) rWq.toLoadRect I.wq
def ldWo : Vec F S512x768 .f32 := woM.view.readAt (Elt F) rWo.toLoadRect I.wo
def ldK (b h : ℕ) (hb : b < 2) (hh : h < 8) : Vec F S1x512x1x64 .f32 := kM.view.readAt (Elt F) (rKV b h hb hh).toLoadRect I.k
def ldV (b h : ℕ) (hb : b < 2) (hh : h < 8) : Vec F S1x512x1x64 .f32 := vM.view.readAt (Elt F) (rKV b h hb hh).toLoadRect I.v

/-- One head's keys (or values) of one batch row, the key blocks regrouped by their number modulo 4. -/
def regroup (w : Vec F S1x512x1x64 .f32) : FVec F S4x128x64 .f32 :=
  shapeCast S4x128x64 (transpose S4x2x64x64 [1, 0, 2, 3]
    (shapeCast S2x4x64x64 (shapeCast S512x64 w shapeCasts_S1x512x1x64_S512x64) shapeCasts_S512x64_S2x4x64x64)
    transposes_S2x4x64x64_p1_0_2_3_S4x2x64x64) shapeCasts_S4x2x64x64_S4x128x64

/-- The queries of one head, in their four groups. -/
def qGrp (q : FVec F S256x512 .f32) (h : ℕ) (hh : h < 8) : FVec F S4x64x64 .f32 :=
  shapeCast S4x64x64 (extractStridedSlice S256x64 ![0, 64 * h] q (inbQ h hh)) shapeCasts_S256x64_S4x64x64

/-- The weights `exp (q · k / 8)` of one head. -/
def expW (q : FVec F S256x512 .f32) (k : Vec F S1x512x1x64 .f32) (h : ℕ) (hh : h < 8) : FVec F S4x64x128 .f32 :=
  exp (mulf (matmul dot_S4x64x64_S4x128x64_S4x64x128_2_2_1_1_0_0 none (qGrp q h hh) (regroup k) (constant S4x64x128 .f32 0x00000000#32))
    (broadcast S4x64x128 (Scalar.ofBits .f32 0x3E000000#32)))

/-- Their sums over the device's keys. -/
def denom (w : FVec F S4x64x128 .f32) : FVec F S256x1 .f32 :=
  shapeCast S256x1 (shapeCast S4x64x1 (multiReduction .add [2] S4x64 w 0x00000000#32 reduces_S4x64x128_S4x64 (.inl rfl) rfl)
    shapeCasts_S4x64_S4x64x1) shapeCasts_S4x64x1_S256x1

/-- The weighted sums of the values. -/
def numer (w : FVec F S4x64x128 .f32) (v : Vec F S1x512x1x64 .f32) : FVec F S256x64 .f32 :=
  shapeCast S256x64 (shapeCast S256x64
    (matmul dot_S4x64x128_S4x128x64_S4x64x64_2_1_1_2_0_0 none w (regroup v) (constant S4x64x64 .f32 0x00000000#32))
    shapeCasts_S4x64x64_S256x64) shapeCasts_S256x64_S256x64

def qV (p : ℕ) (hp : p < 4) : FVec F S256x512 .f32 := k0_pay3 (ldX I p hp) (ldWq I)
def wV (p h : ℕ) (hp : p < 4) (hh : h < 8) : FVec F S4x64x128 .f32 :=
  expW (qV I p hp) (ldK I (p / 2) h (by omega) hh) h hh
def lV (p h : ℕ) (hp : p < 4) (hh : h < 8) : FVec F S256x1 .f32 := denom (wV I p h hp hh)
def ogV (p h : ℕ) (hp : p < 4) (hh : h < 8) : FVec F S256x64 .f32 := numer (wV I p h hp hh) (ldV I (p / 2) h (by omega) hh)
def lAllV (p : ℕ) (hp : p < 4) : FVec F S256x8 .f32 :=
  shapeCast S256x8 (concatenate S256x8 1
    [⟨S256x1, lV I p 0 hp (by decide)⟩, ⟨S256x1, lV I p 1 hp (by decide)⟩, ⟨S256x1, lV I p 2 hp (by decide)⟩, ⟨S256x1, lV I p 3 hp (by decide)⟩,
     ⟨S256x1, lV I p 4 hp (by decide)⟩, ⟨S256x1, lV I p 5 hp (by decide)⟩, ⟨S256x1, lV I p 6 hp (by decide)⟩, ⟨S256x1, lV I p 7 hp (by decide)⟩]
    concatenates_S256x1_S256x1_S256x1_S256x1_S256x1_S256x1_S256x1_S256x1_S256x8_d1) shapeCasts_S256x8_S256x8

/-- What the accumulator holds once every phase is computed. -/
def accV : Vec F S1024x520 .f32 := fun i =>
  have h0 : (i 0).val < 1024 := (i 0).isLt
  have h1 : (i 1).val < 520 := (i 1).isLt
  if h : (i 1).val < 512 then
    ogV I ((i 0).val / 256) ((i 1).val / 64) (by omega) (by omega) (ix2 ⟨(i 0).val % 256, Nat.mod_lt _ (by decide)⟩ ⟨(i 1).val % 64, Nat.mod_lt _ (by decide)⟩)
  else lAllV I ((i 0).val / 256) (by omega) (ix2 ⟨(i 0).val % 256, Nat.mod_lt _ (by decide)⟩ ⟨(i 1).val - 512, by omega⟩)

/-- What the send buffer holds: the accumulator, narrowed. -/
def sbV : Vec F S1024x520 .bf16 := truncf .bf16 (accV I : FVec F S1024x520 .f32) bitsLt_bf16_f32

/-! ## The exchange -/

variable (J : Dev nD → Ins F)

/-- What the staging slots of device `c` hold once everything has arrived: in slot `(p, o)` the rows of `c` in
    phase `p` as the device `o` places before it computed them. -/
def stV (c : Dev nD) : Vec F S4x32x8x520 .bf16 := fun i =>
  have h0 : (i 0).val < 4 := (i 0).isLt
  have h2 : (i 2).val < 8 := (i 2).isLt
  have hc : c.val < 32 := c.isLt
  sbV (J (back c (i 1).val)) (ix2 ⟨256 * (i 0).val + 8 * c.val + (i 2).val, by omega⟩ (i 3))

def ldRow (p : ℕ) (hp : p < 4) (c : Dev nD) : Vec F S8x520 .f32 := accM.view.readAt (Elt F) (rRow p hp c).toLoadRect (accV (J c))
def ldStage (p : ℕ) (hp : p < 4) (c : Dev nD) : Vec F S1x31x8x520 .bf16 := stM.view.readAt (Elt F) (rStage p hp).toLoadRect (stV J c)

/-- One head of the normalised rows. -/
def ctxH (r : FVec F S8x520 .f32) (h : ℕ) (hh : h < 8) : FVec F S8x64 .f32 :=
  divf (extractStridedSlice S8x64 ![0, 64 * h] r (inbCtx h hh))
    (broadcastTo S8x64 (extractStridedSlice S8x1 ![0, 512 + h] r (inbDen h hh)) broadcasts_S8x1_S8x64)
/-- The normalised rows of one device in one phase. -/
def finV (r : FVec F S8x520 .f32) : FVec F S1x8x512 .bf16 :=
  shapeCast S1x8x512 (truncf .bf16 (concatenate S8x512 1
    [⟨S8x64, ctxH r 0 (by decide)⟩, ⟨S8x64, ctxH r 1 (by decide)⟩, ⟨S8x64, ctxH r 2 (by decide)⟩, ⟨S8x64, ctxH r 3 (by decide)⟩,
     ⟨S8x64, ctxH r 4 (by decide)⟩, ⟨S8x64, ctxH r 5 (by decide)⟩, ⟨S8x64, ctxH r 6 (by decide)⟩, ⟨S8x64, ctxH r 7 (by decide)⟩]
    concatenates_S8x64_S8x64_S8x64_S8x64_S8x64_S8x64_S8x64_S8x64_S8x512_d1) bitsLt_bf16_f32) shapeCasts_S8x512_S1x8x512
def ctxV (p : ℕ) (hp : p < 4) (c : Dev nD) : FVec F S1x8x512 .bf16 := finV (k0_pay80 (ldRow J p hp c) (ldStage J p hp c))

/-- What every device's gather buffer holds at the end: each device's rows of each phase. -/
def osV : Vec F S2x512x512 .bf16 := fun i =>
  have h0 : (i 0).val < 2 := (i 0).isLt
  have h1 : (i 1).val < 512 := (i 1).isLt
  ctxV J (2 * (i 0).val + (i 1).val / 256) (by omega) ⟨(i 1).val / 8 % 32, Nat.mod_lt _ (by decide)⟩ (ix3 ⟨0, Nat.one_pos⟩ ⟨(i 1).val % 8, Nat.mod_lt _ (by decide)⟩ (i 2))

def ldO (p : ℕ) (hp : p < 4) : Vec F S1x256x512 .bf16 := osM.view.readAt (Elt F) (rO p hp).toLoadRect (osV J)

/-- One phase's rows of the result of a device that holds the operands `I`. -/
def delV (p : ℕ) (hp : p < 4) : FVec F S1x256x768 .f32 := k0_pay1 (k0_pay2 (ldWo I)) (ldO J p hp)
/-- The result. -/
def outV : Vec F S2x512x768 .f32 := fun i =>
  have h0 : (i 0).val < 2 := (i 0).isLt
  have h1 : (i 1).val < 512 := (i 1).isLt
  delV I J (2 * (i 0).val + (i 1).val / 256) (by omega) (ix3 ⟨0, Nat.one_pos⟩ ⟨(i 1).val % 256, Nat.mod_lt _ (by decide)⟩ (i 2))

end Cert.Ring
-- ==== Proof.Proto.lean ====
/-
# The protocol

Each of the 32 devices first signals every other device's barrier semaphore and waits for 31 signals; with its
signal to `t` a device hands `t` the places `t` will write into: its staging slots for `t`, and the rows of its
gather buffer that `t` normalises. In each of four phases `p` a device sends every other device the rows that
one owns (into slot `(p, o)`, `o` the distance), and later its own normalised rows to every other device. Every
semaphore has one round: a receive semaphore's payload is the rows with their contents, a send semaphore's the
source rows back (for the second kind of transfer, whose source 31 transfers read at once, a share of them).
-/
module

public import proofs.«01_k».proof.Proof.Vals
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the kernel's own, its duties named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Parts of the buffers -/

/-- The rows of device `t` in phase `p` of the send buffer. -/
def sbSet (p : ℕ) (t : Dev nD) : Finset S1024x520.Idx := Finset.univ.filter fun i => (i 0).val / 8 = 32 * p + t.val
/-- The staging slot `(p, o)`. -/
def stSet (p o : ℕ) : Finset S4x32x8x520.Idx := Finset.univ.filter fun i => (i 0).val = p ∧ (i 1).val = o
/-- The rows of device `t` in phase `p` of the gather buffer. -/
def osSet (p : ℕ) (t : Dev nD) : Finset S2x512x512.Idx := Finset.univ.filter fun i => (512 * (i 0).val + (i 1).val) / 8 = 32 * p + t.val

theorem mem_sbSet {p : ℕ} {t : Dev nD} {i : S1024x520.Idx} : i ∈ sbSet p t ↔ (i 0).val / 8 = 32 * p + t.val := by
  unfold sbSet; rw [Finset.mem_filter]; exact ⟨fun h => h.2, fun h => ⟨Finset.mem_univ _, h⟩⟩
theorem mem_stSet {p o : ℕ} {i : S4x32x8x520.Idx} : i ∈ stSet p o ↔ (i 0).val = p ∧ (i 1).val = o := by
  unfold stSet; rw [Finset.mem_filter]; exact ⟨fun h => h.2, fun h => ⟨Finset.mem_univ _, h⟩⟩
theorem mem_osSet {p : ℕ} {t : Dev nD} {i : S2x512x512.Idx} : i ∈ osSet p t ↔ (512 * (i 0).val + (i 1).val) / 8 = 32 * p + t.val := by
  unfold osSet; rw [Finset.mem_filter]; exact ⟨fun h => h.2, fun h => ⟨Finset.mem_univ _, h⟩⟩

/-! ## The cells -/

/-- The barrier semaphore. -/
abbrev barS : Sem sig := (SemArray.scalar (sig.barrier 0 rfl) : Sems sig S_).sem
/-- The kernel's own DMA semaphores, counted from 0. -/
def dj (j : ℕ) : DmaSem sig := ⟨(6 + j) % 518, Nat.mod_lt _ (by decide)⟩
/-- The number of the semaphore of kind `k` (first send, first receive, second send, second receive), phase `p`, distance `o`. -/
abbrev cix (k p o : ℕ) : ℕ := 128 * k + 32 * p + o
abbrev bcell (c : Dev nD) : GSem nD τ sig := ((c : Thread nD τ), .reg barS)
abbrev dcell (c : Dev nD) (j : ℕ) : GSem nD τ sig := ((c : Thread nD τ), .dma (dj j))

theorem dj_val {j : ℕ} (h : j < 512) : (dj j).val = 6 + j := Nat.mod_eq_of_lt (by omega)
theorem dj_inj {j j' : ℕ} (h : j < 512) (h' : j' < 512) (e : dj j = dj j') : j = j' := by
  have := congrArg Fin.val e; rw [dj_val h, dj_val h'] at this; omega
theorem cix_lt {k p o : ℕ} (hk : k < 4) (hp : p < 4) (ho : o < 32) : cix k p o < 512 := by unfold cix; omega

/-- What a transfer of the first kind, and of the second kind, credits. -/
abbrev N1 : ℕ := Ref.dmaCredit (sig := sig) cc0_scratch2 S8x520 .bf16
abbrev N2 : ℕ := Ref.dmaCredit (sig := sig) cc0_scratch3 S8x512 .bf16
theorem N1_pos : 0 < N1 := sig.dmaCredit_pos _ _ _ _ _ (by decide)
theorem N2_pos : 0 < N2 := sig.dmaCredit_pos _ _ _ _ _ (by decide)
theorem N1_sb : Ref.dmaCredit (sig := sig) cc0_scratch1 S8x520 .bf16 = N1 := rfl

/-! ## Points-to -/

variable (J : Dev nD → Ins F)

abbrev sbL (c : Dev nD) : Loc nD τ sig := (c : Thread nD τ).loc cc0_scratch1
abbrev stL (c : Dev nD) : Loc nD τ sig := (c : Thread nD τ).loc cc0_scratch2
abbrev osL (c : Dev nD) : Loc nD τ sig := (c : Thread nD τ).loc cc0_scratch3

def sbPts (c : Dev nD) (p : ℕ) (t : Dev nD) : sProp 𝕄 := sbL c ↦[sbSet p t]{fullShare} (sbV (J c) : Buf (Elt F) (sbL c))
def stPts (c : Dev nD) (p o : ℕ) : sProp 𝕄 := stL c ↦[stSet p o]{fullShare} (stV J c : Buf (Elt F) (stL c))
def stAny (c : Dev nD) (p o : ℕ) : sProp 𝕄 := iprop(∃ f : Buf (Elt F) (stL c), stL c ↦[stSet p o]{fullShare} f)
def osPts (c : Dev nD) (p : ℕ) (t : Dev nD) (q : PosShare TreeShare) : sProp 𝕄 := osL c ↦[osSet p t]{q} (osV J : Buf (Elt F) (osL c))
def osAny (c : Dev nD) (p : ℕ) (t : Dev nD) : sProp 𝕄 := iprop(∃ f : Buf (Elt F) (osL c), osL c ↦[osSet p t]{fullShare} f)

/-- The share of its own rows that a device's transfer to the device `o` places after it reads. -/
def shr (o : ℕ) : PosShare TreeShare := ShareLeaves.leaf 5 fullShare ⟨o % 32, Nat.mod_lt _ (by decide)⟩

instance sbPts_storable (c : Dev nD) (p : ℕ) (t : Dev nD) : BI.Storable (upEmb : UEmb _ 𝕄) (sbPts J c p t) := by unfold sbPts; infer_instance
instance stPts_storable (c : Dev nD) (p o : ℕ) : BI.Storable (upEmb : UEmb _ 𝕄) (stPts J c p o) := by unfold stPts; infer_instance
omit [FloatOps F] in
instance stAny_storable (c : Dev nD) (p o : ℕ) : BI.Storable (upEmb : UEmb _ 𝕄) (stAny (F := F) c p o) := by unfold stAny; infer_instance
instance osPts_storable (c : Dev nD) (p : ℕ) (t : Dev nD) (q) : BI.Storable (upEmb : UEmb _ 𝕄) (osPts J c p t q) := by unfold osPts; infer_instance
omit [FloatOps F] in
instance osAny_storable (c : Dev nD) (p : ℕ) (t : Dev nD) : BI.Storable (upEmb : UEmb _ 𝕄) (osAny (F := F) c p t) := by unfold osAny; infer_instance

/-! ## The schedule -/

/-- What device `s` hands `t` with its signal: its staging slots for `t` and its copies of `t`'s rows. -/
def barPay (t s : Dev nD) : sProp 𝕄 :=
  bigSep (Finset.range 4) fun p => iprop(stAny s p ((s.val + (32 - t.val)) % 32) ∗ osAny s p t)

/-- What a transfer's landing hands over, by the semaphore it is credited on. -/
def xferPay (c : Dev nD) (k p o : ℕ) : sProp 𝕄 :=
  if k = 0 then sbPts J c p (peer c o)
  else if k = 1 then stPts J c p o
  else if k = 2 then osPts J c p c (shr o)
  else osPts J c p (back c o) fullShare

omit [FloatOps F] in
instance barPay_storable (t s : Dev nD) : BI.Storable (upEmb : UEmb _ 𝕄) (barPay (F := F) t s) := by unfold barPay; infer_instance
instance xferPay_storable (c : Dev nD) (k p o : ℕ) : BI.Storable (upEmb : UEmb _ 𝕄) (xferPay J c k p o) := by
  unfold xferPay; (repeat' split) <;> infer_instance

def locDuties (c : Dev nD) : SemLoc sig → Finset (Dev nD)
  | .reg _ => Finset.univ.erase c
  | .dma q => if 6 ≤ q.val ∧ (q.val - 6) % 32 ≠ 0 then {c} else ∅
def locAmount : SemLoc sig → ℕ
  | .reg _ => 1
  | .dma q => if q.val - 6 < 256 then N1 else N2
def locPay (c : Dev nD) (d : Dev nD) : SemLoc sig → sProp 𝕄
  | .reg _ => barPay c d
  | .dma q => xferPay J c ((q.val - 6) / 128) ((q.val - 6) / 32 % 4) ((q.val - 6) % 32)

instance locPay_storable (c d : Dev nD) (s : SemLoc sig) : BI.Storable (upEmb : UEmb _ 𝕄) (locPay J c d s) := by
  cases s <;> (unfold locPay; infer_instance)

def Rd : Rounds.Schedule (GSem nD τ sig) (Dev nD) 𝕄 where
  duties g r := if r = 0 ∧ g.1.2 = .tc then locDuties g.1.1 g.2 else ∅
  unitless _ := False
  amount g _ _ := locAmount g.2
  payload g _ d := locPay J g.1.1 d g.2
  amount_pos g _ _ _ := by
    rcases g with ⟨_, s | q⟩
    · exact Nat.one_pos
    · show 0 < if q.val - 6 < 256 then N1 else N2
      split
      · exact N1_pos
      · exact N2_pos

instance Rd_payload_storable (g : GSem nD τ sig) (r : ℕ) (d : Dev nD) : BI.Storable (upEmb : UEmb _ 𝕄) ((Rd J).payload g r d) :=
  locPay_storable J g.1.1 d g.2

theorem duties_bar (c : Dev nD) : (Rd J).duties (bcell c) 0 = Finset.univ.erase c := by
  show (if (0:ℕ) = 0 ∧ ((c : Thread nD τ)).2 = .tc then locDuties c (.reg barS) else ∅) = Finset.univ.erase c
  rw [if_pos ⟨rfl, rfl⟩]; rfl
theorem duties_dma (c : Dev nD) {j : ℕ} (hj : j < 512) (ho : j % 32 ≠ 0) : (Rd J).duties (dcell c j) 0 = {c} := by
  show (if (0:ℕ) = 0 ∧ ((c : Thread nD τ)).2 = .tc then locDuties c (.dma (dj j)) else ∅) = {c}
  rw [if_pos ⟨rfl, rfl⟩]; unfold locDuties; dsimp only; rw [dj_val hj]; exact if_pos ⟨by omega, by rw [show 6 + j - 6 = j by omega]; exact ho⟩
theorem duties_unused (c : Dev nD) {j : ℕ} (hj : j < 512) (ho : j % 32 = 0) (r : ℕ) : (Rd J).duties (dcell c j) r = ∅ := by
  show (if r = 0 ∧ ((c : Thread nD τ)).2 = .tc then locDuties c (.dma (dj j)) else ∅) = ∅
  split
  · unfold locDuties; dsimp only; rw [dj_val hj]; exact if_neg fun h => h.2 (by rw [show 6 + j - 6 = j by omega]; exact ho)
  · rfl
theorem duties_later (g : GSem nD τ sig) : ∀ r, 1 ≤ r → (Rd J).duties g r = ∅ := fun r hr => if_neg fun h => by omega

theorem amount_bar (c d : Dev nD) : (Rd J).amount (bcell c) 0 d = 1 := rfl
theorem amount_one (c d : Dev nD) {j : ℕ} (hj : j < 256) : (Rd J).amount (dcell c j) 0 d = N1 := by
  show (if (dj j).val - 6 < 256 then N1 else N2) = N1
  rw [dj_val (by omega)]; exact if_pos (by omega)
theorem amount_two (c d : Dev nD) {j : ℕ} (hj : j < 512) (hj' : 256 ≤ j) : (Rd J).amount (dcell c j) 0 d = N2 := by
  show (if (dj j).val - 6 < 256 then N1 else N2) = N2
  rw [dj_val (by omega)]; exact if_neg (by omega)

theorem expect_bar (c : Dev nD) : (Rd J).expect (bcell c) 0 = 31 := by
  unfold Schedule.expect Schedule.amountOf
  rw [duties_bar, Finset.sum_congr rfl fun d _ => amount_bar J c d, Finset.sum_const, Finset.card_erase_of_mem (Finset.mem_univ _), Finset.card_univ, Fintype.card_fin]
  rfl
theorem expect_one (c : Dev nD) {j : ℕ} (hj : j < 256) (ho : j % 32 ≠ 0) : (Rd J).expect (dcell c j) 0 = N1 := by
  unfold Schedule.expect Schedule.amountOf
  rw [duties_dma J c (by omega) ho, Finset.sum_singleton, amount_one J c c hj]
theorem expect_two (c : Dev nD) {j : ℕ} (hj : j < 512) (hj' : 256 ≤ j) (ho : j % 32 ≠ 0) : (Rd J).expect (dcell c j) 0 = N2 := by
  unfold Schedule.expect Schedule.amountOf
  rw [duties_dma J c (by omega) ho, Finset.sum_singleton, amount_two J c c hj hj']

theorem payload_bar (c d : Dev nD) : (Rd J).payload (bcell c) 0 d = barPay c d := rfl
theorem payload_dma (c d : Dev nD) {k p o : ℕ} (hk : k < 4) (hp : p < 4) (ho : o < 32) : (Rd J).payload (dcell c (cix k p o)) 0 d = xferPay J c k p o := by
  show xferPay J c (((dj (cix k p o)).val - 6) / 128) (((dj (cix k p o)).val - 6) / 32 % 4) (((dj (cix k p o)).val - 6) % 32) = _
  rw [dj_val (cix_lt hk hp ho)]
  congr 1 <;> (unfold cix; omega)

theorem rest_bar (c : Dev nD) : bigSep ((Rd J).duties (bcell c) 0 \ ∅) (fun d => (Rd J).payload (bcell c) 0 d) = bigSep (Finset.univ.erase c) (fun d => barPay (F := F) c d) := by
  rw [Finset.sdiff_empty, duties_bar]; rfl
theorem rest_dma (c : Dev nD) {k p o : ℕ} (hk : k < 4) (hp : p < 4) (ho : o < 32) (ho' : 1 ≤ o) :
    bigSep ((Rd J).duties (dcell c (cix k p o)) 0 \ ∅) (fun d => (Rd J).payload (dcell c (cix k p o)) 0 d) = xferPay J c k p o := by
  rw [Finset.sdiff_empty, duties_dma J c (cix_lt hk hp ho) (by unfold cix; omega), bigSep_singleton, payload_dma J c c hk hp ho]

/-! ## What a device owes; the levels -/

/-- The credits device `c` still owes the first, second kind's receive semaphores of phase `p`, from distance `k` on. -/
def O1 (c : Dev nD) (p k : ℕ) : CellTallies nD τ sig Unit := ∑ o ∈ Finset.Ico k 32, tallyAt (dcell (peer c o) (cix 1 p o)) () N1
def O2 (c : Dev nD) (p k : ℕ) : CellTallies nD τ sig Unit := ∑ o ∈ Finset.Ico k 32, tallyAt (dcell (peer c o) (cix 3 p o)) () N2
/-- The signals device `c` still owes. -/
def OB (c : Dev nD) (k : ℕ) : CellTallies nD τ sig Unit := ∑ o ∈ Finset.Ico k 32, tallyAt (bcell (peer c o)) () 1

theorem ico_step {k : ℕ} (hk : k < 32) : Finset.Ico k 32 = insert k (Finset.Ico (k + 1) 32) := by
  ext i; rw [Finset.mem_insert, Finset.mem_Ico, Finset.mem_Ico]; omega
theorem not_mem_ico (k : ℕ) : k ∉ Finset.Ico (k + 1) 32 := by rw [Finset.mem_Ico]; omega
theorem O1_step (c : Dev nD) (p k : ℕ) (hk : k < 32) : O1 c p k = O1 c p (k + 1) + tallyAt (dcell (peer c k) (cix 1 p k)) () N1 := by
  unfold O1; rw [ico_step hk, Finset.sum_insert (not_mem_ico k), add_comm]
theorem O2_step (c : Dev nD) (p k : ℕ) (hk : k < 32) : O2 c p k = O2 c p (k + 1) + tallyAt (dcell (peer c k) (cix 3 p k)) () N2 := by
  unfold O2; rw [ico_step hk, Finset.sum_insert (not_mem_ico k), add_comm]
theorem OB_step (c : Dev nD) (k : ℕ) (hk : k < 32) : OB c k = OB c (k + 1) + tallyAt (bcell (peer c k)) () 1 := by
  unfold OB; rw [ico_step hk, Finset.sum_insert (not_mem_ico k), add_comm]
theorem O1_end (c : Dev nD) (p : ℕ) : O1 c p 32 = 0 := by unfold O1; rw [Finset.Ico_self, Finset.sum_empty]
theorem O2_end (c : Dev nD) (p : ℕ) : O2 c p 32 = 0 := by unfold O2; rw [Finset.Ico_self, Finset.sum_empty]
theorem OB_end (c : Dev nD) : OB c 32 = 0 := by unfold OB; rw [Finset.Ico_self, Finset.sum_empty]

/-- What a device owes after its signals. The order is that of the program. -/
def OX (c : Dev nD) : CellTallies nD τ sig Unit :=
  O1 c 0 1 + (O1 c 1 1 + (O2 c 0 1 + (O1 c 2 1 + (O2 c 1 1 + (O1 c 3 1 + (O2 c 2 1 + O2 c 3 1))))))
def O₀ (c : Dev nD) : CellTallies nD τ sig Unit := OB c 1 + OX c

def L (g : GSem nD τ sig) : Finset Unit := if g.1.2 = .tc then {()} else ∅
/-- Barrier cells at 1; a phase's receive cells at 2, 3, the next one's two higher; everything else at 0. -/
def locLev : SemLoc sig → ℕ
  | .reg _ => 1
  | .dma q => if (q.val - 6) / 128 = 1 then 2 + 2 * ((q.val - 6) / 32 % 4) else if (q.val - 6) / 128 = 3 then 3 + 2 * ((q.val - 6) / 32 % 4) else 0
def lv (g : GSem nD τ sig) (_ : Unit) : ℕ := locLev g.2

theorem L_of_ne (g : GSem nD τ sig) (h : g.1.2 ≠ .tc) : L g = ∅ := if_neg h
theorem L_tc (c : Dev nD) (sm : SemLoc sig) : L ((c : Thread nD τ), sm) = {()} := if_pos rfl

theorem lev_dma {k p o : ℕ} (hk : k < 4) (hp : p < 4) (ho : o < 32) :
    locLev (.dma (dj (cix k p o))) = if k = 1 then 2 + 2 * p else if k = 3 then 3 + 2 * p else 0 := by
  unfold locLev; dsimp only; rw [dj_val (cix_lt hk hp ho)]
  rw [show (6 + cix k p o - 6) / 128 = k by unfold cix; omega, show (6 + cix k p o - 6) / 32 % 4 = p by unfold cix; omega]

/-- Everything owed in `O` is owed to a cell above level `n`. -/
def Above (n : ℕ) (O : CellTallies nD τ sig Unit) : Prop := ∀ (g : GSem nD τ sig) (u : Unit), 0 < O g u → g.1.2 = .tc ∧ n < locLev g.2

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  by_cases h0 : 0 < O g u
  · exact h g u h0
  · exact h' g u (by omega)
theorem above_tally {n : ℕ} (c : Dev nD) (s : SemLoc sig) (N : ℕ) (h : n < locLev s) : Above n (tallyAt ((c : Thread nD τ), s) () N) := fun g u hg => by
  rw [tallyAt_apply] at hg
  by_cases e : g = ((c : Thread nD τ), s) ∧ u = ()
  · rw [e.1]; exact ⟨rfl, h⟩
  · rw [if_neg e] at hg; exact absurd hg (Nat.lt_irrefl 0)
theorem above_sum {n : ℕ} {S : Finset ℕ} {f : ℕ → CellTallies nD τ sig Unit} (h : ∀ i ∈ S, Above n (f i)) : Above n (∑ i ∈ S, f i) :=
  Finset.sum_induction f (Above n) (fun _ _ => above_add) (above_zero n) h
theorem above_O1 {n : ℕ} (c : Dev nD) (p k : ℕ) (hp : p < 4) (h : n < 2 + 2 * p) : Above n (O1 c p k) :=
  above_sum fun o ho => above_tally _ _ _ (by rw [lev_dma (by decide) hp (Finset.mem_Ico.mp ho).2]; exact h)
theorem above_O2 {n : ℕ} (c : Dev nD) (p k : ℕ) (hp : p < 4) (h : n < 3 + 2 * p) : Above n (O2 c p k) :=
  above_sum fun o ho => above_tally _ _ _ (by rw [lev_dma (by decide) hp (Finset.mem_Ico.mp ho).2]; exact h)
theorem above_OB (c : Dev nD) (k : ℕ) : Above 0 (OB c k) := above_sum fun o _ => above_tally _ _ _ Nat.one_pos
theorem above_OX (c : Dev nD) {n : ℕ} (hn : n ≤ 1) : Above n (OX c) := by
  unfold OX
  refine above_add (above_O1 _ _ _ (by decide) (by omega)) (above_add (above_O1 _ _ _ (by decide) (by omega)) (above_add (above_O2 _ _ _ (by decide) (by omega))
    (above_add (above_O1 _ _ _ (by decide) (by omega)) (above_add (above_O2 _ _ _ (by decide) (by omega)) (above_add (above_O1 _ _ _ (by decide) (by omega))
    (above_add (above_O2 _ _ _ (by decide) (by omega)) (above_O2 _ _ _ (by decide) (by omega))))))))

omit [FloatOps F] in
theorem mayWait (c : Dev nD) (s : SemLoc sig) (n : ℕ) (hs : locLev s = n) {O : CellTallies nD τ sig Unit} (hO : Above n O) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_of_eq hs)
    (fun g u hg => (hO g u hg).2)

/-! ## The records: every cell's invariant, and that it is at round 0 -/

/-- A device's cells, in one row: its DMA semaphores by number, its barrier semaphore last. -/
def csem (j : Fin 513) : SemLoc sig := if j.val < 512 then .dma (dj j.val) else .reg barS
def kcell (ck : Dev nD × Fin 513) : GSem nD τ sig := ((ck.1 : Thread nD τ), csem ck.2)

variable (K : Dev nD × Fin 513 → ℕ)

def recs : sProp 𝕄 :=
  iprop((bigSep Finset.univ fun ck : Dev nD × Fin 513 => cellInv ER (Rd J) (K ck) (kcell ck))
    ∗ (bigSep Finset.univ fun ck : Dev nD × Fin 513 => reached ER (kcell ck) 0) ∗ levAts L lv)

instance recs_persistent : BI.Persistent (recs J K) := by unfold recs; infer_instance

theorem kcell_dma (c : Dev nD) {j : ℕ} (hj : j < 512) : kcell (c, ⟨j, by omega⟩) = dcell c j := by
  unfold kcell csem; rw [if_pos (by exact hj)]
theorem kcell_bar (c : Dev nD) : kcell (c, ⟨512, by omega⟩) = bcell c := by
  unfold kcell csem; rw [if_neg (by exact Nat.lt_irrefl _)]

abbrev Kd (c : Dev nD) (j : ℕ) : ℕ := K (c, ⟨j % 513, Nat.mod_lt _ (by decide)⟩)

theorem inv_at (ck : Dev nD × Fin 513) :
    (bigSep Finset.univ fun ck : Dev nD × Fin 513 => (cellInv ER (Rd J) (K ck) (kcell ck) : sProp 𝕄)) ⊢ cellInv ER (Rd J) (K ck) (kcell ck) :=
  bigSep_elim (Finset.mem_univ ck)
omit [FloatOps F] in
theorem reached_at (ck : Dev nD × Fin 513) :
    (bigSep Finset.univ fun ck : Dev nD × Fin 513 => (reached ER (kcell ck) 0 : sProp 𝕄)) ⊢ reached ER (kcell ck) 0 :=
  bigSep_elim (Finset.mem_univ ck)
theorem recs_inv (ck : Dev nD × Fin 513) : recs J K ⊢ cellInv ER (Rd J) (K ck) (kcell ck) := by
  unfold recs
  iintro ⟨H, -, -⟩
  iapply (inv_at J K ck); iexact H
theorem recs_reached (ck : Dev nD × Fin 513) : recs J K ⊢ reached ER (kcell ck) 0 := by
  unfold recs
  iintro ⟨-, H, -⟩
  iapply (reached_at (F := F) ck); iexact H
theorem inv_dma (c : Dev nD) {j : ℕ} (hj : j < 512) : recs J K ⊢ cellInv ER (Rd J) (Kd K c j) (dcell c j) := by
  have h := recs_inv J K (c, ⟨j % 513, Nat.mod_lt _ (by decide)⟩)
  rw [show (⟨j % 513, Nat.mod_lt _ (by decide)⟩ : Fin 513) = ⟨j, by omega⟩ from Fin.ext (Nat.mod_eq_of_lt (by omega)), kcell_dma c hj] at h
  unfold Kd
  rw [show (⟨j % 513, Nat.mod_lt _ (by decide)⟩ : Fin 513) = ⟨j, by omega⟩ from Fin.ext (Nat.mod_eq_of_lt (by omega))]
  exact h
theorem reached_dma (c : Dev nD) {j : ℕ} (hj : j < 512) : recs J K ⊢ reached ER (dcell c j) 0 := by
  have h := recs_reached J K (c, ⟨j, by omega⟩); rw [kcell_dma c hj] at h; exact h
theorem inv_bar (c : Dev nD) : recs J K ⊢ cellInv ER (Rd J) (K (c, ⟨512, by omega⟩)) (bcell c) := by
  have h := recs_inv J K (c, ⟨512, by omega⟩); rw [kcell_bar c] at h; exact h
theorem reached_bar (c : Dev nD) : recs J K ⊢ reached ER (bcell c) 0 := by
  have h := recs_reached J K (c, ⟨512, by omega⟩); rw [kcell_bar c] at h; exact h

end Cert.Ring
-- ==== Proof.Steps.lean ====
/-
# One step of the kernel at a time

The places the transfers read and write, in the schedule's terms, and what a transfer leaves there.
-/
module

public import proofs.«01_k».proof.Proof.Proto

@[expose] public section

noncomputable section

namespace Cert.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
abbrev MM (F : FTy → Type) [FloatOps F] : Type := MT nD τ sig Unit (Elt F) ℕ UU ℕ

/-! ## The semaphores -/

abbrev semAt (A : DmaSems sig S4x32) (p o : ℕ) (h : ∀ a, (![p, o] : Fin 2 → ℕ) a + S1x1.size a ≤ S4x32.size a) : DmaSem sig :=
  ((A.slice (Rect.unit (s := S4x32) ![p, o] S1x1.size h)).squeeze S_ squeezes_S1x1_S_).sem

theorem semAt_val {base : ℕ} (hb : base + S4x32.numel ≤ sig.nDmaSem) {p o : ℕ} {h} :
    (semAt (SemArray.consecutive base S4x32 hb) p o h).val = base + (32 * p + o) := by
  show base + (S4x32.rowMajor _).val = _
  rw [Shape.rowMajor_val_two]
  congr 1
  rw [Rect.emb_apply, Rect.emb_apply]
  generalize Shape.reshapeEquiv _ _ = z
  have z0 : (z 0).val = 0 := Nat.lt_one_iff.mp (z 0).isLt
  have z1 : (z 1).val = 0 := Nat.lt_one_iff.mp (z 1).isLt
  show (p + 1 * (z 0).val) * 32 + (o + 1 * (z 1).val) = _
  rw [z0, z1]
  omega

theorem sem4 {p o : ℕ} (hp : p < 4) (ho : o < 32) {h} : semAt cc0_scratch4 p o h = dj (cix 0 p o) :=
  Fin.ext (by rw [dj_val (cix_lt (by decide) hp ho)]; exact (semAt_val _).trans (by unfold cix; omega))
theorem sem5 {p o : ℕ} (hp : p < 4) (ho : o < 32) {h} : semAt cc0_scratch5 p o h = dj (cix 1 p o) :=
  Fin.ext (by rw [dj_val (cix_lt (by decide) hp ho)]; exact (semAt_val _).trans (by unfold cix; omega))
theorem sem6 {p o : ℕ} (hp : p < 4) (ho : o < 32) {h} : semAt cc0_scratch6 p o h = dj (cix 2 p o) :=
  Fin.ext (by rw [dj_val (cix_lt (by decide) hp ho)]; exact (semAt_val _).trans (by unfold cix; omega))
theorem sem7 {p o : ℕ} (hp : p < 4) (ho : o < 32) {h} : semAt cc0_scratch7 p o h = dj (cix 3 p o) :=
  Fin.ext (by rw [dj_val (cix_lt (by decide) hp ho)]; exact (semAt_val _).trans (by unfold cix; omega))

/-! ## The places -/

abbrev sbAt (off : Fin 2 → ℕ) (inb : ∀ a, off a + S8x520.size a ≤ S1024x520.size a) (hr : ∀ a, (Rect.unit (s := S1024x520) off S8x520.size inb).stride a = 1) : Memref sig .tc .vmem S8x520 .bf16 :=
  sbM.slice (Rect.unit (s := S1024x520) off S8x520.size inb) hr
abbrev stAt (p o : ℕ) (inb : ∀ a, (![p, o, 0, 0] : Fin 4 → ℕ) a + S1x1x8x520.size a ≤ S4x32x8x520.size a)
    (hr : ∀ a, (Rect.unit (s := S4x32x8x520) ![p, o, 0, 0] S1x1x8x520.size inb).stride a = 1) : Memref sig .tc .vmem S8x520 .bf16 :=
  (stM.slice (Rect.unit (s := S4x32x8x520) ![p, o, 0, 0] S1x1x8x520.size inb) hr).squeeze S8x520 squeezes_S1x1x8x520_S8x520
abbrev osAt (off : Fin 3 → ℕ) (inb : ∀ a, off a + S1x8x512.size a ≤ S2x512x512.size a) (hr : ∀ a, (Rect.unit (s := S2x512x512) off S1x8x512.size inb).stride a = 1) : Memref sig .tc .vmem S8x512 .bf16 :=
  (osM.slice (Rect.unit (s := S2x512x512) off S1x8x512.size inb) hr).squeeze S8x512 squeezes_S1x8x512_S8x512

theorem set_sb {off inb hr} {p : ℕ} {t : Dev nD} (hoff : off = ![256 * p + 8 * t.val, 0]) : (sbAt off inb hr).view.set = sbSet p t := by
  subst hoff
  show ((View.whole cc0_scratch1).slice _).set = _
  rw [View.set_slice_whole]
  ext i
  rw [Rect.mem_set_unit, mem_sbSet]
  have h1 : (i 1).val < 520 := (i 1).isLt
  constructor
  · intro h
    have := h 0
    have e : 256 * p + 8 * t.val ≤ (i 0).val ∧ (i 0).val < 256 * p + 8 * t.val + 8 := this
    omega
  · intro h a
    fin_cases a
    · show 256 * p + 8 * t.val ≤ (i 0).val ∧ (i 0).val < 256 * p + 8 * t.val + 8
      omega
    · show 0 ≤ (i 1).val ∧ (i 1).val < 0 + 520
      omega

theorem set_st {p o : ℕ} {inb hr} : (stAt p o inb hr).view.set = stSet p o := by
  show (((View.whole cc0_scratch2).slice _).reshape _ _).set = _
  rw [View.set_reshape, View.set_slice_whole]
  ext i
  rw [Rect.mem_set_unit, mem_stSet]
  have h2 : (i 2).val < 8 := (i 2).isLt
  have h3 : (i 3).val < 520 := (i 3).isLt
  constructor
  · intro h
    have e : p ≤ (i 0).val ∧ (i 0).val < p + 1 := h 0
    have e' : o ≤ (i 1).val ∧ (i 1).val < o + 1 := h 1
    omega
  · intro h a
    fin_cases a
    · show p ≤ (i 0).val ∧ (i 0).val < p + 1
      omega
    · show o ≤ (i 1).val ∧ (i 1).val < o + 1
      omega
    · show 0 ≤ (i 2).val ∧ (i 2).val < 0 + 8
      omega
    · show 0 ≤ (i 3).val ∧ (i 3).val < 0 + 520
      omega

theorem set_os {off inb hr} {p : ℕ} {t : Dev nD} (hoff : off = ![p / 2, 256 * (p % 2) + 8 * t.val, 0]) : (osAt off inb hr).view.set = osSet p t := by
  subst hoff
  show (((View.whole cc0_scratch3).slice _).reshape _ _).set = _
  rw [View.set_reshape, View.set_slice_whole]
  ext i
  rw [Rect.mem_set_unit, mem_osSet]
  have ht : t.val < 32 := t.isLt
  have h1 : (i 1).val < 512 := (i 1).isLt
  have h2 : (i 2).val < 512 := (i 2).isLt
  constructor
  · intro h
    have e : p / 2 ≤ (i 0).val ∧ (i 0).val < p / 2 + 1 := h 0
    have e' : 256 * (p % 2) + 8 * t.val ≤ (i 1).val ∧ (i 1).val < 256 * (p % 2) + 8 * t.val + 8 := h 1
    omega
  · intro h a
    fin_cases a
    · show p / 2 ≤ (i 0).val ∧ (i 0).val < p / 2 + 1
      omega
    · show 256 * (p % 2) + 8 * t.val ≤ (i 1).val ∧ (i 1).val < 256 * (p % 2) + 8 * t.val + 8
      omega
    · show 0 ≤ (i 2).val ∧ (i 2).val < 0 + 512
      omega

/-! ## What a transfer leaves -/

/-- A transfer of the first kind leaves the staging slot as `stV` says. -/
theorem land_st (J : Dev nD → Ins F) {off inb hr} {p o : ℕ} {inb' hr'} (c : Dev nD) (hoff : off = ![256 * p + 8 * (peer c o).val, 0])
    (fd : (cc0_scratch2 : Ref sig .tc).ty.Contents (Elt F)) :
    ∀ i ∈ (stAt p o inb' hr').view.set,
      ((stAt p o inb' hr').view.write (Elt F) fd ((sbAt off inb hr).view.read (Elt F) (sbV (J c))) Finset.univ) i = stV J (peer c o) i := by
  intro i hi
  rw [set_st, mem_stSet] at hi
  subst hoff
  have h2 : (i 2).val < 8 := (i 2).isLt
  have hi' : i = (stAt p o inb' hr').view.emb (ix2 ⟨(i 2).val, h2⟩ (i 3)) := by
    show i = (Rect.unit (s := S4x32x8x520) ![p, o, 0, 0] S1x1x8x520.size inb').emb (Shape.reshapeEquiv _ (ix2 (⟨(i 2).val, h2⟩ : Fin 8) (i 3 : Fin 520)))
    refine Eq.trans ?_ (congrArg (Rect.unit (s := S4x32x8x520) ![p, o, 0, 0] S1x1x8x520.size inb').emb
      (reshapeEquiv_ix2_11ab (a := 8) (b := 520) squeezes_S1x1x8x520_S8x520.numel_eq ⟨(i 2).val, h2⟩ (i 3))).symm
    refine funext fun a => Fin.ext ?_
    rw [Rect.emb_apply]
    fin_cases a
    · show (i 0).val = p + 1 * 0
      omega
    · show (i 1).val = o + 1 * 0
      omega
    · show (i 2).val = 0 + 1 * (i 2).val
      omega
    · show (i 3).val = 0 + 1 * (i 3).val
      omega
  rw [hi', View.write_emb_of_mem (h := Finset.mem_univ _), View.read_apply, ← hi']
  show sbV (J c) ((Rect.unit (s := S1024x520) ![256 * p + 8 * (peer c o).val, 0] S8x520.size inb).emb (ix2 (⟨(i 2).val, h2⟩ : Fin 8) (i 3 : Fin 520)))
    = sbV (J (back (peer c o) (i 1).val)) (ix2 (⟨256 * (i 0).val + 8 * (peer c o).val + (i 2).val, _⟩ : Fin 1024) (i 3 : Fin 520))
  rw [hi.2, back_peer]
  refine congrArg (sbV (J c)) (funext fun a => Fin.ext ?_)
  rw [Rect.emb_apply]
  fin_cases a
  · show 256 * p + 8 * (peer c o).val + 1 * (i 2).val = 256 * (i 0).val + 8 * (peer c o).val + (i 2).val
    omega
  · show 0 + 1 * (i 3).val = (i 3).val
    omega

/-- A transfer of the second kind leaves the rows it moves as they are at their source. -/
theorem land_os (J : Dev nD → Ins F) {off inb hr} (fd : (cc0_scratch3 : Ref sig .tc).ty.Contents (Elt F)) :
    ∀ i ∈ (osAt off inb hr).view.set,
      ((osAt off inb hr).view.write (Elt F) fd ((osAt off inb hr).view.read (Elt F) (osV J)) Finset.univ) i = osV J i := by
  intro i hi
  obtain ⟨j, -, rfl⟩ := Finset.mem_map.mp hi
  rw [View.write_emb_of_mem (h := Finset.mem_univ _), View.read_apply]
  rfl

/-! ## The devices and the offsets the kernel computes -/

/-- The device number the kernel computes from its own and a distance. -/
def devW (c : Dev nD) (w : BitVec 32) : ℕ :=
  (Scalar.addi 0#32 (Scalar.muli (Scalar.remsi (Scalar.addi (Scalar.remsi (Scalar.divsi (Dev.word c) 1#32) 32#32) w) 32#32) 1#32)).toNat
theorem devW_eq (c : Dev nD) {o : ℕ} (ho : o < 32) : devW c (BitVec.ofNat 32 o) = (c.val + o) % 32 := by
  revert c
  have h : ∀ (o : Fin 32) (c : Dev nD), devW c (BitVec.ofNat 32 o.val) = (c.val + o.val) % 32 := by decide +kernel
  exact h ⟨o, ho⟩
theorem devW_peer (c : Dev nD) {o : ℕ} (ho : o < 32) {h : devW c (BitVec.ofNat 32 o) < nD} : (⟨devW c (BitVec.ofNat 32 o), h⟩ : Dev nD) = peer c o :=
  Fin.ext (devW_eq c ho)
theorem off1_eq (c : Dev nD) {p o : ℕ} (hp : p < 4) (ho : 1 ≤ o) (ho' : o < 32) :
    k0_off1 c (BitVec.ofNat 32 (256 * p)) (BitVec.ofNat 32 o) = ![256 * p + 8 * (peer c o).val, 0] := by
  have h := k0_off1_eq c ⟨p, hp⟩ ⟨o - 1, by omega⟩
  dsimp only at h
  rw [show 1 + (o - 1) = o by omega, show c.val + (o - 1) + 1 = c.val + o by omega] at h
  exact h

/-! ## Steps -/

abbrev 𝒱₀ : Variants := Variants.none
/-- The weakest precondition of a program of device `c`. -/
abbrev W (c : Dev nD) {α : Type} (m : Prog (TpuEff nD τ sig (Elt F) Λ₀ .tc) α) (Q : α → sProp 𝕄) : sProp 𝕄 :=
  wp frame (wpE (defs₀ (F := F)) 𝒱₀ (c : Thread nD τ) none) Set.univ m Q

variable (J : Dev nD → Ins F) (K : Dev nD × Fin 513 → ℕ) (c : Dev nD)
variable {α β : Type} {Q : α → sProp (MM F)} {P R : sProp (MM F)}

theorem step_part {m : Prog (TpuEff nD τ sig (Elt F) Λ₀ .tc) β} {k : β → Prog (TpuEff nD τ sig (Elt F) Λ₀ .tc) α}
    (h : P ⊢ W c m fun a => W c (k a) Q) : P ⊢ W c (m >>= k) Q := by
  unfold W at *
  rw [wp_bind]; exact h
theorem step_ret {a : α} (h : P ⊢ Q a) : P ⊢ W c (pure a) Q := by
  unfold W
  rw [Prog.pure_eq_ret, wp_ret]
  iintro H
  imodintro
  iapply h
  iexact H
theorem step_deviceId {k : Dev nD → Prog (TpuEff nD τ sig (Elt F) Λ₀ .tc) α} (h : P ⊢ W c (k c) Q) : P ⊢ W c (Prog.lift .deviceId >>= k) Q := by
  unfold W at *
  rw [Prog.bind_lift, wp_deviceId]
  exact h

omit [FloatOps F] in
theorem bigSep_ico {k : ℕ} (hk : k < 32) (f : ℕ → sProp 𝕄) : bigSep (Finset.Ico k 32) f = iprop(f k ∗ bigSep (Finset.Ico (k + 1) 32) f) := by
  rw [ico_step hk]; exact bigSep_insert (not_mem_ico k)

/-- What device `c` owes, whatever it has waited for. -/
def owesE (O : CellTallies nD τ sig Unit) : sProp 𝕄 := iprop(∃ Ws : Waits sig Unit, owes (c : Thread nD τ) O Ws)

/-- The signals from distance `o` on still to be sent. -/
def SigSt (o : ℕ) : sProp 𝕄 :=
  iprop(recs J K ∗ owesE c (OB c o + OX c) ∗ bigSep (Finset.Ico o 32) fun o => iprop(dutyTok ER (bcell (peer c o)) 0 c ∗ barPay (peer c o) c))

theorem peer_ne {o : ℕ} (h1 : 1 ≤ o) (h2 : o < 32) : peer c o ≠ c := fun h => by
  have := congrArg Fin.val h
  rw [peer_val] at this
  have hc : c.val < 32 := c.isLt
  omega

theorem step_signal {o : ℕ} (h1 : 1 ≤ o) (h2 : o < 32) {hdv : devW c (BitVec.ofNat 32 o) < nD} {k : PUnit → Prog (TpuEff nD τ sig (Elt F) Λ₀ .tc) α}
    (h : iprop(SigSt J K c (o + 1) ∗ R) ⊢ W c (k ⟨⟩) Q) :
    iprop(SigSt J K c o ∗ R) ⊢ W c (semSignalWord (⟨devW c (BitVec.ofNat 32 o), hdv⟩ : Dev nD) barS 1#32 >>= k) Q := by
  unfold SigSt owesE at *
  rw [bigSep_ico h2, OB_step c o h2, devW_peer c h2]
  iintro ⟨⟨#Hr, ⟨%Ws, HO⟩, ⟨Htok, Hpay⟩, Hrest⟩, HR⟩
  iapply (Rounds.wp_signal 𝒱₀ ER (Rd J) (c : Thread nD τ) none (dst := (peer c o : Thread nD τ)) (κ := K (peer c o, ⟨512, by omega⟩))
      (d := c) (by rw [duties_bar]; exact Finset.mem_erase.mpr ⟨(peer_ne c h1 h2).symm, Finset.mem_univ _⟩) ((amount_bar J (peer c o) c).trans rfl) () (OB c (o + 1) + OX c)
      (by rw [add_right_comm]))
    $$ [HO Htok Hpay]
  · isplitr; · iapply (inv_bar J K (peer c o)); iexact Hr
    isplitl [HO]; · iexact HO
    isplitl [Htok]; · iexact Htok
    isplitl [Hpay]; · rw [payload_bar]; iexact Hpay
    iapply (reached_bar J K (peer c o)); iexact Hr
  iintro HO
  iapply h
  isplitr [HR]
  · isplitr; · iexact Hr
    isplitl [HO]; · iexists Ws; iexact HO
    iexact Hrest
  · iexact HR

/-! ### The barrier -/

theorem peer_injOn : Set.InjOn (peer c) (Finset.Ico 1 32 : Finset ℕ) := fun i hi j hj h => by
  have e := congrArg Fin.val h
  rw [peer_val, peer_val] at e
  have hc : c.val < 32 := c.isLt
  have h1 := Finset.mem_Ico.mp (Finset.mem_coe.mp hi)
  have h2 := Finset.mem_Ico.mp (Finset.mem_coe.mp hj)
  omega
theorem others_eq : (Finset.univ.erase c : Finset (Dev nD)) = (Finset.Ico 1 32).image (peer c) := by
  ext t
  rw [Finset.mem_erase, Finset.mem_image]
  have hc : c.val < 32 := c.isLt
  have ht : t.val < 32 := t.isLt
  constructor
  · rintro ⟨h, -⟩
    have h' : t.val ≠ c.val := fun e => h (Fin.ext e)
    exact ⟨(t.val + 32 - c.val) % 32, Finset.mem_Ico.mpr (by omega), Fin.ext (by rw [peer_val]; omega)⟩
  · rintro ⟨o, ho, rfl⟩
    exact ⟨peer_ne c (Finset.mem_Ico.mp ho).1 (Finset.mem_Ico.mp ho).2, Finset.mem_univ _⟩
omit [FloatOps F] in
theorem bigSep_image_injOn {s : Finset ℕ} {f : ℕ → Dev nD} (hf : Set.InjOn f s) (Φ : Dev nD → sProp 𝕄) :
    bigSep (s.image f) Φ = bigSep s fun i => Φ (f i) := Finset.fold_image hf
omit [FloatOps F] in
theorem bigSep_others (Φ : Dev nD → sProp 𝕄) : bigSep (Finset.univ.erase c) Φ = bigSep (Finset.Ico 1 32) fun o => Φ (peer c o) := by
  rw [others_eq c, bigSep_image_injOn (peer_injOn c)]

/-- What device `c` holds once its barrier is passed: the places it will write into. -/
def gotten : sProp 𝕄 := bigSep (Finset.Ico 1 32) fun o => bigSep (Finset.range 4) fun p => iprop(stAny (peer c o) p o ∗ osAny (peer c o) p c)

omit [FloatOps F] in
theorem gotten_eq : bigSep (Finset.univ.erase c) (fun d => barPay (F := F) c d) = gotten c := by
  rw [bigSep_others c]
  unfold gotten barPay
  refine bigSep_congr fun o ho => ?_
  have ho' := Finset.mem_Ico.mp ho
  have hc : c.val < 32 := c.isLt
  rw [show ((peer c o).val + (32 - c.val)) % 32 = o by rw [peer_val]; omega]

theorem may_wait (s : SemLoc sig) (n : ℕ) (hs : locLev s = n) {O : CellTallies nD τ sig Unit} (hO : Above n O) :
    recs J K ⊢ MayWait (c : Thread nD τ) s () O := by
  unfold recs
  iintro ⟨-, -, H⟩
  iapply (mayWait (F := F) c s n hs hO)
  iexact H

def BarSt : sProp 𝕄 := iprop(cred (tallyAt (bcell c) () 31) ∗ atPos ER (bcell c) 0 ∅ 0)

theorem step_barrier {k : PUnit → Prog (TpuEff nD τ sig (Elt F) Λ₀ .tc) α}
    (h : iprop((recs J K ∗ owesE c (OX c) ∗ gotten c ∗ semVal (bcell c) 0) ∗ R) ⊢ W c (k ⟨⟩) Q) :
    iprop(SigSt J K c 32 ∗ BarSt c ∗ R) ⊢ W c (semWaitWord barS 31#32 >>= k) Q := by
  unfold SigSt owesE BarSt
  unfold owesE at h
  rw [OB_end, zero_add]
  iintro ⟨⟨#Hr, ⟨%Ws, HO⟩, -⟩, ⟨Hc, Hat⟩, HR⟩
  iapply (Rounds.wp_wait_rest_token 𝒱₀ ER (Rd J) (c : Thread nD τ) none (κ := K (c, ⟨512, by omega⟩))
      (wpE_semWait_eq 𝒱₀ (c : Thread nD τ) none Set.univ) (Set.mem_univ _) () (O := OX c) (W := Ws) (R := 0) (m := 0) (T := ∅)
      (by rw [expect_bar]; decide)) $$ [Hc HO Hat]
  · isplitr; · iapply (inv_bar J K c); iexact Hr
    isplitl [Hc]; · iexact Hc
    isplitl [HO]; · iexact HO
    isplitr; · iapply (may_wait J K c (.reg barS) 1 rfl (above_OX c (le_refl 1))); iexact Hr
    iexact Hat
  iintro ⟨HO, Hat, -, Hpay⟩
  imod (Rounds.cell_close ER (Rd J) (Set.mem_univ (K (c, ⟨512, by omega⟩))) (fun h => h) (R := 0 + 1) (duties_later J (bcell c))) $$ [Hat] with Hz
  · isplitr; · iapply (inv_bar J K c); iexact Hr
    iexact Hat
  ihave Hp := (Entails.of_eq ((rest_bar J c).trans (gotten_eq c))) $$ Hpay
  iapply h
  isplitr [HR]
  · isplitr; · iexact Hr
    isplitl [HO]; · iexists _; iexact HO
    isplitl [Hp]; · iexact Hp
    iexact Hz
  · iexact HR

/-! ### Waits on the kernel's own semaphores -/

/-- What a wait on the semaphore of kind `k`, phase `p`, distance `o` takes, -/
def waitRes (k N p o : ℕ) : sProp 𝕄 := iprop(cred (tallyAt (dcell c (cix k p o)) () N) ∗ atPos ER (dcell c (cix k p o)) 0 ∅ 0)
/-- and what it gives. -/
def doneRes (k p o : ℕ) : sProp 𝕄 := iprop(xferPay J c k p o ∗ semVal (dcell c (cix k p o)) 0)
/-- The waits of kind `k` in phase `p`, those below distance `i` done. -/
def WSt (k N p i : ℕ) : sProp 𝕄 :=
  iprop(bigSep (Finset.Ico i 32) (fun o => waitRes c k N p o) ∗ bigSep (Finset.Ico 1 i) (fun o => doneRes J c k p o))

theorem ico_top {k : ℕ} (hk : 1 ≤ k) : Finset.Ico 1 (k + 1) = insert k (Finset.Ico 1 k) := by
  ext i; rw [Finset.mem_insert, Finset.mem_Ico, Finset.mem_Ico]; omega
omit [FloatOps F] in
theorem bigSep_top {k : ℕ} (hk : 1 ≤ k) (f : ℕ → sProp 𝕄) : bigSep (Finset.Ico 1 (k + 1)) f = iprop(f k ∗ bigSep (Finset.Ico 1 k) f) := by
  rw [ico_top hk]; exact bigSep_insert (by rw [Finset.mem_Ico]; omega)

variable {O : CellTallies nD τ sig Unit}

theorem wait_dma {k p o N n : ℕ} (hk : k < 4) (hp : p < 4) (h1 : 1 ≤ o) (ho : o < 32) (hN : (Rd J).expect (dcell c (cix k p o)) 0 = N)
    (hn : locLev (.dma (dj (cix k p o))) = n) (hO : Above n O) {sp sp' : Space} {s s' : Shape} {e e' : EltTy} {κ' : Kind}
    {src : Memref sig .tc sp' s' e'} {dst : Memref sig κ' sp s e} {hsrc : src.view.WordExact} {hdst : dst.view.WordExact}
    (hcr : dst.view.dmaCredit = N) {kk : PUnit → Prog (TpuEff nD τ sig (Elt F) Λ₀ .tc) α} :
    iprop(recs J K ∗ owesE c O ∗ waitRes c k N p o)
      ⊢ iprop(((owesE c O ∗ doneRes J c k p o) -∗ W c (kk ⟨⟩) Q) -∗ W c (.op (.waitDma2 (dj (cix k p o)) src dst hsrc hdst) kk) Q) := by
  subst hcr
  unfold owesE waitRes doneRes
  iintro ⟨#Hr, ⟨%Ws, HO⟩, Hc, Hat⟩ Hk
  iapply (Rounds.wp_wait_rest_token 𝒱₀ ER (Rd J) (c : Thread nD τ) none (κ := Kd K c (cix k p o))
      (wpE_waitDma2_eq 𝒱₀ (c : Thread nD τ) none Set.univ) (Set.mem_univ _) () (O := O) (W := Ws) (R := 0) (m := 0) (T := ∅)
      (by rw [Nat.zero_add, hN])) $$ [Hc HO Hat]
  · isplitr; · iapply (inv_dma J K c (cix_lt hk hp ho)); iexact Hr
    isplitl [Hc]; · iexact Hc
    isplitl [HO]; · iexact HO
    isplitr; · iapply (may_wait J K c (.dma (dj (cix k p o))) n hn hO); iexact Hr
    iexact Hat
  iintro ⟨HO, Hat, -, Hpay⟩
  imod (Rounds.cell_close ER (Rd J) (Set.mem_univ (Kd K c (cix k p o))) (fun h => h) (R := 0 + 1) (duties_later J (dcell c (cix k p o)))) $$ [Hat] with Hz
  · isplitr; · iapply (inv_dma J K c (cix_lt hk hp ho)); iexact Hr
    iexact Hat
  ihave Hp := (Entails.of_eq (rest_dma J c hk hp ho h1)) $$ Hpay
  iapply Hk
  isplitl [HO]; · iexists _; iexact HO
  isplitl [Hp]; · iexact Hp
  iexact Hz

/-- The state while a phase's transfers of the kinds `k`, `k'` are waited for. -/
def WW (k k' N p i j : ℕ) (O : CellTallies nD τ sig Unit) : sProp 𝕄 :=
  iprop(recs J K ∗ owesE c O ∗ WSt J c k N p i ∗ WSt J c k' N p j)

theorem step_wait_fst {k k' p i j N n : ℕ} (hk : k < 4) (hp : p < 4) (h1 : 1 ≤ i) (ho : i < 32) (hN : (Rd J).expect (dcell c (cix k p i)) 0 = N)
    (hn : locLev (.dma (dj (cix k p i))) = n) (hO : Above n O) {sp sp' : Space} {s s' : Shape} {e e' : EltTy} {κ' : Kind}
    {src : Memref sig .tc sp' s' e'} {dst : Memref sig κ' sp s e} {hsrc : src.view.WordExact} {hdst : dst.view.WordExact}
    (hcr : dst.view.dmaCredit = N) {sm : DmaSem sig} (hsm : sm = dj (cix k p i)) {kk : PUnit → Prog (TpuEff nD τ sig (Elt F) Λ₀ .tc) α}
    (h : iprop(WW J K c k k' N p (i + 1) j O ∗ R) ⊢ W c (kk ⟨⟩) Q) :
    iprop(WW J K c k k' N p i j O ∗ R) ⊢ W c (Prog.lift (.waitDma2 sm src dst hsrc hdst) >>= kk) Q := by
  subst hsm
  rw [Prog.bind_lift]
  unfold WW WSt at *
  rw [bigSep_ico ho]
  rw [bigSep_top h1] at h
  iintro ⟨⟨#Hr, HO, ⟨⟨Hw, Hw'⟩, Hd⟩, Hj⟩, HR⟩
  iapply (wait_dma J K c hk hp h1 ho hN hn hO hcr) $$ [HO Hw]
  · isplitr; · iexact Hr
    isplitl [HO]; · iexact HO
    iexact Hw
  iintro ⟨HO, Hd'⟩
  iapply h
  isplitr [HR]
  · isplitr; · iexact Hr
    isplitl [HO]; · iexact HO
    isplitr [Hj]
    · isplitl [Hw']; · iexact Hw'
      isplitl [Hd']; · iexact Hd'
      iexact Hd
    · iexact Hj
  · iexact HR

theorem WW_swap {k k' p i j N : ℕ} : WW J K c k k' N p i j O = WW J K c k' k N p j i O := by
  unfold WW
  exact congrArg (fun X => iprop(recs J K ∗ owesE c O ∗ X)) (BI.Entails.antisymm (sep_comm (PROP := sProp (MM F))).1 (sep_comm (PROP := sProp (MM F))).1)

theorem step_wait_snd {k k' p i j N n : ℕ} (hk : k' < 4) (hp : p < 4) (h1 : 1 ≤ j) (ho : j < 32) (hN : (Rd J).expect (dcell c (cix k' p j)) 0 = N)
    (hn : locLev (.dma (dj (cix k' p j))) = n) (hO : Above n O) {sp sp' : Space} {s s' : Shape} {e e' : EltTy} {κ' : Kind}
    {src : Memref sig .tc sp' s' e'} {dst : Memref sig κ' sp s e} {hsrc : src.view.WordExact} {hdst : dst.view.WordExact}
    (hcr : dst.view.dmaCredit = N) {sm : DmaSem sig} (hsm : sm = dj (cix k' p j)) {kk : PUnit → Prog (TpuEff nD τ sig (Elt F) Λ₀ .tc) α}
    (h : iprop(WW J K c k k' N p i (j + 1) O ∗ R) ⊢ W c (kk ⟨⟩) Q) :
    iprop(WW J K c k k' N p i j O ∗ R) ⊢ W c (Prog.lift (.waitDma2 sm src dst hsrc hdst) >>= kk) Q := by
  rw [WW_swap] at h ⊢
  exact step_wait_fst J K c hk hp h1 ho hN hn hO hcr hsm h

/-- The wait for a transfer of the first kind to have been sent, -/
theorem step_wait0 {p i j : ℕ} (hp : p < 4) (h1 : 1 ≤ i) (ho : i < 32) (hO : Above 0 O) {off inb hr inb' hr' hsrc hdst hs}
    {kk : PUnit → Prog (TpuEff nD τ sig (Elt F) Λ₀ .tc) α} (h : iprop(WW J K c 0 1 N1 p (i + 1) j O ∗ R) ⊢ W c (kk ⟨⟩) Q) :
    iprop(WW J K c 0 1 N1 p i j O ∗ R) ⊢ W c (Prog.lift (.waitDma2 (semAt cc0_scratch4 p i hs) (stAt p i inb' hr') (sbAt off inb hr) hsrc hdst) >>= kk) Q :=
  step_wait_fst J K c (by decide) hp h1 ho (expect_one J c (by unfold cix; omega) (by unfold cix; omega)) ((lev_dma (k := 0) (by decide) hp ho).trans rfl) hO rfl (sem4 hp ho) h
/-- and for one to have arrived; -/
theorem step_wait1 {p i j : ℕ} (hp : p < 4) (h1 : 1 ≤ j) (ho : j < 32) (hO : Above (2 + 2 * p) O) {off inb hr inb' hr' hsrc hdst hs}
    {kk : PUnit → Prog (TpuEff nD τ sig (Elt F) Λ₀ .tc) α} (h : iprop(WW J K c 0 1 N1 p i (j + 1) O ∗ R) ⊢ W c (kk ⟨⟩) Q) :
    iprop(WW J K c 0 1 N1 p i j O ∗ R) ⊢ W c (Prog.lift (.waitDma2 (semAt cc0_scratch5 p j hs) (sbAt off inb hr) (stAt p j inb' hr') hsrc hdst) >>= kk) Q :=
  step_wait_snd J K c (by decide) hp h1 ho (expect_one J c (by unfold cix; omega) (by unfold cix; omega)) ((lev_dma (k := 1) (by decide) hp ho).trans rfl) hO rfl (sem5 hp ho) h
/-- the same for the second kind. -/
theorem step_wait2 {p i j : ℕ} (hp : p < 4) (h1 : 1 ≤ i) (ho : i < 32) (hO : Above 0 O) {off inb hr off' inb' hr' hsrc hdst hs}
    {kk : PUnit → Prog (TpuEff nD τ sig (Elt F) Λ₀ .tc) α} (h : iprop(WW J K c 2 3 N2 p (i + 1) j O ∗ R) ⊢ W c (kk ⟨⟩) Q) :
    iprop(WW J K c 2 3 N2 p i j O ∗ R) ⊢ W c (Prog.lift (.waitDma2 (semAt cc0_scratch6 p i hs) (osAt off inb hr) (osAt off' inb' hr') hsrc hdst) >>= kk) Q :=
  step_wait_fst J K c (by decide) hp h1 ho (expect_two J c (cix_lt (by decide) hp ho) (by unfold cix; omega) (by unfold cix; omega)) ((lev_dma (k := 2) (by decide) hp ho).trans rfl) hO rfl (sem6 hp ho) h
theorem step_wait3 {p i j : ℕ} (hp : p < 4) (h1 : 1 ≤ j) (ho : j < 32) (hO : Above (3 + 2 * p) O) {off inb hr off' inb' hr' hsrc hdst hs}
    {kk : PUnit → Prog (TpuEff nD τ sig (Elt F) Λ₀ .tc) α} (h : iprop(WW J K c 2 3 N2 p i (j + 1) O ∗ R) ⊢ W c (kk ⟨⟩) Q) :
    iprop(WW J K c 2 3 N2 p i j O ∗ R) ⊢ W c (Prog.lift (.waitDma2 (semAt cc0_scratch7 p j hs) (osAt off inb hr) (osAt off' inb' hr') hsrc hdst) >>= kk) Q :=
  step_wait_snd J K c (by decide) hp h1 ho (expect_two J c (cix_lt (by decide) hp ho) (by unfold cix; omega) (by unfold cix; omega)) ((lev_dma (k := 3) (by decide) hp ho).trans rfl) hO rfl (sem7 hp ho) h

end Cert.Ring
-- ==== Proof.Sends.lean ====
/-
# The transfers

One transfer of either kind: the sender gives the rows it sends, the places at the receiver it was handed at the
barrier, and its two duties; it keeps the credit of the send semaphore.
-/
module

public import proofs.«01_k».proof.Proof.Steps

@[expose] public section

noncomputable section

namespace Cert.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (J : Dev nD → Ins F) (K : Dev nD × Fin 513 → ℕ) (c : Dev nD)
variable {α β : Type} {Q : α → sProp (MM F)} {P R : sProp (MM F)}

/-- The duties of device `c` at the send and the receive semaphore of one transfer. -/
def duty2 (ks kr p o : ℕ) : sProp 𝕄 := iprop(dutyTok ER (dcell c (cix ks p o)) 0 c ∗ dutyTok ER (dcell (peer c o) (cix kr p o)) 0 (peer c o))
/-- What a transfer of the first, second kind takes, -/
def give1 (p o : ℕ) : sProp 𝕄 := iprop(sbPts J c p (peer c o) ∗ stAny (peer c o) p o ∗ duty2 c 0 1 p o)
def give2 (p o : ℕ) : sProp 𝕄 := iprop(osPts J c p c (shr o) ∗ osAny (peer c o) p c ∗ duty2 c 2 3 p o)
/-- and the state before the one to distance `o`. -/
def S1St (p o : ℕ) (O : CellTallies nD τ sig Unit) : sProp 𝕄 :=
  iprop(recs J K ∗ owesE c (O1 c p o + O) ∗ bigSep (Finset.Ico o 32) (fun o => give1 J c p o)
    ∗ bigSep (Finset.Ico 1 o) fun o => cred (tallyAt (dcell c (cix 0 p o)) () N1))
def S2St (p o : ℕ) (O : CellTallies nD τ sig Unit) : sProp 𝕄 :=
  iprop(recs J K ∗ owesE c (O2 c p o + O) ∗ bigSep (Finset.Ico o 32) (fun o => give2 J c p o)
    ∗ bigSep (Finset.Ico 1 o) fun o => cred (tallyAt (dcell c (cix 2 p o)) () N2))

variable {O : CellTallies nD τ sig Unit}

/-- One transfer of the first kind. -/
theorem send1 {p o : ℕ} (hp : p < 4) (h1 : 1 ≤ o) (ho : o < 32) {t : Dev nD} (ht : t = peer c o) {off inb hr inb' hr'}
    (hoff : off = ![256 * p + 8 * (peer c o).val, 0])
    {s1 s2 : DmaSem sig} (hs1 : s1 = dj (cix 0 p o)) (hs2 : s2 = dj (cix 1 p o))
    {hsc : (stAt p o inb' hr' : Memref sig (Dev.tc t : Thread nD τ).2.kind .vmem S8x520 .bf16).view.ref.isScScratch = false}
    {hsrc : (sbAt off inb hr).view.WordExact} {hdst : (stAt p o inb' hr' : Memref sig (Dev.tc t : Thread nD τ).2.kind .vmem S8x520 .bf16).view.WordExact}
    {hsem : DmaTarget.Typed .vmem (.dma s2) (.remote (Dev.tc t : Thread nD τ) (stAt p o inb' hr') (.dma s1) hsc)}
    {k : PUnit → Prog (TpuEff nD τ sig (Elt F) Λ₀ .tc) α} :
    iprop(recs J K ∗ owesE c (O + tallyAt (dcell (peer c o) (cix 1 p o)) () N1) ∗ give1 J c p o)
      ⊢ iprop(((cred (tallyAt (dcell c (cix 0 p o)) () N1) ∗ owesE c O) -∗ W c (k ⟨⟩) Q)
        -∗ W c (.op (.enqueueDma (sbAt off inb hr) (.remote (Dev.tc t : Thread nD τ) (stAt p o inb' hr') (.dma s1) hsc) (.dma s2) hsrc hdst hsem) k) Q) := by
  subst ht hs1 hs2
  unfold give1 duty2 owesE stAny sbPts
  iintro ⟨#Hr, ⟨%Ws, HO⟩, Hs, ⟨%f, Hd⟩, Ht1, Ht2⟩ Hk
  iapply (Rounds.wp_send_pointsTo 𝒱₀ ER (Rd J) (c : Thread nD τ) none (κ₁ := Kd K c (cix 0 p o)) (κ₂ := Kd K (peer c o) (cix 1 p o))
      (c' := (peer c o : Thread nD τ)) (src := sbAt off inb hr) (dst := stAt p o inb' hr') (fs := (sbV (J c) : Buf (Elt F) (sbL c))) (fd := f) (q := fullShare)
      (r₁ := 0) (r₂ := 0) (d₁ := c) (d₂ := peer c o) (hsc := hsc) (hsrc := hsrc) (hdst := hdst) (hsem := hsem)
      (by rw [duties_dma J c (cix_lt (by decide) hp ho) (by unfold cix; omega)]; exact Finset.mem_singleton_self _)
      (by rw [duties_dma J (peer c o) (cix_lt (by decide) hp ho) (by unfold cix; omega)]; exact Finset.mem_singleton_self _)
      () () N1 rfl (amount_one J c c (by unfold cix; omega)) (amount_one J (peer c o) (peer c o) (by unfold cix; omega)) O rfl
      (by rw [payload_dma J c c (by decide) hp ho, set_sb hoff]; exact BI.Entails.refl _)
      (by
        rw [payload_dma J (peer c o) (peer c o) (by decide) hp ho]
        refine BI.Entails.trans (Entails.of_eq (pointsTo_congr (land_st J c hoff f))) ?_
        rw [set_st]; exact BI.Entails.refl _))
    $$ [HO Hs Hd Ht1 Ht2]
  · isplitr; · iapply (inv_dma J K c (cix_lt (k := 0) (by decide) hp ho)); iexact Hr
    isplitr; · iapply (inv_dma J K (peer c o) (cix_lt (k := 1) (by decide) hp ho)); iexact Hr
    isplitl [Hs]; · rw [set_sb hoff]; iexact Hs
    isplitl [Hd]; · rw [set_st]; iexact Hd
    isplitl [HO]; · iexact HO
    isplitl [Ht1]; · iexact Ht1
    isplitr; · iapply (reached_dma J K c (cix_lt (k := 0) (by decide) hp ho)); iexact Hr
    isplitl [Ht2]; · iexact Ht2
    iapply (reached_dma J K (peer c o) (cix_lt (k := 1) (by decide) hp ho)); iexact Hr
  iintro ⟨Hc, HO⟩
  iapply Hk
  isplitl [Hc]; · iexact Hc
  iexists Ws; iexact HO

theorem step_send1 {p o : ℕ} (hp : p < 4) (h1 : 1 ≤ o) (ho : o < 32) {hdv : devW c (BitVec.ofNat 32 o) < nD} {inb hr inb' hr' hs1 hs2 hsc hsrc hdst hsem}
    {k : PUnit → Prog (TpuEff nD τ sig (Elt F) Λ₀ .tc) α}
    (h : iprop(S1St J K c p (o + 1) O ∗ R) ⊢ W c (k ⟨⟩) Q) :
    iprop(S1St J K c p o O ∗ R) ⊢ W c (Prog.lift (.enqueueDma (sbAt (k0_off1 c (BitVec.ofNat 32 (256 * p)) (BitVec.ofNat 32 o)) inb hr)
      (.remote (Dev.tc (⟨devW c (BitVec.ofNat 32 o), hdv⟩ : Dev nD)) (stAt p o inb' hr') (.dma (semAt cc0_scratch4 p o hs1)) hsc)
      (.dma (semAt cc0_scratch5 p o hs2)) hsrc hdst hsem) >>= k) Q := by
  rw [Prog.bind_lift]
  unfold S1St at *
  rw [bigSep_ico ho, O1_step c p o ho, add_right_comm]
  rw [bigSep_top h1] at h
  iintro ⟨⟨#Hr, HO, ⟨Hg, Hg'⟩, Hc⟩, HR⟩
  iapply (send1 J K c hp h1 ho (devW_peer c ho) (off1_eq c hp h1 ho) (sem4 hp ho) (sem5 hp ho)) $$ [HO Hg]
  · isplitr; · iexact Hr
    isplitl [HO]; · iexact HO
    iexact Hg
  iintro ⟨Hc', HO⟩
  iapply h
  isplitr [HR]
  · isplitr; · iexact Hr
    isplitl [HO]; · iexact HO
    isplitl [Hg']; · iexact Hg'
    isplitl [Hc']; · iexact Hc'
    iexact Hc
  · iexact HR

/-- One transfer of the second kind. -/
theorem send2 {p o : ℕ} (hp : p < 4) (h1 : 1 ≤ o) (ho : o < 32) {t : Dev nD} (ht : t = peer c o) {off inb hr inb' hr'}
    (hoff : off = ![p / 2, 256 * (p % 2) + 8 * c.val, 0])
    {s1 s2 : DmaSem sig} (hs1 : s1 = dj (cix 2 p o)) (hs2 : s2 = dj (cix 3 p o))
    {hsc : (osAt off inb' hr' : Memref sig (Dev.tc t : Thread nD τ).2.kind .vmem S8x512 .bf16).view.ref.isScScratch = false}
    {hsrc : (osAt off inb hr).view.WordExact} {hdst : (osAt off inb' hr' : Memref sig (Dev.tc t : Thread nD τ).2.kind .vmem S8x512 .bf16).view.WordExact}
    {hsem : DmaTarget.Typed .vmem (.dma s2) (.remote (Dev.tc t : Thread nD τ) (osAt off inb' hr') (.dma s1) hsc)}
    {k : PUnit → Prog (TpuEff nD τ sig (Elt F) Λ₀ .tc) α} :
    iprop(recs J K ∗ owesE c (O + tallyAt (dcell (peer c o) (cix 3 p o)) () N2) ∗ give2 J c p o)
      ⊢ iprop(((cred (tallyAt (dcell c (cix 2 p o)) () N2) ∗ owesE c O) -∗ W c (k ⟨⟩) Q)
        -∗ W c (.op (.enqueueDma (osAt off inb hr) (.remote (Dev.tc t : Thread nD τ) (osAt off inb' hr') (.dma s1) hsc) (.dma s2) hsrc hdst hsem) k) Q) := by
  subst ht hs1 hs2
  unfold give2 duty2 owesE osAny osPts
  iintro ⟨#Hr, ⟨%Ws, HO⟩, Hs, ⟨%f, Hd⟩, Ht1, Ht2⟩ Hk
  iapply (Rounds.wp_send_pointsTo 𝒱₀ ER (Rd J) (c : Thread nD τ) none (κ₁ := Kd K c (cix 2 p o)) (κ₂ := Kd K (peer c o) (cix 3 p o))
      (c' := (peer c o : Thread nD τ)) (src := osAt off inb hr) (dst := osAt off inb' hr') (fs := (osV J : Buf (Elt F) (osL c))) (fd := f) (q := shr o)
      (r₁ := 0) (r₂ := 0) (d₁ := c) (d₂ := peer c o) (hsc := hsc) (hsrc := hsrc) (hdst := hdst) (hsem := hsem)
      (by rw [duties_dma J c (cix_lt (by decide) hp ho) (by unfold cix; omega)]; exact Finset.mem_singleton_self _)
      (by rw [duties_dma J (peer c o) (cix_lt (by decide) hp ho) (by unfold cix; omega)]; exact Finset.mem_singleton_self _)
      () () N2 rfl (amount_two J c c (cix_lt (by decide) hp ho) (by unfold cix; omega)) (amount_two J (peer c o) (peer c o) (cix_lt (by decide) hp ho) (by unfold cix; omega)) O rfl
      (by rw [payload_dma J c c (by decide) hp ho, set_os hoff]; exact BI.Entails.refl _)
      (by
        rw [payload_dma J (peer c o) (peer c o) (by decide) hp ho]
        refine BI.Entails.trans (Entails.of_eq (pointsTo_congr (land_os J f))) ?_
        rw [set_os hoff]
        show _ ⊢ osPts J (peer c o) p (back (peer c o) o) fullShare
        rw [back_peer]; exact BI.Entails.refl _))
    $$ [HO Hs Hd Ht1 Ht2]
  · isplitr; · iapply (inv_dma J K c (cix_lt (k := 2) (by decide) hp ho)); iexact Hr
    isplitr; · iapply (inv_dma J K (peer c o) (cix_lt (k := 3) (by decide) hp ho)); iexact Hr
    isplitl [Hs]; · rw [set_os hoff]; iexact Hs
    isplitl [Hd]; · rw [set_os hoff]; iexact Hd
    isplitl [HO]; · iexact HO
    isplitl [Ht1]; · iexact Ht1
    isplitr; · iapply (reached_dma J K c (cix_lt (k := 2) (by decide) hp ho)); iexact Hr
    isplitl [Ht2]; · iexact Ht2
    iapply (reached_dma J K (peer c o) (cix_lt (k := 3) (by decide) hp ho)); iexact Hr
  iintro ⟨Hc, HO⟩
  iapply Hk
  isplitl [Hc]; · iexact Hc
  iexists Ws; iexact HO

theorem step_send2 {p o : ℕ} (hp : p < 4) {off : Fin 3 → ℕ} (hoff : off = ![p / 2, 256 * (p % 2) + 8 * c.val, 0]) (h1 : 1 ≤ o) (ho : o < 32)
    {hdv : devW c (BitVec.ofNat 32 o) < nD} {inb hr inb' hr' hs1 hs2 hsc hsrc hdst hsem}
    {k : PUnit → Prog (TpuEff nD τ sig (Elt F) Λ₀ .tc) α}
    (h : iprop(S2St J K c p (o + 1) O ∗ R) ⊢ W c (k ⟨⟩) Q) :
    iprop(S2St J K c p o O ∗ R) ⊢ W c (Prog.lift (.enqueueDma (osAt off inb hr)
      (.remote (Dev.tc (⟨devW c (BitVec.ofNat 32 o), hdv⟩ : Dev nD)) (osAt off inb' hr') (.dma (semAt cc0_scratch6 p o hs1)) hsc)
      (.dma (semAt cc0_scratch7 p o hs2)) hsrc hdst hsem) >>= k) Q := by
  rw [Prog.bind_lift]
  unfold S2St at *
  rw [bigSep_ico ho, O2_step c p o ho, add_right_comm]
  rw [bigSep_top h1] at h
  iintro ⟨⟨#Hr, HO, ⟨Hg, Hg'⟩, Hc⟩, HR⟩
  iapply (send2 J K c hp h1 ho (devW_peer c ho) hoff (sem6 hp ho) (sem7 hp ho)) $$ [HO Hg]
  · isplitr; · iexact Hr
    isplitl [HO]; · iexact HO
    iexact Hg
  iintro ⟨Hc', HO⟩
  iapply h
  isplitr [HR]
  · isplitr; · iexact Hr
    isplitl [HO]; · iexact HO
    isplitl [Hg']; · iexact Hg'
    isplitl [Hc']; · iexact Hc'
    iexact Hc
  · iexact HR

end Cert.Ring
-- ==== Proof.Mem.lean ====
/-
# Loads and stores

The kernel's own accesses, buffer by buffer: what a load reads and what a store leaves, in terms of the values of
`Vals`.
-/
module

public import proofs.«01_k».proof.Proof.Sends

@[expose] public section

noncomputable section

namespace Cert.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (J : Dev nD → Ins F) (K : Dev nD × Fin 513 → ℕ) (c : Dev nD)
variable {α β : Type} {Q : α → sProp (MM F)} {P R : sProp (MM F)}

/-! ## Accesses in general -/

theorem prim_load {s : Shape} {e : EltTy} {m : Memref sig .tc .vmem s e} {r : LoadRect s} {hl : m.view.LoadsAt r}
    {k : Vec F r.shape e → Prog (TpuEff nD τ sig (Elt F) Λ₀ .tc) α}
    {S : Finset (Idx (m.view.loc (c : Thread nD τ)))} {q : PosShare TreeShare} {f : Buf (Elt F) (m.view.loc (c : Thread nD τ))} (hS : m.view.setOn r.set ⊆ S)
    (h : iprop((m.view.loc (c : Thread nD τ) ↦[S]{q} f) ∗ R) ⊢ W c (k (m.view.readAt (Elt F) r f)) Q) :
    iprop((m.view.loc (c : Thread nD τ) ↦[S]{q} f) ∗ R) ⊢ W c (Prog.lift (.load m r hl) >>= k) Q := by
  rw [Prog.bind_lift]
  iintro ⟨H, HR⟩
  iapply (wp_load 𝒱₀ (c : Thread nD τ) none Set.univ (m := m) hS) $$ H
  iintro H
  iapply h
  isplitl [H]; · iexact H
  iexact HR

theorem prim_store {s : Shape} {e : EltTy} {m : Memref sig .tc .vmem s e} {r : Rect s} {w : Vec F r.shape e}
    {hx : (m.access r).Stores Finset.univ} {hm} {k : PUnit → Prog (TpuEff nD τ sig (Elt F) Λ₀ .tc) α}
    {S : Finset (Idx ((m.access r).loc (c : Thread nD τ)))} {f : Buf (Elt F) ((m.access r).loc (c : Thread nD τ))} (hS : (m.access r).set ⊆ S)
    (h : iprop(((m.access r).loc (c : Thread nD τ) ↦[S]{fullShare} ((m.access r).write (Elt F) f w Finset.univ)) ∗ R) ⊢ W c (k ⟨⟩) Q) :
    iprop(((m.access r).loc (c : Thread nD τ) ↦[S]{fullShare} f) ∗ R) ⊢ W c (Prog.lift (.store m r w Finset.univ hx hm) >>= k) Q := by
  rw [Prog.bind_lift]
  iintro ⟨H, HR⟩
  iapply (wp_store 𝒱₀ (c : Thread nD τ) none Set.univ (m := m) (r := r) (Mk := Finset.univ) (S := S) hS) $$ H
  iintro H
  iapply h
  isplitl [H]; · iexact H
  iexact HR

/-- A store that leaves `g`, -/
theorem prim_put {s : Shape} {e : EltTy} {m : Memref sig .tc .vmem s e} {r : Rect s} {w : Vec F r.shape e}
    {hx : (m.access r).Stores Finset.univ} {hm} {k : PUnit → Prog (TpuEff nD τ sig (Elt F) Λ₀ .tc) α}
    {S : Finset (Idx (m.view.loc (c : Thread nD τ)))} {f : Buf (Elt F) (m.view.loc (c : Thread nD τ))} (g : Buf (Elt F) (m.view.loc (c : Thread nD τ)))
    (hS : (m.access r).set ⊆ S) (hg : ∀ i ∈ S, (m.access r).write (Elt F) f w Finset.univ i = g i)
    (h : iprop((m.view.loc (c : Thread nD τ) ↦[S]{fullShare} g) ∗ R) ⊢ W c (k ⟨⟩) Q) :
    iprop((m.view.loc (c : Thread nD τ) ↦[S]{fullShare} f) ∗ R) ⊢ W c (Prog.lift (.store m r w Finset.univ hx hm) >>= k) Q :=
  prim_store (m := m) (r := r) c (S := S) (f := f) hS ((sep_mono_left (Entails.of_eq (pointsTo_congr hg))).trans h)
/-- and one after a load through the same place whose value goes unused. -/
theorem prim_set {s : Shape} {e : EltTy} {m : Memref sig .tc .vmem s e} {lr : LoadRect s} {hl : m.view.LoadsAt lr} {r : Rect s} {w : Vec F r.shape e}
    {hx : (m.access r).Stores Finset.univ} {hm} {k : PUnit → Prog (TpuEff nD τ sig (Elt F) Λ₀ .tc) α}
    {S : Finset (Idx (m.view.loc (c : Thread nD τ)))} {f : Buf (Elt F) (m.view.loc (c : Thread nD τ))} (g : Buf (Elt F) (m.view.loc (c : Thread nD τ)))
    (hS' : m.view.setOn lr.set ⊆ S) (hS : (m.access r).set ⊆ S) (hg : ∀ i ∈ S, (m.access r).write (Elt F) f w Finset.univ i = g i)
    (h : iprop((m.view.loc (c : Thread nD τ) ↦[S]{fullShare} g) ∗ R) ⊢ W c (k ⟨⟩) Q) :
    iprop((m.view.loc (c : Thread nD τ) ↦[S]{fullShare} f) ∗ R) ⊢ W c (Prog.lift (.load m lr hl) >>= fun _ => (Prog.lift (.store m r w Finset.univ hx hm) >>= k)) Q :=
  prim_load c hS' (prim_put c (m := m) (r := r) g hS hg h)
theorem ex_left {X : Type} {Φ : X → sProp (MM F)} {G : sProp (MM F)} (h : ∀ f, iprop(Φ f ∗ R) ⊢ G) : iprop((∃ f, Φ f) ∗ R) ⊢ G := by
  iintro ⟨⟨%f, H⟩, HR⟩
  iapply (h f)
  isplitl [H]; · iexact H
  iexact HR
theorem pure_left {φ : Prop} {A G : sProp (MM F)} (h : φ → iprop(A ∗ R) ⊢ G) : iprop((⌜φ⌝ ∗ A) ∗ R) ⊢ G := by
  iintro ⟨⟨%hf, H⟩, HR⟩
  iapply (h hf)
  isplitl [H]; · iexact H
  iexact HR

omit [FloatOps F] in
theorem write_at {κ : Kind} {sp : Space} {s : Shape} {e : EltTy} {v : View sig κ sp s e} {f : v.ty.Contents (Elt F)} {w : s.Idx → Elt F e} {i : v.ty.Idx} (hi : i ∈ v.set)
    {g : v.ty.Contents (Elt F)} (hg : ∀ j, _root_.cast (congrArg (Elt F) v.elt_eq.symm) (w j) = g (v.emb j)) : v.write (Elt F) f w Finset.univ i = g i := by
  obtain ⟨j, -, rfl⟩ := Finset.mem_map.mp hi
  rw [View.write_emb_of_mem (h := Finset.mem_univ _)]
  exact hg j

/-! ## The operands -/

abbrev bufL (c : Dev nD) (b : Ref sig .tc) : Loc nD τ sig := (c : Thread nD τ).loc b
abbrev accL (c : Dev nD) : Loc nD τ sig := bufL c cc0_scratch0
abbrev outL (c : Dev nD) : Loc nD τ sig := bufL c cc0_stg5_0

theorem load_of {A A' : sProp (MM F)} {s : Shape} {e : EltTy} {m : Memref sig .tc .vmem s e} {r : LoadRect s} {hl : m.view.LoadsAt r}
    {k : Vec F r.shape e → Prog (TpuEff nD τ sig (Elt F) Λ₀ .tc) α}
    {S : Finset (Idx (m.view.loc (c : Thread nD τ)))} {q : PosShare TreeShare} {f : Buf (Elt F) (m.view.loc (c : Thread nD τ))} (hS : m.view.setOn r.set ⊆ S)
    (hA : A ⊢ iprop((m.view.loc (c : Thread nD τ) ↦[S]{q} f) ∗ A')) (hA' : iprop((m.view.loc (c : Thread nD τ) ↦[S]{q} f) ∗ A') ⊢ A)
    (h : iprop(A ∗ R) ⊢ W c (k (m.view.readAt (Elt F) r f)) Q) : iprop(A ∗ R) ⊢ W c (Prog.lift (.load m r hl) >>= k) Q :=
  ((sep_mono_left hA).trans sep_assoc.1).trans (prim_load (R := iprop(A' ∗ R)) c hS ((sep_assoc.2.trans (sep_mono_left hA')).trans h))

omit [FloatOps F] in
theorem sp_ext {A B : sProp 𝕄} (h1 : A ⊢ B) (h2 : B ⊢ A) : A = B := BI.Entails.antisymm h1 h2

def opPts (b : Ref sig .tc) (f : Buf (Elt F) (bufL c b)) : sProp 𝕄 := bufL c b ↦{fullShare} f
/-- The operands in their buffers. -/
def InSt : sProp 𝕄 :=
  iprop(opPts c cc0_stg0_0 (J c).x ∗ opPts c cc0_stg1_0 (J c).wq ∗ opPts c cc0_stg2_0 (J c).k ∗ opPts c cc0_stg3_0 (J c).v ∗ opPts c cc0_stg4_0 (J c).wo)

theorem in_x : InSt J c = iprop(opPts c cc0_stg0_0 (J c).x ∗ opPts c cc0_stg1_0 (J c).wq ∗ opPts c cc0_stg2_0 (J c).k ∗ opPts c cc0_stg3_0 (J c).v ∗ opPts c cc0_stg4_0 (J c).wo) := by
  unfold InSt
  apply sp_ext
  · iintro ⟨H0, H1, H2, H3, H4⟩
    isplitl [H0]; · iexact H0
    isplitl [H1]; · iexact H1
    isplitl [H2]; · iexact H2
    isplitl [H3]; · iexact H3
    iexact H4
  · iintro ⟨H0, H1, H2, H3, H4⟩
    isplitl [H0]; · iexact H0
    isplitl [H1]; · iexact H1
    isplitl [H2]; · iexact H2
    isplitl [H3]; · iexact H3
    iexact H4
theorem in_wq : InSt J c = iprop(opPts c cc0_stg1_0 (J c).wq ∗ opPts c cc0_stg0_0 (J c).x ∗ opPts c cc0_stg2_0 (J c).k ∗ opPts c cc0_stg3_0 (J c).v ∗ opPts c cc0_stg4_0 (J c).wo) := by
  unfold InSt
  apply sp_ext
  · iintro ⟨H0, H1, H2, H3, H4⟩
    isplitl [H1]; · iexact H1
    isplitl [H0]; · iexact H0
    isplitl [H2]; · iexact H2
    isplitl [H3]; · iexact H3
    iexact H4
  · iintro ⟨H1, H0, H2, H3, H4⟩
    isplitl [H0]; · iexact H0
    isplitl [H1]; · iexact H1
    isplitl [H2]; · iexact H2
    isplitl [H3]; · iexact H3
    iexact H4
theorem in_k : InSt J c = iprop(opPts c cc0_stg2_0 (J c).k ∗ opPts c cc0_stg0_0 (J c).x ∗ opPts c cc0_stg1_0 (J c).wq ∗ opPts c cc0_stg3_0 (J c).v ∗ opPts c cc0_stg4_0 (J c).wo) := by
  unfold InSt
  apply sp_ext
  · iintro ⟨H0, H1, H2, H3, H4⟩
    isplitl [H2]; · iexact H2
    isplitl [H0]; · iexact H0
    isplitl [H1]; · iexact H1
    isplitl [H3]; · iexact H3
    iexact H4
  · iintro ⟨H2, H0, H1, H3, H4⟩
    isplitl [H0]; · iexact H0
    isplitl [H1]; · iexact H1
    isplitl [H2]; · iexact H2
    isplitl [H3]; · iexact H3
    iexact H4
theorem in_v : InSt J c = iprop(opPts c cc0_stg3_0 (J c).v ∗ opPts c cc0_stg0_0 (J c).x ∗ opPts c cc0_stg1_0 (J c).wq ∗ opPts c cc0_stg2_0 (J c).k ∗ opPts c cc0_stg4_0 (J c).wo) := by
  unfold InSt
  apply sp_ext
  · iintro ⟨H0, H1, H2, H3, H4⟩
    isplitl [H3]; · iexact H3
    isplitl [H0]; · iexact H0
    isplitl [H1]; · iexact H1
    isplitl [H2]; · iexact H2
    iexact H4
  · iintro ⟨H3, H0, H1, H2, H4⟩
    isplitl [H0]; · iexact H0
    isplitl [H1]; · iexact H1
    isplitl [H2]; · iexact H2
    isplitl [H3]; · iexact H3
    iexact H4
theorem in_wo : InSt J c = iprop(opPts c cc0_stg4_0 (J c).wo ∗ opPts c cc0_stg0_0 (J c).x ∗ opPts c cc0_stg1_0 (J c).wq ∗ opPts c cc0_stg2_0 (J c).k ∗ opPts c cc0_stg3_0 (J c).v) := by
  unfold InSt
  apply sp_ext
  · iintro ⟨H0, H1, H2, H3, H4⟩
    isplitl [H4]; · iexact H4
    isplitl [H0]; · iexact H0
    isplitl [H1]; · iexact H1
    isplitl [H2]; · iexact H2
    iexact H3
  · iintro ⟨H4, H0, H1, H2, H3⟩
    isplitl [H0]; · iexact H0
    isplitl [H1]; · iexact H1
    isplitl [H2]; · iexact H2
    isplitl [H3]; · iexact H3
    iexact H4
theorem step_x {r : LoadRect S2x512x768} {hl} {k : Vec F r.shape .f32 → Prog (TpuEff nD τ sig (Elt F) Λ₀ .tc) α}
    (h : iprop(InSt J c ∗ R) ⊢ W c (k (xM.view.readAt (Elt F) r (J c).x)) Q) :
    iprop(InSt J c ∗ R) ⊢ W c (Prog.lift (.load xM r hl) >>= k) Q := by
  rw [in_x J c] at h ⊢
  exact load_of c (m := xM) (Finset.subset_univ _) (BI.Entails.refl _) (BI.Entails.refl _) h
theorem step_wq {r : LoadRect S768x512} {hl} {k : Vec F r.shape .f32 → Prog (TpuEff nD τ sig (Elt F) Λ₀ .tc) α}
    (h : iprop(InSt J c ∗ R) ⊢ W c (k (wqM.view.readAt (Elt F) r (J c).wq)) Q) :
    iprop(InSt J c ∗ R) ⊢ W c (Prog.lift (.load wqM r hl) >>= k) Q := by
  rw [in_wq J c] at h ⊢
  exact load_of c (m := wqM) (Finset.subset_univ _) (BI.Entails.refl _) (BI.Entails.refl _) h
theorem step_k {r : LoadRect S2x512x8x64} {hl} {k : Vec F r.shape .f32 → Prog (TpuEff nD τ sig (Elt F) Λ₀ .tc) α}
    (h : iprop(InSt J c ∗ R) ⊢ W c (k (kM.view.readAt (Elt F) r (J c).k)) Q) :
    iprop(InSt J c ∗ R) ⊢ W c (Prog.lift (.load kM r hl) >>= k) Q := by
  rw [in_k J c] at h ⊢
  exact load_of c (m := kM) (Finset.subset_univ _) (BI.Entails.refl _) (BI.Entails.refl _) h
theorem step_v {r : LoadRect S2x512x8x64} {hl} {k : Vec F r.shape .f32 → Prog (TpuEff nD τ sig (Elt F) Λ₀ .tc) α}
    (h : iprop(InSt J c ∗ R) ⊢ W c (k (vM.view.readAt (Elt F) r (J c).v)) Q) :
    iprop(InSt J c ∗ R) ⊢ W c (Prog.lift (.load vM r hl) >>= k) Q := by
  rw [in_v J c] at h ⊢
  exact load_of c (m := vM) (Finset.subset_univ _) (BI.Entails.refl _) (BI.Entails.refl _) h
theorem step_wo {r : LoadRect S512x768} {hl} {k : Vec F r.shape .f32 → Prog (TpuEff nD τ sig (Elt F) Λ₀ .tc) α}
    (h : iprop(InSt J c ∗ R) ⊢ W c (k (woM.view.readAt (Elt F) r (J c).wo)) Q) :
    iprop(InSt J c ∗ R) ⊢ W c (Prog.lift (.load woM r hl) >>= k) Q := by
  rw [in_wo J c] at h ⊢
  exact load_of c (m := woM) (Finset.subset_univ _) (BI.Entails.refl _) (BI.Entails.refl _) h

/-! ## The accumulator -/

/-- The accumulator holds the first `p` phases, and of phase `p` the first `h` heads' numerators. -/
def AccOK (I : Ins F) (p h : ℕ) (f : Vec F S1024x520 .f32) : Prop :=
  ∀ i : S1024x520.Idx, ((i 0).val / 256 < p ∨ ((i 0).val / 256 = p ∧ (i 1).val < 64 * h)) → f i = accV I i
def AccSt (p h : ℕ) : sProp 𝕄 := iprop(∃ f : Buf (Elt F) (accL c), ⌜AccOK (J c) p h f⌝ ∗ accL c ↦{fullShare} f)

theorem ogV_at (I : Ins F) {p p' h h' : ℕ} {hp : p < 4} {hp' : p' < 4} {hh : h < 8} {hh' : h' < 8} (e : p = p') (e' : h = h')
    {j j' : S256x64.Idx} (ej : j = j') : ogV I p h hp hh j = ogV I p' h' hp' hh' j' := by subst e e' ej; rfl
theorem lAllV_at (I : Ins F) {p p' : ℕ} {hp : p < 4} {hp' : p' < 4} (e : p = p') {j j' : S256x8.Idx} (ej : j = j') :
    lAllV I p hp j = lAllV I p' hp' j' := by subst e ej; rfl

theorem accV_og (I : Ins F) {p h : ℕ} (hp : p < 4) (hh : h < 8) (j : S256x64.Idx) : ogV I p h hp hh j = accV I ((rAcc p h hp hh).emb j) := by
  have h0 : (j 0).val < 256 := (j 0).isLt
  have h1 : (j 1).val < 64 := (j 1).isLt
  have e0 : ((rAcc p h hp hh).emb j 0).val = 256 * p + 1 * (j 0).val := Rect.emb_apply _ _ _
  have e1 : ((rAcc p h hp hh).emb j 1).val = 64 * h + 1 * (j 1).val := Rect.emb_apply _ _ _
  unfold accV
  dsimp only
  rw [dif_pos (by rw [e1]; omega)]
  refine ogV_at I (by rw [e0]; omega) (by rw [e1]; omega) (funext fun a => Fin.ext ?_)
  fin_cases a
  · show (j 0).val = ((rAcc p h hp hh).emb j 0).val % 256
    rw [e0]; omega
  · show (j 1).val = ((rAcc p h hp hh).emb j 1).val % 64
    rw [e1]; omega
theorem accV_l (I : Ins F) {p : ℕ} (hp : p < 4) (j : S256x8.Idx) : lAllV I p hp j = accV I ((rL p hp).emb j) := by
  have h0 : (j 0).val < 256 := (j 0).isLt
  have h1 : (j 1).val < 8 := (j 1).isLt
  have e0 : ((rL p hp).emb j 0).val = 256 * p + 1 * (j 0).val := Rect.emb_apply _ _ _
  have e1 : ((rL p hp).emb j 1).val = 512 + 1 * (j 1).val := Rect.emb_apply _ _ _
  unfold accV
  dsimp only
  rw [dif_neg (by rw [e1]; omega)]
  refine lAllV_at I (by rw [e0]; omega) (funext fun a => Fin.ext ?_)
  fin_cases a
  · show (j 0).val = ((rL p hp).emb j 0).val % 256
    rw [e0]; omega
  · show (j 1).val = ((rL p hp).emb j 1).val - 512
    rw [e1]; omega

theorem acc_set (r : Rect S1024x520) : (accM.access r).set = r.set := View.set_slice_whole _ _

theorem accOK_og {I : Ins F} {p h : ℕ} (hp : p < 4) (hh : h < 8) {f : Vec F S1024x520 .f32} (hf : AccOK I p h f) :
    AccOK I p (h + 1) ((accM.access (rAcc p h hp hh)).write (Elt F) f (ogV I p h hp hh) Finset.univ) := fun i hi => by
  by_cases hm : i ∈ (accM.access (rAcc p h hp hh)).set
  · exact write_at hm (g := accV I) fun j => accV_og I hp hh j
  · rw [View.write_of_not_mem (h := hm)]
    refine hf i ?_
    rw [acc_set, Rect.mem_set_unit] at hm
    by_contra hn
    refine hm fun a => ?_
    have h0 : (i 0).val < 1024 := (i 0).isLt
    have h1 : (i 1).val < 520 := (i 1).isLt
    fin_cases a
    · show 256 * p ≤ (i 0).val ∧ (i 0).val < 256 * p + 256
      omega
    · show 64 * h ≤ (i 1).val ∧ (i 1).val < 64 * h + 64
      omega
theorem accOK_l {I : Ins F} {p : ℕ} (hp : p < 4) {f : Vec F S1024x520 .f32} (hf : AccOK I p 8 f) :
    AccOK I (p + 1) 0 ((accM.access (rL p hp)).write (Elt F) f (lAllV I p hp) Finset.univ) := fun i hi => by
  by_cases hm : i ∈ (accM.access (rL p hp)).set
  · exact write_at hm (g := accV I) fun j => accV_l I hp j
  · rw [View.write_of_not_mem (h := hm)]
    refine hf i ?_
    rw [acc_set, Rect.mem_set_unit] at hm
    by_contra hn
    refine hm fun a => ?_
    have h0 : (i 0).val < 1024 := (i 0).isLt
    have h1 : (i 1).val < 520 := (i 1).isLt
    fin_cases a
    · show 256 * p ≤ (i 0).val ∧ (i 0).val < 256 * p + 256
      omega
    · show 512 ≤ (i 1).val ∧ (i 1).val < 512 + 8
      omega

theorem acc_dead {p h : ℕ} {r : LoadRect S1024x520} {hl} {k : Vec F r.shape .f32 → Prog (TpuEff nD τ sig (Elt F) Λ₀ .tc) α}
    (hk : ∀ v, iprop(AccSt J c p h ∗ R) ⊢ W c (k v) Q) :
    iprop(AccSt J c p h ∗ R) ⊢ W c (Prog.lift (.load accM r hl) >>= k) Q := by
  unfold AccSt at *
  iintro ⟨⟨%f, %hf, H⟩, HR⟩
  iapply (prim_load (R := R) c (m := accM) (f := f) (Finset.subset_univ _) ?_)
  · iintro ⟨H, HR⟩
    iapply (hk (accM.view.readAt (Elt F) r f))
    isplitl [H]
    · iexists f
      isplitr; · ipureintro; exact hf
      iexact H
    · iexact HR
  · isplitl [H]; · iexact H
    iexact HR

theorem acc_store {p h p' h' : ℕ} {r : Rect S1024x520} {w : Vec F r.shape .f32} {hx hm}
    (hw : ∀ f, AccOK (J c) p h f → AccOK (J c) p' h' ((accM.access r).write (Elt F) f w Finset.univ))
    {k : PUnit → Prog (TpuEff nD τ sig (Elt F) Λ₀ .tc) α} (hk : iprop(AccSt J c p' h' ∗ R) ⊢ W c (k ⟨⟩) Q) :
    iprop(AccSt J c p h ∗ R) ⊢ W c (Prog.lift (.store accM r w Finset.univ hx hm) >>= k) Q := by
  unfold AccSt at *
  iintro ⟨⟨%f, %hf, H⟩, HR⟩
  iapply (prim_store (R := R) c (m := accM) (f := f) (S := Finset.univ) (Finset.subset_univ _) ?_)
  · iintro ⟨H, HR⟩
    iapply hk
    isplitl [H]
    · iexists _
      isplitr; · ipureintro; exact hw f hf
      iexact H
    · iexact HR
  · isplitl [H]; · iexact H
    iexact HR

theorem swap2 {A B C : sProp (MM F)} : iprop(A ∗ B ∗ C) ⊢ iprop(B ∗ A ∗ C) := by
  iintro ⟨HA, HB, HC⟩
  isplitl [HB]; · iexact HB
  isplitl [HA]; · iexact HA
  iexact HC
theorem swap3 {A B C D : sProp (MM F)} : iprop(A ∗ B ∗ C ∗ D) ⊢ iprop(C ∗ A ∗ B ∗ D) := by
  iintro ⟨HA, HB, HC, HD⟩
  isplitl [HC]; · iexact HC
  isplitl [HA]; · iexact HA
  isplitl [HB]; · iexact HB
  iexact HD
theorem swap3' {A B C D : sProp (MM F)} : iprop(C ∗ A ∗ B ∗ D) ⊢ iprop(A ∗ B ∗ C ∗ D) := by
  iintro ⟨HC, HA, HB, HD⟩
  isplitl [HA]; · iexact HA
  isplitl [HB]; · iexact HB
  isplitl [HC]; · iexact HC
  iexact HD

/-- A load whose value goes unused, -/
theorem step_dead {p h : ℕ} {r : LoadRect S1024x520} {hl} {k : Vec F r.shape .f32 → Prog (TpuEff nD τ sig (Elt F) Λ₀ .tc) α}
    (hk : ∀ v, iprop(InSt J c ∗ AccSt J c p h ∗ R) ⊢ W c (k v) Q) :
    iprop(InSt J c ∗ AccSt J c p h ∗ R) ⊢ W c (Prog.lift (.load accM r hl) >>= k) Q :=
  swap2.trans (acc_dead J c fun v => swap2.trans (hk v))
/-- one head's numerators stored, -/
theorem step_og {p h : ℕ} (hp : p < 4) (hh : h < 8) {inb} {w : FVec F S256x64 .f32} {hx hm} (hw : w = ogV (J c) p h hp hh)
    {k : PUnit → Prog (TpuEff nD τ sig (Elt F) Λ₀ .tc) α} (hk : iprop(InSt J c ∗ AccSt J c p (h + 1) ∗ R) ⊢ W c (k ⟨⟩) Q) :
    iprop(InSt J c ∗ AccSt J c p h ∗ R) ⊢ W c
      (Prog.lift (.store accM (Rect.unit (s := S1024x520) ![256 * p, 64 * h] S256x64.size inb) w Finset.univ hx hm) >>= k) Q := by
  subst hw
  exact swap2.trans (acc_store J c (fun f hf => accOK_og hp hh hf) (swap2.trans hk))
/-- the sums stored. -/
theorem step_l {p : ℕ} (hp : p < 4) {inb} {w : FVec F S256x8 .f32} {hx hm} (hw : w = lAllV (J c) p hp)
    {k : PUnit → Prog (TpuEff nD τ sig (Elt F) Λ₀ .tc) α} (hk : iprop(InSt J c ∗ AccSt J c (p + 1) 0 ∗ R) ⊢ W c (k ⟨⟩) Q) :
    iprop(InSt J c ∗ AccSt J c p 8 ∗ R) ⊢ W c
      (Prog.lift (.store accM (Rect.unit (s := S1024x520) ![256 * p, 512] S256x8.size inb) w Finset.univ hx hm) >>= k) Q := by
  subst hw
  exact swap2.trans (acc_store J c (fun f hf => accOK_l hp hf) (swap2.trans hk))

theorem acc_read {p h : ℕ} {r : Rect S1024x520} {hl} {k : Vec F r.shape .f32 → Prog (TpuEff nD τ sig (Elt F) Λ₀ .tc) α}
    (hr : ∀ i ∈ r.set, (i 0).val / 256 < p) (hk : iprop(AccSt J c p h ∗ R) ⊢ W c (k (accM.view.readAt (Elt F) r.toLoadRect (accV (J c)))) Q) :
    iprop(AccSt J c p h ∗ R) ⊢ W c (Prog.lift (.load accM r.toLoadRect hl) >>= k) Q := by
  unfold AccSt at *
  iintro ⟨⟨%f, %hf, H⟩, HR⟩
  iapply (prim_load (R := R) c (m := accM) (f := f) (Finset.subset_univ _) ?_)
  · have e : accM.view.readAt (Elt F) r.toLoadRect f = accM.view.readAt (Elt F) r.toLoadRect (accV (J c)) :=
      funext fun j => hf (r.emb j) (Or.inl (hr _ (by rw [← acc_set]; exact (accM.access r).emb_mem_set j)))
    rw [e]
    iintro ⟨H, HR⟩
    iapply hk
    isplitl [H]
    · iexists f
      isplitr; · ipureintro; exact hf
      iexact H
    · iexact HR
  · isplitl [H]; · iexact H
    iexact HR

/-! ## The send buffer -/

def sbBlk (p : ℕ) : Finset S1024x520.Idx := Finset.univ.filter fun i => (i 0).val / 256 = p
theorem mem_sbBlk {p : ℕ} {i : S1024x520.Idx} : i ∈ sbBlk p ↔ (i 0).val / 256 = p := by
  unfold sbBlk; rw [Finset.mem_filter]; exact ⟨fun h => h.2, fun h => ⟨Finset.mem_univ _, h⟩⟩
def sbAny (p : ℕ) : sProp 𝕄 := iprop(∃ f : Buf (Elt F) (sbL c), sbL c ↦[sbBlk p]{fullShare} f)
def sbFull (p : ℕ) : sProp 𝕄 := bigSep Finset.univ fun t => sbPts J c p t

theorem sbBlk_eq (p : ℕ) : sbBlk p = (Finset.univ : Finset (Dev nD)).biUnion (sbSet p) := by
  ext i
  rw [mem_sbBlk, Finset.mem_biUnion]
  constructor
  · intro h
    exact ⟨⟨(i 0).val / 8 % 32, Nat.mod_lt _ (by decide)⟩, Finset.mem_univ _, mem_sbSet.mpr (by dsimp only; omega)⟩
  · rintro ⟨t, -, h⟩
    have ht : t.val < 32 := t.isLt
    rw [mem_sbSet] at h; omega
theorem sbFull_eq (p : ℕ) : sbFull J c p = (sbL c ↦[sbBlk p]{fullShare} (sbV (J c) : Buf (Elt F) (sbL c)) : sProp 𝕄) := by
  unfold sbFull sbPts
  rw [sbBlk_eq, pointsTo_biUnion]
  intro t _ t' _ hne
  rw [Finset.disjoint_left]
  intro i h h'
  rw [mem_sbSet] at h h'
  exact hne (Fin.ext (by omega))

/-- The accumulated block of the phase is read, -/
theorem step_blk {p : ℕ} (hp : p < 4) {inb hl} {k : Vec F S256x520 .f32 → Prog (TpuEff nD τ sig (Elt F) Λ₀ .tc) α}
    (hk : iprop(InSt J c ∗ AccSt J c (p + 1) 0 ∗ R) ⊢ W c (k (accM.view.readAt (Elt F) (rBlk p hp).toLoadRect (accV (J c)))) Q) :
    iprop(InSt J c ∗ AccSt J c (p + 1) 0 ∗ R) ⊢ W c (Prog.lift (.load accM (Rect.unit (s := S1024x520) ![256 * p, 0] S256x520.size inb).toLoadRect hl) >>= k) Q :=
  swap2.trans (acc_read J c (r := rBlk p hp) (fun i hi => by
    rw [Rect.mem_set_unit] at hi
    have e : 256 * p ≤ (i 0).val ∧ (i 0).val < 256 * p + 256 := hi 0
    omega) (swap2.trans hk))

theorem sb_at (I : Ins F) {p : ℕ} (hp : p < 4) (j : S256x520.Idx) :
    k0_pay50 (k0_pay49 (accM.view.readAt (Elt F) (rBlk p hp).toLoadRect (accV I))) j = sbV I ((rBlk p hp).emb j) := by
  unfold k0_pay50 k0_pay49
  dsimp only
  rw [shapeCast_self]
  rfl

/-- narrowed, and stored into the send buffer. -/
theorem sb_set {p : ℕ} {inb} : (sbM.access (Rect.unit (s := S1024x520) ![256 * p, 0] S256x520.size inb)).set = sbBlk p := by
  show ((View.whole cc0_scratch1).slice _).set = _
  rw [View.set_slice_whole]
  ext i
  rw [Rect.mem_set_unit, mem_sbBlk]
  have h1 : (i 1).val < 520 := (i 1).isLt
  constructor
  · intro h
    have e : 256 * p ≤ (i 0).val ∧ (i 0).val < 256 * p + 256 := h 0
    omega
  · intro h a
    fin_cases a
    · show 256 * p ≤ (i 0).val ∧ (i 0).val < 256 * p + 256
      omega
    · show 0 ≤ (i 1).val ∧ (i 1).val < 0 + 520
      omega
theorem sbAny_intro {p : ℕ} (f : Buf (Elt F) (sbL c)) : (sbL c ↦[sbBlk p]{fullShare} f : sProp (MM F)) ⊢ sbAny c p := by
  unfold sbAny
  iintro H
  iexists f
  iexact H
theorem step_sbdead {p : ℕ} {inb} {hl : sbM.view.LoadsAt (Rect.unit (s := S1024x520) ![256 * p, 0] S256x520.size inb).toLoadRect}
    {k : Vec F S256x520 .bf16 → Prog (TpuEff nD τ sig (Elt F) Λ₀ .tc) α} (hk : ∀ v, iprop(InSt J c ∗ AccSt J c (p + 1) 0 ∗ sbAny c p ∗ R) ⊢ W c (k v) Q) :
    iprop(InSt J c ∗ AccSt J c (p + 1) 0 ∗ sbAny c p ∗ R) ⊢ W c (Prog.lift (.load sbM (Rect.unit (s := S1024x520) ![256 * p, 0] S256x520.size inb).toLoadRect hl) >>= k) Q := by
  refine swap3.trans (ex_left fun f => ?_)
  exact prim_load c (m := sbM) (S := sbBlk p) (by have h := (sb_set (p := p) (inb := inb)).le; rwa [View.set_slice] at h)
    ((sep_mono_left (sbAny_intro c f)).trans (swap3'.trans (hk _)))
theorem step_sb {p : ℕ} (hp : p < 4) {inb} {w : FVec F S256x520 .bf16} {hx hm}
    (hw : w = k0_pay50 (k0_pay49 (accM.view.readAt (Elt F) (rBlk p hp).toLoadRect (accV (J c)))))
    {k : PUnit → Prog (TpuEff nD τ sig (Elt F) Λ₀ .tc) α} (hk : iprop(InSt J c ∗ AccSt J c (p + 1) 0 ∗ sbFull J c p ∗ R) ⊢ W c (k ⟨⟩) Q) :
    iprop(InSt J c ∗ AccSt J c (p + 1) 0 ∗ sbAny c p ∗ R) ⊢ W c
      (Prog.lift (.store sbM (Rect.unit (s := S1024x520) ![256 * p, 0] S256x520.size inb) w Finset.univ hx hm) >>= k) Q := by
  subst hw
  rw [sbFull_eq] at hk
  refine swap3.trans (ex_left fun f => ?_)
  exact prim_put c (m := sbM) (S := sbBlk p) (sbV (J c)) sb_set.le (fun i hi => write_at (by rw [sb_set]; exact hi) fun j => sb_at (J c) hp j) (swap3'.trans hk)

/-! ## The end of a phase: the sums over the devices, normalised -/

def stBlk (p : ℕ) : Finset S4x32x8x520.Idx := Finset.univ.filter fun i => (i 0).val = p ∧ 1 ≤ (i 1).val
theorem mem_stBlk {p : ℕ} {i : S4x32x8x520.Idx} : i ∈ stBlk p ↔ (i 0).val = p ∧ 1 ≤ (i 1).val := by
  unfold stBlk; rw [Finset.mem_filter]; exact ⟨fun h => h.2, fun h => ⟨Finset.mem_univ _, h⟩⟩
/-- The staging slots of a phase, everything arrived. -/
def stF (p : ℕ) : sProp 𝕄 := bigSep (Finset.Ico 1 32) fun o => stPts J c p o
theorem stBlk_eq (p : ℕ) : stBlk p = (Finset.Ico 1 32).biUnion (stSet p) := by
  ext i
  rw [mem_stBlk, Finset.mem_biUnion]
  have h1 : (i 1).val < 32 := (i 1).isLt
  constructor
  · intro h
    exact ⟨(i 1).val, Finset.mem_Ico.mpr ⟨h.2, h1⟩, mem_stSet.mpr ⟨h.1, rfl⟩⟩
  · rintro ⟨o, ho, h⟩
    rw [mem_stSet] at h
    exact ⟨h.1, by rw [h.2]; exact (Finset.mem_Ico.mp ho).1⟩
theorem stF_eq (p : ℕ) : stF J c p = (stL c ↦[stBlk p]{fullShare} (stV J c : Buf (Elt F) (stL c)) : sProp 𝕄) := by
  unfold stF stPts
  rw [stBlk_eq, pointsTo_biUnion]
  intro t _ t' _ hne
  rw [Finset.disjoint_left]
  intro i h h'
  rw [mem_stSet] at h h'
  exact hne (h.2.symm.trans h'.2)

/-- The device's own rows of the accumulator are read, -/
theorem step_row {p p' h : ℕ} (hp : p < 4) (hp' : p < p') {off} (hoff : off = ![256 * p + 8 * c.val, 0]) {inb hl} {k : Vec F S8x520 .f32 → Prog (TpuEff nD τ sig (Elt F) Λ₀ .tc) α}
    (hk : iprop(AccSt J c p' h ∗ R) ⊢ W c (k (ldRow J p hp c)) Q) :
    iprop(AccSt J c p' h ∗ R) ⊢ W c (Prog.lift (.load accM (Rect.unit (s := S1024x520) off S8x520.size inb).toLoadRect hl) >>= k) Q := by
  subst hoff
  exact acc_read J c (r := rRow p hp c) (fun i hi => by
    rw [Rect.mem_set_unit] at hi
    have hc : c.val < 32 := c.isLt
    have e : 256 * p + 8 * c.val ≤ (i 0).val ∧ (i 0).val < 256 * p + 8 * c.val + 8 := hi 0
    omega) hk

/-- and the staging slots; -/
theorem step_stage {p : ℕ} (hp : p < 4) {inb hl} {k : Vec F S1x31x8x520 .bf16 → Prog (TpuEff nD τ sig (Elt F) Λ₀ .tc) α}
    (hk : iprop(P ∗ stF J c p ∗ R) ⊢ W c (k (ldStage J p hp c)) Q) :
    iprop(P ∗ stF J c p ∗ R) ⊢ W c (Prog.lift (.load stM (Rect.unit (s := S4x32x8x520) ![p, 1, 0, 0] S1x31x8x520.size inb).toLoadRect hl) >>= k) Q := by
  rw [stF_eq] at hk ⊢
  refine swap2.trans (prim_load c (m := stM) (S := stBlk p) ?_ (swap2.trans hk))
  have hs : (stM.access (Rect.unit (s := S4x32x8x520) ![p, 1, 0, 0] S1x31x8x520.size inb)).set ⊆ stBlk p := by
    show ((View.whole cc0_scratch2).slice _).set ⊆ _
    rw [View.set_slice_whole]
    intro i hi
    rw [Rect.mem_set_unit] at hi
    rw [mem_stBlk]
    have e0 : p ≤ (i 0).val ∧ (i 0).val < p + 1 := hi 0
    have e1 : 1 ≤ (i 1).val ∧ (i 1).val < 1 + 31 := hi 1
    omega
  rwa [View.set_slice] at hs

theorem ctxV_at {p p' : ℕ} {hp : p < 4} {hp' : p' < 4} (e : p = p') {t t' : Dev nD} (et : t = t') {j j' : S1x8x512.Idx} (ej : j = j') :
    ctxV J p hp t j = ctxV J p' hp' t' j' := by subst e et ej; rfl

theorem os_at {p : ℕ} (hp : p < 4) {inb} (j : S1x8x512.Idx) :
    ctxV J p hp c j = osV J ((Rect.unit (s := S2x512x512) ![p / 2, 256 * (p % 2) + 8 * c.val, 0] S1x8x512.size inb).emb j) := by
  have hc : c.val < 32 := c.isLt
  have h0 : (j 0).val < 1 := (j 0).isLt
  have h1 : (j 1).val < 8 := (j 1).isLt
  generalize hi : (Rect.unit (s := S2x512x512) ![p / 2, 256 * (p % 2) + 8 * c.val, 0] S1x8x512.size inb).emb j = i
  have e0 : (i 0).val = p / 2 + 1 * (j 0).val := by rw [← hi]; exact Rect.emb_apply _ _ _
  have e1 : (i 1).val = 256 * (p % 2) + 8 * c.val + 1 * (j 1).val := by rw [← hi]; exact Rect.emb_apply _ _ _
  have e2 : (i 2).val = 0 + 1 * (j 2).val := by rw [← hi]; exact Rect.emb_apply _ _ _
  unfold osV
  dsimp only
  refine ctxV_at J (by omega) (Fin.ext (by dsimp only; omega)) (funext fun a => Fin.ext ?_)
  fin_cases a
  · show (j 0).val = 0
    omega
  · show (j 1).val = (i 1).val % 8
    omega
  · show (j 2).val = (i 2).val
    omega

theorem os_set {p : ℕ} {t : Dev nD} {inb} : (osM.access (Rect.unit (s := S2x512x512) ![p / 2, 256 * (p % 2) + 8 * t.val, 0] S1x8x512.size inb)).set = osSet p t := by
  have h := set_os (off := ![p / 2, 256 * (p % 2) + 8 * t.val, 0]) (inb := inb) (hr := fun _ => rfl) (p := p) (t := t) rfl
  rw [← h]
  exact (View.set_reshape _ _).symm

/-- the normalised rows are stored. -/
theorem step_os {p : ℕ} (hp : p < 4) {off} (hoff : off = ![p / 2, 256 * (p % 2) + 8 * c.val, 0]) {inb hl} {w : FVec F S1x8x512 .bf16} {hx hm} (hw : w = ctxV J p hp c)
    {k : PUnit → Prog (TpuEff nD τ sig (Elt F) Λ₀ .tc) α} (hk : iprop(osPts J c p c fullShare ∗ R) ⊢ W c (k ⟨⟩) Q) :
    iprop(osAny c p c ∗ R) ⊢ W c (Prog.lift (.load osM (Rect.unit (s := S2x512x512) off S1x8x512.size inb).toLoadRect hl) >>= fun _ =>
      (Prog.lift (.store osM (Rect.unit (s := S2x512x512) off S1x8x512.size inb) w Finset.univ hx hm) >>= k)) Q := by
  subst hw hoff
  refine ex_left fun f => ?_
  exact prim_set c (m := osM) (S := osSet p c) (osV J) (by have h := (os_set (p := p) (t := c) (inb := inb)).le; rwa [View.set_slice] at h) os_set.le
    (fun i hi => write_at (by rw [os_set]; exact hi) fun j => os_at J c hp j) hk

/-! ## The result -/

def osBlk (p : ℕ) : Finset S2x512x512.Idx := Finset.univ.filter fun i => 2 * (i 0).val + (i 1).val / 256 = p
theorem mem_osBlk {p : ℕ} {i : S2x512x512.Idx} : i ∈ osBlk p ↔ 2 * (i 0).val + (i 1).val / 256 = p := by
  unfold osBlk; rw [Finset.mem_filter]; exact ⟨fun h => h.2, fun h => ⟨Finset.mem_univ _, h⟩⟩
/-- The gather buffer's rows of a phase, everything arrived. -/
def osFull (p : ℕ) : sProp 𝕄 := osL c ↦[osBlk p]{fullShare} (osV J : Buf (Elt F) (osL c))
/-- The result of the first `p` phases is stored. -/
def OutSt (p : ℕ) : sProp 𝕄 :=
  iprop(∃ f : Buf (Elt F) (outL c), ⌜∀ i : S2x512x768.Idx, 2 * (i 0).val + (i 1).val / 256 < p → f i = outV (J c) J i⌝ ∗ outL c ↦{fullShare} f)

theorem step_o {p : ℕ} (hp : p < 4) {inb hl} {k : Vec F S1x256x512 .bf16 → Prog (TpuEff nD τ sig (Elt F) Λ₀ .tc) α}
    (hk : iprop(osFull J c p ∗ R) ⊢ W c (k (ldO J p hp)) Q) :
    iprop(osFull J c p ∗ R) ⊢ W c (Prog.lift (.load osM (Rect.unit (s := S2x512x512) ![p / 2, 256 * (p % 2), 0] S1x256x512.size inb).toLoadRect hl) >>= k) Q := by
  unfold osFull at *
  refine prim_load c (m := osM) (S := osBlk p) ?_ hk
  have hs : (osM.access (Rect.unit (s := S2x512x512) ![p / 2, 256 * (p % 2), 0] S1x256x512.size inb)).set ⊆ osBlk p := by
    show ((View.whole cc0_scratch3).slice _).set ⊆ _
    rw [View.set_slice_whole]
    intro i hi
    rw [Rect.mem_set_unit] at hi
    rw [mem_osBlk]
    have e0 : p / 2 ≤ (i 0).val ∧ (i 0).val < p / 2 + 1 := hi 0
    have e1 : 256 * (p % 2) ≤ (i 1).val ∧ (i 1).val < 256 * (p % 2) + 256 := hi 1
    omega
  rwa [View.set_slice] at hs

theorem delV_at (I : Ins F) {p p' : ℕ} {hp : p < 4} {hp' : p' < 4} (e : p = p') {j j' : S1x256x768.Idx} (ej : j = j') :
    delV I J p hp j = delV I J p' hp' j' := by subst e ej; rfl

theorem out_at (I : Ins F) {p : ℕ} (hp : p < 4) (j : S1x256x768.Idx) : delV I J p hp j = outV I J ((rX p hp).emb j) := by
  have h0 : (j 0).val < 1 := (j 0).isLt
  have h1 : (j 1).val < 256 := (j 1).isLt
  generalize hi : (rX p hp).emb j = i
  have e0 : (i 0).val = p / 2 + 1 * (j 0).val := by rw [← hi]; exact Rect.emb_apply _ _ _
  have e1 : (i 1).val = 256 * (p % 2) + 1 * (j 1).val := by rw [← hi]; exact Rect.emb_apply _ _ _
  have e2 : (i 2).val = 0 + 1 * (j 2).val := by rw [← hi]; exact Rect.emb_apply _ _ _
  unfold outV
  dsimp only
  refine delV_at J I (by omega) (funext fun a => Fin.ext ?_)
  fin_cases a
  · show (j 0).val = 0
    omega
  · show (j 1).val = (i 1).val % 256
    omega
  · show (j 2).val = (i 2).val
    omega

theorem out_ok (I : Ins F) {p : ℕ} (hp : p < 4) {f : Vec F S2x512x768 .f32} (hf : ∀ i : S2x512x768.Idx, 2 * (i 0).val + (i 1).val / 256 < p → f i = outV I J i)
    (i : S2x512x768.Idx) (hi : 2 * (i 0).val + (i 1).val / 256 < p + 1) : (outM.access (rX p hp)).write (Elt F) f (delV I J p hp) Finset.univ i = outV I J i := by
  have hset : (outM.access (rX p hp)).set = (rX p hp).set := View.set_slice_whole _ _
  by_cases hm : i ∈ (outM.access (rX p hp)).set
  · exact write_at hm (g := outV I J) fun j => out_at J I hp j
  · rw [View.write_of_not_mem (h := hm)]
    refine hf i ?_
    rw [hset, Rect.mem_set_unit] at hm
    by_contra hn
    refine hm fun a => ?_
    have h0 : (i 0).val < 2 := (i 0).isLt
    have h1 : (i 1).val < 512 := (i 1).isLt
    have h2 : (i 2).val < 768 := (i 2).isLt
    fin_cases a
    · show p / 2 ≤ (i 0).val ∧ (i 0).val < p / 2 + 1
      omega
    · show 256 * (p % 2) ≤ (i 1).val ∧ (i 1).val < 256 * (p % 2) + 256
      omega
    · show 0 ≤ (i 2).val ∧ (i 2).val < 0 + 768
      omega

theorem out_intro {p : ℕ} {f : Buf (Elt F) (outL c)} (hf : ∀ i : S2x512x768.Idx, 2 * (i 0).val + (i 1).val / 256 < p → f i = outV (J c) J i) :
    (outL c ↦{fullShare} f : sProp 𝕄) ⊢ OutSt J c p := by
  unfold OutSt
  iintro H
  iexists f
  isplitr; · ipureintro; exact hf
  iexact H

theorem step_out {p : ℕ} (hp : p < 4) {r : LoadRect S2x512x768} {hl inb} {w : FVec F S1x256x768 .f32} {hx hm} (hw : w = delV (J c) J p hp)
    {k : PUnit → Prog (TpuEff nD τ sig (Elt F) Λ₀ .tc) α} (hk : iprop(P ∗ OutSt J c (p + 1) ∗ R) ⊢ W c (k ⟨⟩) Q) :
    iprop(P ∗ OutSt J c p ∗ R) ⊢ W c (Prog.lift (.load outM r hl) >>= fun _ =>
      (Prog.lift (.store outM (Rect.unit (s := S2x512x768) ![p / 2, 256 * (p % 2), 0] S1x256x768.size inb) w Finset.univ hx hm) >>= k)) Q := by
  subst hw
  refine swap2.trans (ex_left fun f => pure_left fun hf => ?_)
  exact prim_set c (m := outM) (S := Finset.univ) _ (Finset.subset_univ _) (Finset.subset_univ _) (fun i _ => rfl)
    ((sep_mono_left (out_intro J c (out_ok J (J c) hp hf))).trans (swap2.trans hk))

end Cert.Ring
-- ==== Proof.Phases.lean ====
/-
# The phases

What a device holds for one phase at each stage of it, and how one stage's state is rearranged for the next step.
-/
module

public import proofs.«01_k».proof.Proof.Mem

@[expose] public section

noncomputable section

namespace Cert.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (J : Dev nD → Ins F) (K : Dev nD × Fin 513 → ℕ) (c : Dev nD)
variable {O : CellTallies nD τ sig Unit} {a b p : ℕ} {R R' X Y Z V : sProp (MM F)}

/-! ## Over all distances at once -/

/-- The credits, the positions, the resources of the waits of kind `k` in phase `p`; the semaphores once emptied. -/
def crs (k N p : ℕ) : sProp 𝕄 := bigSep (Finset.Ico 1 32) fun o => cred (tallyAt (dcell c (cix k p o)) () N)
def ats (k p : ℕ) : sProp 𝕄 := bigSep (Finset.Ico 1 32) fun o => atPos ER (dcell c (cix k p o)) 0 ∅ 0
def wrs (k N p : ℕ) : sProp 𝕄 := bigSep (Finset.Ico 1 32) fun o => waitRes c k N p o
def svs (k p : ℕ) : sProp 𝕄 := bigSep (Finset.Ico 1 32) fun o => semVal (dcell c (cix k p o)) 0
def pay (k p : ℕ) : sProp 𝕄 := bigSep (Finset.Ico 1 32) fun o => xferPay J c k p o
/-- The places at the other devices and the duties, for the transfers of the first, second kind. -/
def to1 (p : ℕ) : sProp 𝕄 := bigSep (Finset.Ico 1 32) fun o => iprop(stAny (peer c o) p o ∗ duty2 c 0 1 p o)
def to2 (p : ℕ) : sProp 𝕄 := bigSep (Finset.Ico 1 32) fun o => iprop(osAny (peer c o) p c ∗ duty2 c 2 3 p o)
/-- The rows of the other devices in the send buffer, the shares of the own rows the transfers read. -/
def rows1 (p : ℕ) : sProp 𝕄 := bigSep (Finset.Ico 1 32) fun o => sbPts J c p (peer c o)
def rows2 (p : ℕ) : sProp 𝕄 := bigSep (Finset.Ico 1 32) fun o => osPts J c p c (shr o)

omit [FloatOps F] in
theorem wrs_eq (k N p : ℕ) : (wrs c k N p : sProp 𝕄) = iprop(crs c k N p ∗ ats c k p) := by
  unfold wrs crs ats waitRes; exact bigSep_sep _ _ _
theorem ww_start {k k' N : ℕ} : WW J K c k k' N p 1 1 O = iprop(recs J K ∗ owesE c O ∗ (wrs c k N p ∗ emp) ∗ (wrs c k' N p ∗ emp)) := by
  unfold WW WSt wrs
  rw [Finset.Ico_self, bigSep_empty, bigSep_empty]; rfl
theorem done_eq (k : ℕ) : (bigSep (Finset.Ico 1 32) fun o => doneRes J c k p o) = iprop(pay J c k p ∗ svs c k p) := by
  unfold pay svs doneRes; exact bigSep_sep _ _ _
theorem ww_end {k k' N : ℕ} : WW J K c k k' N p 32 32 O = iprop(recs J K ∗ owesE c O ∗ (emp ∗ pay J c k p ∗ svs c k p) ∗ (emp ∗ pay J c k' p ∗ svs c k' p)) := by
  unfold WW WSt
  rw [done_eq, done_eq, Finset.Ico_self, bigSep_empty, bigSep_empty]; rfl
theorem give1_eq : (bigSep (Finset.Ico 1 32) fun o => give1 J c p o) = iprop(rows1 J c p ∗ to1 c p) := by
  unfold give1 rows1 to1; exact bigSep_sep _ _ _
theorem give2_eq : (bigSep (Finset.Ico 1 32) fun o => give2 J c p o) = iprop(rows2 J c p ∗ to2 c p) := by
  unfold give2 rows2 to2; exact bigSep_sep _ _ _
theorem s1_start : S1St J K c p 1 O = iprop(recs J K ∗ owesE c (O1 c p 1 + O) ∗ (rows1 J c p ∗ to1 c p) ∗ emp) := by
  unfold S1St
  rw [give1_eq, Finset.Ico_self, bigSep_empty]; rfl
theorem s1_end : S1St J K c p 32 O = iprop(recs J K ∗ owesE c O ∗ emp ∗ crs c 0 N1 p) := by
  unfold S1St crs
  rw [Finset.Ico_self, bigSep_empty, O1_end, zero_add]; rfl
theorem s2_start : S2St J K c p 1 O = iprop(recs J K ∗ owesE c (O2 c p 1 + O) ∗ (rows2 J c p ∗ to2 c p) ∗ emp) := by
  unfold S2St
  rw [give2_eq, Finset.Ico_self, bigSep_empty]; rfl
theorem s2_end : S2St J K c p 32 O = iprop(recs J K ∗ owesE c O ∗ emp ∗ crs c 2 N2 p) := by
  unfold S2St crs
  rw [Finset.Ico_self, bigSep_empty, O2_end, zero_add]; rfl
theorem pay0 : pay J c 0 p = rows1 J c p := by unfold pay rows1 xferPay; rfl
theorem pay1 : pay J c 1 p = stF J c p := by unfold pay stF xferPay; rfl
theorem pay2 : pay J c 2 p = rows2 J c p := by unfold pay rows2 xferPay; rfl
theorem sbFull_split : sbFull J c p = iprop(sbPts J c p c ∗ rows1 J c p) := by
  unfold sbFull rows1
  rw [← bigSep_others c (fun t => sbPts J c p t)]
  exact bigSep_erase (Finset.mem_univ c)

omit [FloatOps F] in
theorem bigSep_leaves (f : ℕ → sProp 𝕄) : (bigSep Finset.univ fun i : Fin (2 ^ 5) => f i.val) = iprop(f 0 ∗ bigSep (Finset.Ico 1 32) f) := by
  have h : (Finset.univ : Finset (Fin (2 ^ 5))).map Fin.valEmbedding = insert 0 (Finset.Ico 1 32) := by decide +kernel
  have e := bigSep_map (s := (Finset.univ : Finset (Fin (2 ^ 5)))) Fin.valEmbedding (Φ := f)
  rw [h, bigSep_insert (by decide)] at e
  exact e.symm

theorem osPts_shares : osPts J c p c fullShare = iprop(osPts J c p c (shr 0) ∗ rows2 J c p) := by
  unfold rows2
  rw [← bigSep_leaves (fun o => osPts J c p c (shr o))]
  unfold osPts
  rw [ShareLeaves.pointsTo_leaves _ _ 5 fullShare]
  refine bigSep_congr fun i _ => ?_
  unfold shr
  rw [show (⟨i.val % 32, Nat.mod_lt _ (by decide)⟩ : Fin (2 ^ 5)) = i from Fin.ext (Nat.mod_eq_of_lt i.isLt)]

theorem bigSep_back (Φ : Dev nD → sProp (MM F)) : bigSep (Finset.univ.erase c) Φ = bigSep (Finset.Ico 1 32) fun o => Φ (back c o) := by
  have hc : c.val < 32 := c.isLt
  have h : (Finset.univ.erase c : Finset (Dev nD)) = (Finset.Ico 1 32).image (back c) := by
    ext t
    rw [Finset.mem_erase, Finset.mem_image]
    have ht : t.val < 32 := t.isLt
    constructor
    · rintro ⟨h, -⟩
      have h' : t.val ≠ c.val := fun e => h (Fin.ext e)
      exact ⟨(c.val + 32 - t.val) % 32, Finset.mem_Ico.mpr (by omega), Fin.ext (by rw [back_val]; omega)⟩
    · rintro ⟨o, ho, rfl⟩
      have ho := Finset.mem_Ico.mp ho
      refine ⟨fun h => ?_, Finset.mem_univ _⟩
      have := congrArg Fin.val h
      rw [back_val] at this
      omega
  rw [h]
  refine bigSep_image_injOn (fun i hi j hj h => ?_) Φ
  have e := congrArg Fin.val h
  rw [back_val, back_val] at e
  have h1 := Finset.mem_Ico.mp (Finset.mem_coe.mp hi)
  have h2 := Finset.mem_Ico.mp (Finset.mem_coe.mp hj)
  omega

theorem osBlk_eq (p : ℕ) : osBlk p = (Finset.univ : Finset (Dev nD)).biUnion (osSet p) := by
  ext i
  rw [mem_osBlk, Finset.mem_biUnion]
  have h0 : (i 0).val < 2 := (i 0).isLt
  have h1 : (i 1).val < 512 := (i 1).isLt
  constructor
  · intro h
    exact ⟨⟨(512 * (i 0).val + (i 1).val) / 8 % 32, Nat.mod_lt _ (by decide)⟩, Finset.mem_univ _, mem_osSet.mpr (by dsimp only; omega)⟩
  · rintro ⟨t, -, ht⟩
    have := mem_osSet.mp ht
    have := t.isLt
    have : t.val < 32 := t.isLt
    omega
theorem osFull_split : osFull J c p = iprop(osPts J c p c fullShare ∗ pay J c 3 p) := by
  have e : pay J c 3 p = bigSep (Finset.univ.erase c) fun t => osPts J c p t fullShare := by
    rw [bigSep_back c]; unfold pay xferPay; rfl
  rw [e]
  refine Eq.trans ?_ (bigSep_erase (Finset.mem_univ c) (Φ := fun t => osPts J c p t fullShare))
  unfold osFull osPts
  rw [osBlk_eq, pointsTo_biUnion]
  intro t _ t' _ hne
  rw [Finset.disjoint_left]
  intro i hi hi'
  have := mem_osSet.mp hi
  have := mem_osSet.mp hi'
  exact hne (Fin.ext (by omega))

/-! ## The stages -/

/-- What the second half of a phase needs. -/
def Ry (p : ℕ) : sProp 𝕄 := iprop(to2 c p ∗ ats c 2 p ∗ wrs c 3 N2 p)
/-- Before a phase: the send buffer's rows apart, -/
def St0' (p : ℕ) : sProp 𝕄 := iprop(to1 c p ∗ ats c 0 p ∗ wrs c 1 N1 p ∗ osAny c p c ∗ Ry c p)
def St0 (p : ℕ) : sProp 𝕄 := iprop(sbAny c p ∗ St0' c p)
/-- while the first transfers are sent, and once they are; -/
def M1 (p : ℕ) : sProp 𝕄 := iprop(sbPts J c p c ∗ ats c 0 p ∗ wrs c 1 N1 p ∗ osAny c p c ∗ Ry c p)
def St1 (p : ℕ) : sProp 𝕄 := iprop(crs c 0 N1 p ∗ M1 J c p)
/-- while they are waited for, and once they are in; -/
def M2 (p : ℕ) : sProp 𝕄 := iprop(sbPts J c p c ∗ osAny c p c ∗ Ry c p)
def D1 (p : ℕ) : sProp 𝕄 := iprop(sbFull J c p ∗ svs c 0 p ∗ svs c 1 p)
/-- while the second transfers are sent, and once they are; -/
def M3 (p : ℕ) : sProp 𝕄 := iprop(D1 J c p ∗ stF J c p ∗ osPts J c p c (shr 0) ∗ ats c 2 p ∗ wrs c 3 N2 p)
def St2 (p : ℕ) : sProp 𝕄 := iprop(crs c 2 N2 p ∗ M3 J c p)
/-- while these are waited for, and once they are in. -/
def M4 (p : ℕ) : sProp 𝕄 := iprop(D1 J c p ∗ stF J c p ∗ osPts J c p c (shr 0))
def M5 (p : ℕ) : sProp 𝕄 := iprop(D1 J c p ∗ stF J c p ∗ svs c 2 p ∗ svs c 3 p)
def St3 (p : ℕ) : sProp 𝕄 := iprop(osFull J c p ∗ M5 J c p)

/-- A device's state between two stages: `X` for the phase at hand, `R` for the others. -/
def Mac (O : CellTallies nD τ sig Unit) (a b : ℕ) (X R : sProp 𝕄) : sProp 𝕄 :=
  iprop(recs J K ∗ owesE c O ∗ InSt J c ∗ AccSt J c a 0 ∗ OutSt J c b ∗ X ∗ R)

theorem mac_rot1 : Mac J K c O a b X iprop(Y ∗ Z) ⊢ Mac J K c O a b Y iprop(X ∗ Z) := by
  unfold Mac
  iintro ⟨#Hr, HO, HI, HA, HU, HX, HY, HZ⟩
  isplitr; · iexact Hr
  isplitl [HO]; · iexact HO
  isplitl [HI]; · iexact HI
  isplitl [HA]; · iexact HA
  isplitl [HU]; · iexact HU
  isplitl [HY]; · iexact HY
  isplitl [HX]; · iexact HX
  iexact HZ
theorem mac_rot2 : Mac J K c O a b X iprop(Y ∗ Z ∗ V) ⊢ Mac J K c O a b Z iprop(Y ∗ X ∗ V) := by
  unfold Mac
  iintro ⟨#Hr, HO, HI, HA, HU, HX, HY, HZ, HV⟩
  isplitr; · iexact Hr
  isplitl [HO]; · iexact HO
  isplitl [HI]; · iexact HI
  isplitl [HA]; · iexact HA
  isplitl [HU]; · iexact HU
  isplitl [HZ]; · iexact HZ
  isplitl [HY]; · iexact HY
  isplitl [HX]; · iexact HX
  iexact HV
theorem mac_rot3 : Mac J K c O a b X iprop(Y ∗ Z ∗ V ∗ R) ⊢ Mac J K c O a b V iprop(Y ∗ Z ∗ X ∗ R) := by
  unfold Mac
  iintro ⟨#Hr, HO, HI, HA, HU, HX, HY, HZ, HV, HR⟩
  isplitr; · iexact Hr
  isplitl [HO]; · iexact HO
  isplitl [HI]; · iexact HI
  isplitl [HA]; · iexact HA
  isplitl [HU]; · iexact HU
  isplitl [HV]; · iexact HV
  isplitl [HY]; · iexact HY
  isplitl [HZ]; · iexact HZ
  isplitl [HX]; · iexact HX
  iexact HR

/-! ## From stage to stage -/

/-- What stands by while a phase computes, -/
def By0 (O : CellTallies nD τ sig Unit) (b p : ℕ) (R : sProp 𝕄) : sProp 𝕄 := iprop(recs J K ∗ owesE c O ∗ OutSt J c b ∗ St0' c p ∗ R)
/-- while it sends or waits, -/
def By1 (a b : ℕ) (X R : sProp 𝕄) : sProp 𝕄 := iprop(InSt J c ∗ AccSt J c a 0 ∗ OutSt J c b ∗ X ∗ R)
/-- while it normalises its rows, -/
def By2 (O : CellTallies nD τ sig Unit) (b p : ℕ) (R : sProp 𝕄) : sProp 𝕄 := iprop(recs J K ∗ owesE c O ∗ InSt J c ∗ OutSt J c b ∗ osAny c p c ∗ D1 J c p ∗ Ry c p ∗ R)
def By3 (O : CellTallies nD τ sig Unit) (a b p : ℕ) (R : sProp 𝕄) : sProp 𝕄 :=
  iprop(recs J K ∗ owesE c O ∗ InSt J c ∗ AccSt J c a 0 ∗ OutSt J c b ∗ stF J c p ∗ D1 J c p ∗ Ry c p ∗ R)
/-- and while it stores its result. -/
def By4 (O : CellTallies nD τ sig Unit) (a p : ℕ) (R : sProp 𝕄) : sProp 𝕄 := iprop(recs J K ∗ owesE c O ∗ InSt J c ∗ AccSt J c a 0 ∗ M5 J c p ∗ R)

theorem to_comp : Mac J K c O p b (St0 c p) R ⊢ iprop(InSt J c ∗ AccSt J c p 0 ∗ sbAny c p ∗ By0 J K c O b p R) := by
  unfold Mac By0 St0
  iintro ⟨#Hr, HO, HI, HA, HU, ⟨HX, HY⟩, HR⟩
  isplitl [HI]; · iexact HI
  isplitl [HA]; · iexact HA
  isplitl [HX]; · iexact HX
  isplitr; · iexact Hr
  isplitl [HO]; · iexact HO
  isplitl [HU]; · iexact HU
  isplitl [HY]; · iexact HY
  iexact HR
theorem to_send1 : iprop(InSt J c ∗ AccSt J c a 0 ∗ sbFull J c p ∗ By0 J K c (O1 c p 1 + O) b p R) ⊢ iprop(S1St J K c p 1 O ∗ By1 J c a b (M1 J c p) R) := by
  rw [s1_start, sbFull_split]
  unfold By0 By1 St0' M1
  iintro ⟨HI, HA, ⟨Hs, Hs'⟩, #Hr, HO, HU, ⟨Ht, HX⟩, HR⟩
  isplitl [HO Hs' Ht]
  · isplitr; · iexact Hr
    isplitl [HO]; · iexact HO
    isplitl
    · isplitl [Hs']; · iexact Hs'
      iexact Ht
    · itrivial
  isplitl [HI]; · iexact HI
  isplitl [HA]; · iexact HA
  isplitl [HU]; · iexact HU
  isplitr [HR]
  · isplitl [Hs]; · iexact Hs
    iexact HX
  · iexact HR
theorem of_send1 : iprop(S1St J K c p 32 O ∗ By1 J c a b (M1 J c p) R) ⊢ Mac J K c O a b (St1 J c p) R := by
  rw [s1_end]
  unfold By1 Mac St1
  iintro ⟨⟨#Hr, HO, -, Hc⟩, HI, HA, HU, HX, HR⟩
  isplitr; · iexact Hr
  isplitl [HO]; · iexact HO
  isplitl [HI]; · iexact HI
  isplitl [HA]; · iexact HA
  isplitl [HU]; · iexact HU
  isplitr [HR]
  · isplitl [Hc]; · iexact Hc
    iexact HX
  · iexact HR
theorem to_wait1 : Mac J K c O a b (St1 J c p) R ⊢ iprop(WW J K c 0 1 N1 p 1 1 O ∗ By1 J c a b (M2 J c p) R) := by
  rw [ww_start, wrs_eq c 0]
  unfold By1 Mac St1 M1 M2
  iintro ⟨#Hr, HO, HI, HA, HU, ⟨Hc, Hs, Ha, Hw, HX⟩, HR⟩
  isplitl [HO Hc Ha Hw]
  · isplitr; · iexact Hr
    isplitl [HO]; · iexact HO
    isplitl [Hc Ha]
    · isplitl
      · isplitl [Hc]; · iexact Hc
        iexact Ha
      · itrivial
    · isplitl
      · iexact Hw
      · itrivial
  isplitl [HI]; · iexact HI
  isplitl [HA]; · iexact HA
  isplitl [HU]; · iexact HU
  isplitr [HR]
  · isplitl [Hs]; · iexact Hs
    iexact HX
  · iexact HR
theorem to_norm : iprop(WW J K c 0 1 N1 p 32 32 O ∗ By1 J c a b (M2 J c p) R) ⊢ iprop(AccSt J c a 0 ∗ stF J c p ∗ By2 J K c O b p R) := by
  rw [ww_end, pay0, pay1]
  unfold By1 By2 M2 D1
  rw [sbFull_split]
  iintro ⟨⟨#Hr, HO, ⟨-, Hp, Hv⟩, -, Hq, Hv'⟩, HI, HA, HU, ⟨Hs, Ho, HY⟩, HR⟩
  isplitl [HA]; · iexact HA
  isplitl [Hq]; · iexact Hq
  isplitr; · iexact Hr
  isplitl [HO]; · iexact HO
  isplitl [HI]; · iexact HI
  isplitl [HU]; · iexact HU
  isplitl [Ho]; · iexact Ho
  isplitl [Hs Hp Hv Hv']
  · isplitl [Hs Hp]
    · isplitl [Hs]; · iexact Hs
      iexact Hp
    isplitl [Hv]; · iexact Hv
    iexact Hv'
  isplitl [HY]; · iexact HY
  iexact HR
theorem to_store : iprop(AccSt J c a 0 ∗ stF J c p ∗ By2 J K c O b p R) ⊢ iprop(osAny c p c ∗ By3 J K c O a b p R) := by
  unfold By2 By3
  iintro ⟨HA, Hq, #Hr, HO, HI, HU, Ho, HD, HY, HR⟩
  isplitl [Ho]; · iexact Ho
  isplitr; · iexact Hr
  isplitl [HO]; · iexact HO
  isplitl [HI]; · iexact HI
  isplitl [HA]; · iexact HA
  isplitl [HU]; · iexact HU
  isplitl [Hq]; · iexact Hq
  isplitl [HD]; · iexact HD
  isplitl [HY]; · iexact HY
  iexact HR
theorem to_send2 : iprop(osPts J c p c fullShare ∗ By3 J K c (O2 c p 1 + O) a b p R) ⊢ iprop(S2St J K c p 1 O ∗ By1 J c a b (M3 J c p) R) := by
  rw [s2_start, osPts_shares]
  unfold By3 By1 M3 Ry
  iintro ⟨⟨Ho, Ho'⟩, #Hr, HO, HI, HA, HU, Hq, HD, ⟨Ht, Ha, Hw⟩, HR⟩
  isplitl [HO Ho' Ht]
  · isplitr; · iexact Hr
    isplitl [HO]; · iexact HO
    isplitl
    · isplitl [Ho']; · iexact Ho'
      iexact Ht
    · itrivial
  isplitl [HI]; · iexact HI
  isplitl [HA]; · iexact HA
  isplitl [HU]; · iexact HU
  isplitr [HR]
  · isplitl [HD]; · iexact HD
    isplitl [Hq]; · iexact Hq
    isplitl [Ho]; · iexact Ho
    isplitl [Ha]; · iexact Ha
    iexact Hw
  · iexact HR
theorem of_send2 : iprop(S2St J K c p 32 O ∗ By1 J c a b (M3 J c p) R) ⊢ Mac J K c O a b (St2 J c p) R := by
  rw [s2_end]
  unfold By1 Mac St2
  iintro ⟨⟨#Hr, HO, -, Hc⟩, HI, HA, HU, HX, HR⟩
  isplitr; · iexact Hr
  isplitl [HO]; · iexact HO
  isplitl [HI]; · iexact HI
  isplitl [HA]; · iexact HA
  isplitl [HU]; · iexact HU
  isplitr [HR]
  · isplitl [Hc]; · iexact Hc
    iexact HX
  · iexact HR
theorem to_wait2 : Mac J K c O a b (St2 J c p) R ⊢ iprop(WW J K c 2 3 N2 p 1 1 O ∗ By1 J c a b (M4 J c p) R) := by
  rw [ww_start, wrs_eq c 2]
  unfold By1 Mac St2 M3 M4
  iintro ⟨#Hr, HO, HI, HA, HU, ⟨Hc, HD, Hq, Ho, Ha, Hw⟩, HR⟩
  isplitl [HO Hc Ha Hw]
  · isplitr; · iexact Hr
    isplitl [HO]; · iexact HO
    isplitl [Hc Ha]
    · isplitl
      · isplitl [Hc]; · iexact Hc
        iexact Ha
      · itrivial
    · isplitl
      · iexact Hw
      · itrivial
  isplitl [HI]; · iexact HI
  isplitl [HA]; · iexact HA
  isplitl [HU]; · iexact HU
  isplitr [HR]
  · isplitl [HD]; · iexact HD
    isplitl [Hq]; · iexact Hq
    iexact Ho
  · iexact HR
theorem to_out : iprop(WW J K c 2 3 N2 p 32 32 O ∗ By1 J c a b (M4 J c p) R) ⊢ iprop(osFull J c p ∗ OutSt J c b ∗ By4 J K c O a p R) := by
  rw [ww_end, pay2, osFull_split, osPts_shares]
  unfold By1 By4 M4 M5
  iintro ⟨⟨#Hr, HO, ⟨-, Hp, Hv⟩, -, Hq, Hv'⟩, HI, HA, HU, ⟨HD, Hs, Ho⟩, HR⟩
  isplitl [Ho Hp Hq]
  · isplitl [Ho Hp]
    · isplitl [Ho]; · iexact Ho
      iexact Hp
    iexact Hq
  isplitl [HU]; · iexact HU
  isplitr; · iexact Hr
  isplitl [HO]; · iexact HO
  isplitl [HI]; · iexact HI
  isplitl [HA]; · iexact HA
  isplitr [HR]
  · isplitl [HD]; · iexact HD
    isplitl [Hs]; · iexact Hs
    isplitl [Hv]; · iexact Hv
    iexact Hv'
  · iexact HR
theorem of_out : iprop(osFull J c p ∗ OutSt J c b ∗ By4 J K c O a p R) ⊢ Mac J K c O a b (St3 J c p) R := by
  unfold By4 Mac St3
  iintro ⟨Ho, HU, #Hr, HO, HI, HA, HX, HR⟩
  isplitr; · iexact Hr
  isplitl [HO]; · iexact HO
  isplitl [HI]; · iexact HI
  isplitl [HA]; · iexact HA
  isplitl [HU]; · iexact HU
  isplitr [HR]
  · isplitl [Ho]; · iexact Ho
    iexact HX
  · iexact HR

end Cert.Ring
-- ==== Proof.Body.lean ====
/-
# The kernel, run by one device

The kernel's steps in order, each by its step lemma; between them the state is rearranged from stage to stage.
-/
module

public import proofs.«01_k».proof.Proof.Phases

@[expose] public section

noncomputable section

namespace Cert.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (J : Dev nD → Ins F) (K : Dev nD × Fin 513 → ℕ) (c : Dev nD)

/-! ## What is still owed after each group of transfers -/

abbrev T8 : CellTallies nD τ sig Unit := 0
abbrev T7 (c : Dev nD) : CellTallies nD τ sig Unit := O2 c 3 1 + T8
abbrev T6 (c : Dev nD) : CellTallies nD τ sig Unit := O2 c 2 1 + T7 c
abbrev T5 (c : Dev nD) : CellTallies nD τ sig Unit := O1 c 3 1 + T6 c
abbrev T4 (c : Dev nD) : CellTallies nD τ sig Unit := O2 c 1 1 + T5 c
abbrev T3 (c : Dev nD) : CellTallies nD τ sig Unit := O1 c 2 1 + T4 c
abbrev T2 (c : Dev nD) : CellTallies nD τ sig Unit := O2 c 0 1 + T3 c
abbrev T1 (c : Dev nD) : CellTallies nD τ sig Unit := O1 c 1 1 + T2 c
abbrev T0 (c : Dev nD) : CellTallies nD τ sig Unit := O1 c 0 1 + T1 c
theorem OX_T0 : OX c = T0 c := by unfold OX T0 T1 T2 T3 T4 T5 T6 T7 T8; rw [add_zero]
theorem above_T8 {n : ℕ} (h : n ≤ 9) : Above n T8 := above_zero n
theorem above_T7 {n : ℕ} (h : n ≤ 8) : Above n (T7 c) := above_add (above_O2 c 3 1 (by decide) (by omega)) (above_zero n)
theorem above_T6 {n : ℕ} (h : n ≤ 6) : Above n (T6 c) := above_add (above_O2 c 2 1 (by decide) (by omega)) (above_T7 c (by omega))
theorem above_T5 {n : ℕ} (h : n ≤ 6) : Above n (T5 c) := above_add (above_O1 c 3 1 (by decide) (by omega)) (above_T6 c h)
theorem above_T4 {n : ℕ} (h : n ≤ 4) : Above n (T4 c) := above_add (above_O2 c 1 1 (by decide) (by omega)) (above_T5 c (by omega))
theorem above_T3 {n : ℕ} (h : n ≤ 4) : Above n (T3 c) := above_add (above_O1 c 2 1 (by decide) (by omega)) (above_T4 c h)
theorem above_T2 {n : ℕ} (h : n ≤ 2) : Above n (T2 c) := above_add (above_O2 c 0 1 (by decide) (by omega)) (above_T3 c (by omega))

set_option maxRecDepth 20000
set_option maxHeartbeats 0

/-- The whole kernel. -/
theorem body_run {Q : PUnit → sProp (MM F)} {R : sProp (MM F)} (Z : sProp (MM F))
    (hs : iprop((recs J K ∗ owesE c (OX c) ∗ gotten c ∗ semVal (bcell c) 0) ∗ R) ⊢ Mac J K c (T0 c) 0 0 (St0 c 0) iprop(St0 c 1 ∗ St0 c 2 ∗ St0 c 3 ∗ Z))
    (hf : Mac J K c T8 4 4 (St3 J c 3) iprop(St3 J c 1 ∗ St3 J c 2 ∗ St3 J c 0 ∗ Z) ⊢ Q ⟨⟩) :
    iprop(SigSt J K c 1 ∗ BarSt c ∗ R) ⊢ W c (cc0_body (F := F) xM (Memref.isWhole_whole _) wqM (Memref.isWhole_whole _) kM (Memref.isWhole_whole _) vM (Memref.isWhole_whole _) woM (Memref.isWhole_whole _) outM (Memref.isWhole_whole _) accM (Memref.isWhole_whole _) sbM (Memref.isWhole_whole _) stM (Memref.isWhole_whole _) osM (Memref.isWhole_whole _) cc0_scratch4 cc0_scratch5 cc0_scratch6 cc0_scratch7) Q := by
  rw [cc0_body_eq_skeleton]
  unfold cc0_body_skel
  rw [k0_part285_eq_skeleton, k0_part286_eq_skeleton, k0_part287_eq_skeleton, k0_part288_eq_skeleton, k0_part289_eq_skeleton]
  unfold k0_part285_skel k0_part286_skel k0_part287_skel k0_part288_skel k0_part289_skel
  rw [k0_part6_eq_skeleton, k0_part7_eq_skeleton, k0_part8_eq_skeleton, k0_part9_eq_skeleton, k0_part10_eq_skeleton, k0_part11_eq_skeleton, k0_part12_eq_skeleton, k0_part27_eq_skeleton, k0_part28_eq_skeleton, k0_part29_eq_skeleton, k0_part30_eq_skeleton, k0_part63_eq_skeleton, k0_part64_eq_skeleton, k0_part77_eq_skeleton, k0_part78_eq_skeleton, k0_part79_eq_skeleton, k0_part80_eq_skeleton, k0_part81_eq_skeleton, k0_part82_eq_skeleton, k0_part83_eq_skeleton, k0_part116_eq_skeleton, k0_part117_eq_skeleton, k0_part148_eq_skeleton, k0_part149_eq_skeleton, k0_part150_eq_skeleton, k0_part151_eq_skeleton, k0_part184_eq_skeleton, k0_part185_eq_skeleton, k0_part216_eq_skeleton, k0_part235_eq_skeleton, k0_part236_eq_skeleton, k0_part267_eq_skeleton]
  ((iterate 2 refine step_part c ?_); refine step_deviceId c ?_; (iterate 5 refine step_signal J K c (by decide) (by decide) ?_); refine step_ret c ?_)
  iterate 4 (refine step_part c ?_; (iterate 6 refine step_signal J K c (by decide) (by decide) ?_); refine step_ret c ?_)
  (refine step_part c ?_; (iterate 2 refine step_signal J K c (by decide) (by decide) ?_); refine step_barrier J K c (hs.trans ?_); refine (to_comp J K c (p := 0)).trans ?_; refine step_wo J c ?_; refine step_x J c ?_; refine step_wq J c ?_; refine step_k J c ?_; refine step_v J c ?_; refine step_ret c ?_)
  (refine step_part c ?_; refine step_dead J c fun _ => ?_; refine step_og J c (p := 0) (by decide) (by decide) rfl ?_; refine step_k J c ?_; refine step_v J c ?_; refine step_dead J c fun _ => ?_; refine step_og J c (p := 0) (by decide) (by decide) rfl ?_; refine step_ret c ?_)
  (refine step_part c ?_; refine step_k J c ?_; refine step_v J c ?_; refine step_dead J c fun _ => ?_; refine step_og J c (p := 0) (by decide) (by decide) rfl ?_; refine step_k J c ?_; refine step_v J c ?_; refine step_ret c ?_)
  (refine step_part c ?_; refine step_dead J c fun _ => ?_; refine step_og J c (p := 0) (by decide) (by decide) rfl ?_; refine step_k J c ?_; refine step_v J c ?_; refine step_dead J c fun _ => ?_; refine step_og J c (p := 0) (by decide) (by decide) rfl ?_; refine step_k J c ?_; refine step_ret c ?_)
  (refine step_part c ?_; refine step_v J c ?_; refine step_dead J c fun _ => ?_; refine step_og J c (p := 0) (by decide) (by decide) rfl ?_; refine step_k J c ?_; refine step_v J c ?_; refine step_ret c ?_)
  (refine step_part c ?_; refine step_dead J c fun _ => ?_; refine step_og J c (p := 0) (by decide) (by decide) rfl ?_; refine step_k J c ?_; refine step_v J c ?_; refine step_dead J c fun _ => ?_; refine step_og J c (p := 0) (by decide) (by decide) rfl ?_; refine step_dead J c fun _ => ?_; refine step_l J c (p := 0) (by decide) rfl ?_; refine step_blk J c (p := 0) (by decide) ?_; refine step_ret c ?_)
  (refine step_part c ?_; refine step_sbdead J c (p := 0) fun _ => ?_; refine step_sb J c (p := 0) (by decide) rfl ?_; refine (to_send1 J K c).trans ?_; refine step_send1 J K c (by decide) (by decide) (by decide) ?_; refine step_ret c ?_)
  (refine step_part c ?_; (iterate 2 refine step_send1 J K c (by decide) (by decide) (by decide) ?_); refine step_ret c ?_)
  (refine step_part c ?_; (iterate 3 refine step_send1 J K c (by decide) (by decide) (by decide) ?_); refine step_ret c ?_)
  iterate 12 (refine step_part c ?_; (iterate 2 refine step_send1 J K c (by decide) (by decide) (by decide) ?_); refine step_ret c ?_)
  (refine step_part c ?_; refine step_send1 J K c (by decide) (by decide) (by decide) ?_; refine (of_send1 J K c).trans ?_; refine (mac_rot1 J K c).trans ?_; refine (to_comp J K c (p := 1)).trans ?_; refine step_x J c ?_; refine step_wq J c ?_; (iterate 2 (refine step_dead J c fun _ => ?_; refine step_og J c (p := 1) (by decide) (by decide) rfl ?_)); refine step_ret c ?_)
  (refine step_part c ?_; (iterate 3 (refine step_dead J c fun _ => ?_; refine step_og J c (p := 1) (by decide) (by decide) rfl ?_)); refine step_ret c ?_)
  (refine step_part c ?_; (iterate 2 (refine step_dead J c fun _ => ?_; refine step_og J c (p := 1) (by decide) (by decide) rfl ?_)); refine step_dead J c fun _ => ?_; refine step_ret c ?_)
  (refine step_part c ?_; refine step_og J c (p := 1) (by decide) (by decide) rfl ?_; refine step_dead J c fun _ => ?_; refine step_l J c (p := 1) (by decide) rfl ?_; refine step_blk J c (p := 1) (by decide) ?_; refine step_sbdead J c (p := 1) fun _ => ?_; refine step_sb J c (p := 1) (by decide) rfl ?_; refine (to_send1 J K c).trans ?_; refine step_send1 J K c (by decide) (by decide) (by decide) ?_; refine step_ret c ?_)
  iterate 8 (refine step_part c ?_; (iterate 2 refine step_send1 J K c (by decide) (by decide) (by decide) ?_); refine step_ret c ?_)
  (refine step_part c ?_; (iterate 3 refine step_send1 J K c (by decide) (by decide) (by decide) ?_); refine step_ret c ?_)
  iterate 5 (refine step_part c ?_; (iterate 2 refine step_send1 J K c (by decide) (by decide) (by decide) ?_); refine step_ret c ?_)
  (refine step_part c ?_; refine step_send1 J K c (by decide) (by decide) (by decide) ?_; refine (of_send1 J K c).trans ?_; refine (mac_rot1 J K c).trans ?_; refine (to_wait1 J K c).trans ?_; refine step_wait0 J K c (by decide) (by decide) (by decide) (above_T2 c (by decide)) ?_; refine step_wait1 J K c (by decide) (by decide) (by decide) (above_T2 c (by decide)) ?_; refine step_ret c ?_)
  iterate 2 ((refine step_part c ?_; refine step_wait0 J K c (by decide) (by decide) (by decide) (above_T2 c (by decide)) ?_; refine step_wait1 J K c (by decide) (by decide) (by decide) (above_T2 c (by decide)) ?_; refine step_wait0 J K c (by decide) (by decide) (by decide) (above_T2 c (by decide)) ?_; refine step_ret c ?_); (refine step_part c ?_; (iterate 2 (refine step_wait1 J K c (by decide) (by decide) (by decide) (above_T2 c (by decide)) ?_; refine step_wait0 J K c (by decide) (by decide) (by decide) (above_T2 c (by decide)) ?_)); refine step_ret c ?_); (refine step_part c ?_; refine step_wait1 J K c (by decide) (by decide) (by decide) (above_T2 c (by decide)) ?_; refine step_wait0 J K c (by decide) (by decide) (by decide) (above_T2 c (by decide)) ?_; refine step_wait1 J K c (by decide) (by decide) (by decide) (above_T2 c (by decide)) ?_; refine step_ret c ?_); (refine step_part c ?_; (iterate 2 (refine step_wait0 J K c (by decide) (by decide) (by decide) (above_T2 c (by decide)) ?_; refine step_wait1 J K c (by decide) (by decide) (by decide) (above_T2 c (by decide)) ?_)); refine step_ret c ?_); (refine step_part c ?_; refine step_wait0 J K c (by decide) (by decide) (by decide) (above_T2 c (by decide)) ?_; refine step_wait1 J K c (by decide) (by decide) (by decide) (above_T2 c (by decide)) ?_; refine step_wait0 J K c (by decide) (by decide) (by decide) (above_T2 c (by decide)) ?_; refine step_ret c ?_); (refine step_part c ?_; (iterate 2 (refine step_wait1 J K c (by decide) (by decide) (by decide) (above_T2 c (by decide)) ?_; refine step_wait0 J K c (by decide) (by decide) (by decide) (above_T2 c (by decide)) ?_)); refine step_ret c ?_); (refine step_part c ?_; refine step_wait1 J K c (by decide) (by decide) (by decide) (above_T2 c (by decide)) ?_; refine step_wait0 J K c (by decide) (by decide) (by decide) (above_T2 c (by decide)) ?_; refine step_wait1 J K c (by decide) (by decide) (by decide) (above_T2 c (by decide)) ?_; refine step_ret c ?_))
  (refine step_part c ?_; refine step_wait0 J K c (by decide) (by decide) (by decide) (above_T2 c (by decide)) ?_; refine step_wait1 J K c (by decide) (by decide) (by decide) (above_T2 c (by decide)) ?_; refine step_wait0 J K c (by decide) (by decide) (by decide) (above_T2 c (by decide)) ?_; (iterate 2 refine step_ret c ?_))
  ((iterate 2 refine step_part c ?_); (iterate 2 (refine step_wait1 J K c (by decide) (by decide) (by decide) (above_T2 c (by decide)) ?_; refine step_wait0 J K c (by decide) (by decide) (by decide) (above_T2 c (by decide)) ?_)); refine step_ret c ?_)
  (refine step_part c ?_; refine step_wait1 J K c (by decide) (by decide) (by decide) (above_T2 c (by decide)) ?_; refine step_wait0 J K c (by decide) (by decide) (by decide) (above_T2 c (by decide)) ?_; refine step_wait1 J K c (by decide) (by decide) (by decide) (above_T2 c (by decide)) ?_; refine step_ret c ?_)
  (refine step_part c ?_; refine step_wait0 J K c (by decide) (by decide) (by decide) (above_T2 c (by decide)) ?_; refine step_wait1 J K c (by decide) (by decide) (by decide) (above_T2 c (by decide)) ?_; refine (to_norm J K c).trans ?_; refine step_row J c (p := 0) (by decide) (by decide) (k0_off2_eq c ⟨0, by decide⟩) ?_; refine step_stage J c (p := 0) (by decide) ?_; refine (to_store J K c).trans ?_; refine step_ret c ?_)
  (refine step_part c ?_; refine step_os J c (p := 0) (by decide) (k0_off3_eq c ⟨0, by decide⟩) rfl ?_; refine (to_send2 J K c).trans ?_; refine step_send2 J K c (by decide) (k0_off4_eq c ⟨0, by decide⟩) (by decide) (by decide) ?_; refine step_ret c ?_)
  iterate 2 ((refine step_part c ?_; (iterate 2 refine step_send2 J K c (by decide) (k0_off4_eq c ⟨0, by decide⟩) (by decide) (by decide) ?_); refine step_ret c ?_); (refine step_part c ?_; (iterate 3 refine step_send2 J K c (by decide) (k0_off4_eq c ⟨0, by decide⟩) (by decide) (by decide) ?_); refine step_ret c ?_); (refine step_part c ?_; (iterate 2 refine step_send2 J K c (by decide) (k0_off4_eq c ⟨0, by decide⟩) (by decide) (by decide) ?_); refine step_ret c ?_); (refine step_part c ?_; (iterate 2 refine step_send2 J K c (by decide) (k0_off4_eq c ⟨0, by decide⟩) (by decide) (by decide) ?_); refine step_ret c ?_); (refine step_part c ?_; (iterate 3 refine step_send2 J K c (by decide) (k0_off4_eq c ⟨0, by decide⟩) (by decide) (by decide) ?_); refine step_ret c ?_))
  (refine step_part c ?_; (iterate 2 refine step_send2 J K c (by decide) (k0_off4_eq c ⟨0, by decide⟩) (by decide) (by decide) ?_); refine step_ret c ?_)
  (refine step_part c ?_; (iterate 3 refine step_send2 J K c (by decide) (k0_off4_eq c ⟨0, by decide⟩) (by decide) (by decide) ?_); refine step_ret c ?_)
  (refine step_part c ?_; refine step_send2 J K c (by decide) (k0_off4_eq c ⟨0, by decide⟩) (by decide) (by decide) ?_; refine (of_send2 J K c).trans ?_; refine (mac_rot2 J K c).trans ?_; refine (to_comp J K c (p := 2)).trans ?_; refine step_x J c ?_; refine step_wq J c ?_; refine step_k J c ?_; refine step_v J c ?_; refine step_ret c ?_)
  iterate 2 ((refine step_part c ?_; refine step_dead J c fun _ => ?_; refine step_og J c (p := 2) (by decide) (by decide) rfl ?_; refine step_k J c ?_; refine step_v J c ?_; refine step_dead J c fun _ => ?_; refine step_og J c (p := 2) (by decide) (by decide) rfl ?_; refine step_k J c ?_; refine step_ret c ?_); (refine step_part c ?_; refine step_v J c ?_; refine step_dead J c fun _ => ?_; refine step_og J c (p := 2) (by decide) (by decide) rfl ?_; refine step_k J c ?_; refine step_v J c ?_; refine step_ret c ?_))
  (refine step_part c ?_; refine step_dead J c fun _ => ?_; refine step_og J c (p := 2) (by decide) (by decide) rfl ?_; refine step_k J c ?_; refine step_v J c ?_; refine step_dead J c fun _ => ?_; refine step_og J c (p := 2) (by decide) (by decide) rfl ?_; refine step_dead J c fun _ => ?_; refine step_l J c (p := 2) (by decide) rfl ?_; refine step_blk J c (p := 2) (by decide) ?_; refine step_sbdead J c (p := 2) fun _ => ?_; refine step_ret c ?_)
  (refine step_part c ?_; refine step_sb J c (p := 2) (by decide) rfl ?_; refine (to_send1 J K c).trans ?_; (iterate 2 refine step_send1 J K c (by decide) (by decide) (by decide) ?_); refine step_ret c ?_)
  iterate 13 (refine step_part c ?_; (iterate 2 refine step_send1 J K c (by decide) (by decide) (by decide) ?_); refine step_ret c ?_)
  (refine step_part c ?_; (iterate 3 refine step_send1 J K c (by decide) (by decide) (by decide) ?_); refine (of_send1 J K c).trans ?_; refine (mac_rot1 J K c).trans ?_; refine step_ret c ?_)
  (refine step_part c ?_; refine (to_wait1 J K c).trans ?_; refine step_wait0 J K c (by decide) (by decide) (by decide) (above_T4 c (by decide)) ?_; refine step_wait1 J K c (by decide) (by decide) (by decide) (above_T4 c (by decide)) ?_; refine step_wait0 J K c (by decide) (by decide) (by decide) (above_T4 c (by decide)) ?_; refine step_ret c ?_)
  iterate 2 ((refine step_part c ?_; refine step_wait1 J K c (by decide) (by decide) (by decide) (above_T4 c (by decide)) ?_; refine step_wait0 J K c (by decide) (by decide) (by decide) (above_T4 c (by decide)) ?_; refine step_wait1 J K c (by decide) (by decide) (by decide) (above_T4 c (by decide)) ?_; refine step_ret c ?_); (refine step_part c ?_; (iterate 2 (refine step_wait0 J K c (by decide) (by decide) (by decide) (above_T4 c (by decide)) ?_; refine step_wait1 J K c (by decide) (by decide) (by decide) (above_T4 c (by decide)) ?_)); refine step_ret c ?_); (refine step_part c ?_; refine step_wait0 J K c (by decide) (by decide) (by decide) (above_T4 c (by decide)) ?_; refine step_wait1 J K c (by decide) (by decide) (by decide) (above_T4 c (by decide)) ?_; refine step_wait0 J K c (by decide) (by decide) (by decide) (above_T4 c (by decide)) ?_; refine step_ret c ?_); (refine step_part c ?_; (iterate 2 (refine step_wait1 J K c (by decide) (by decide) (by decide) (above_T4 c (by decide)) ?_; refine step_wait0 J K c (by decide) (by decide) (by decide) (above_T4 c (by decide)) ?_)); refine step_ret c ?_); (refine step_part c ?_; refine step_wait1 J K c (by decide) (by decide) (by decide) (above_T4 c (by decide)) ?_; refine step_wait0 J K c (by decide) (by decide) (by decide) (above_T4 c (by decide)) ?_; refine step_wait1 J K c (by decide) (by decide) (by decide) (above_T4 c (by decide)) ?_; refine step_ret c ?_); (refine step_part c ?_; (iterate 2 (refine step_wait0 J K c (by decide) (by decide) (by decide) (above_T4 c (by decide)) ?_; refine step_wait1 J K c (by decide) (by decide) (by decide) (above_T4 c (by decide)) ?_)); refine step_ret c ?_); (refine step_part c ?_; refine step_wait0 J K c (by decide) (by decide) (by decide) (above_T4 c (by decide)) ?_; refine step_wait1 J K c (by decide) (by decide) (by decide) (above_T4 c (by decide)) ?_; refine step_wait0 J K c (by decide) (by decide) (by decide) (above_T4 c (by decide)) ?_; refine step_ret c ?_))
  (refine step_part c ?_; refine step_wait1 J K c (by decide) (by decide) (by decide) (above_T4 c (by decide)) ?_; refine step_wait0 J K c (by decide) (by decide) (by decide) (above_T4 c (by decide)) ?_; refine step_wait1 J K c (by decide) (by decide) (by decide) (above_T4 c (by decide)) ?_; refine step_ret c ?_)
  (refine step_part c ?_; (iterate 2 (refine step_wait0 J K c (by decide) (by decide) (by decide) (above_T4 c (by decide)) ?_; refine step_wait1 J K c (by decide) (by decide) (by decide) (above_T4 c (by decide)) ?_)); refine step_ret c ?_)
  (refine step_part c ?_; refine step_wait0 J K c (by decide) (by decide) (by decide) (above_T4 c (by decide)) ?_; refine step_wait1 J K c (by decide) (by decide) (by decide) (above_T4 c (by decide)) ?_; refine step_wait0 J K c (by decide) (by decide) (by decide) (above_T4 c (by decide)) ?_; refine step_ret c ?_)
  (refine step_part c ?_; refine step_wait1 J K c (by decide) (by decide) (by decide) (above_T4 c (by decide)) ?_; refine (to_norm J K c).trans ?_; refine step_row J c (p := 1) (by decide) (by decide) (k0_off2_eq c ⟨1, by decide⟩) ?_; refine step_stage J c (p := 1) (by decide) ?_; refine (to_store J K c).trans ?_; refine step_ret c ?_)
  (refine step_part c ?_; refine step_os J c (p := 1) (by decide) (k0_off3_eq c ⟨1, by decide⟩) rfl ?_; refine (to_send2 J K c).trans ?_; (iterate 2 refine step_send2 J K c (by decide) (k0_off4_eq c ⟨1, by decide⟩) (by decide) (by decide) ?_); refine step_ret c ?_)
  iterate 2 (refine step_part c ?_; (iterate 2 refine step_send2 J K c (by decide) (k0_off4_eq c ⟨1, by decide⟩) (by decide) (by decide) ?_); refine step_ret c ?_)
  (refine step_part c ?_; (iterate 3 refine step_send2 J K c (by decide) (k0_off4_eq c ⟨1, by decide⟩) (by decide) (by decide) ?_); (iterate 2 refine step_ret c ?_))
  ((iterate 2 refine step_part c ?_); (iterate 2 refine step_send2 J K c (by decide) (k0_off4_eq c ⟨1, by decide⟩) (by decide) (by decide) ?_); refine step_ret c ?_)
  (refine step_part c ?_; (iterate 3 refine step_send2 J K c (by decide) (k0_off4_eq c ⟨1, by decide⟩) (by decide) (by decide) ?_); refine step_ret c ?_)
  iterate 2 (refine step_part c ?_; (iterate 2 refine step_send2 J K c (by decide) (k0_off4_eq c ⟨1, by decide⟩) (by decide) (by decide) ?_); refine step_ret c ?_)
  iterate 2 ((refine step_part c ?_; (iterate 3 refine step_send2 J K c (by decide) (k0_off4_eq c ⟨1, by decide⟩) (by decide) (by decide) ?_); refine step_ret c ?_); (refine step_part c ?_; (iterate 2 refine step_send2 J K c (by decide) (k0_off4_eq c ⟨1, by decide⟩) (by decide) (by decide) ?_); refine step_ret c ?_))
  (refine step_part c ?_; (iterate 2 refine step_send2 J K c (by decide) (k0_off4_eq c ⟨1, by decide⟩) (by decide) (by decide) ?_); refine step_ret c ?_)
  (refine step_part c ?_; refine step_send2 J K c (by decide) (k0_off4_eq c ⟨1, by decide⟩) (by decide) (by decide) ?_; refine (of_send2 J K c).trans ?_; refine (mac_rot2 J K c).trans ?_; refine (to_wait2 J K c).trans ?_; refine step_wait2 J K c (by decide) (by decide) (by decide) (above_T5 c (by decide)) ?_; refine step_wait3 J K c (by decide) (by decide) (by decide) (above_T5 c (by decide)) ?_; refine step_wait2 J K c (by decide) (by decide) (by decide) (above_T5 c (by decide)) ?_; refine step_ret c ?_)
  iterate 2 ((refine step_part c ?_; refine step_wait3 J K c (by decide) (by decide) (by decide) (above_T5 c (by decide)) ?_; refine step_wait2 J K c (by decide) (by decide) (by decide) (above_T5 c (by decide)) ?_; refine step_wait3 J K c (by decide) (by decide) (by decide) (above_T5 c (by decide)) ?_; refine step_ret c ?_); (refine step_part c ?_; (iterate 2 (refine step_wait2 J K c (by decide) (by decide) (by decide) (above_T5 c (by decide)) ?_; refine step_wait3 J K c (by decide) (by decide) (by decide) (above_T5 c (by decide)) ?_)); refine step_ret c ?_); (refine step_part c ?_; refine step_wait2 J K c (by decide) (by decide) (by decide) (above_T5 c (by decide)) ?_; refine step_wait3 J K c (by decide) (by decide) (by decide) (above_T5 c (by decide)) ?_; refine step_wait2 J K c (by decide) (by decide) (by decide) (above_T5 c (by decide)) ?_; refine step_ret c ?_); (refine step_part c ?_; (iterate 2 (refine step_wait3 J K c (by decide) (by decide) (by decide) (above_T5 c (by decide)) ?_; refine step_wait2 J K c (by decide) (by decide) (by decide) (above_T5 c (by decide)) ?_)); refine step_ret c ?_); (refine step_part c ?_; refine step_wait3 J K c (by decide) (by decide) (by decide) (above_T5 c (by decide)) ?_; refine step_wait2 J K c (by decide) (by decide) (by decide) (above_T5 c (by decide)) ?_; refine step_wait3 J K c (by decide) (by decide) (by decide) (above_T5 c (by decide)) ?_; refine step_ret c ?_); (refine step_part c ?_; refine step_wait2 J K c (by decide) (by decide) (by decide) (above_T5 c (by decide)) ?_; refine step_wait3 J K c (by decide) (by decide) (by decide) (above_T5 c (by decide)) ?_; refine step_wait2 J K c (by decide) (by decide) (by decide) (above_T5 c (by decide)) ?_; refine step_ret c ?_); (refine step_part c ?_; (iterate 2 (refine step_wait3 J K c (by decide) (by decide) (by decide) (above_T5 c (by decide)) ?_; refine step_wait2 J K c (by decide) (by decide) (by decide) (above_T5 c (by decide)) ?_)); refine step_ret c ?_))
  (refine step_part c ?_; refine step_wait3 J K c (by decide) (by decide) (by decide) (above_T5 c (by decide)) ?_; refine step_wait2 J K c (by decide) (by decide) (by decide) (above_T5 c (by decide)) ?_; refine step_wait3 J K c (by decide) (by decide) (by decide) (above_T5 c (by decide)) ?_; refine step_ret c ?_)
  (refine step_part c ?_; (iterate 2 (refine step_wait2 J K c (by decide) (by decide) (by decide) (above_T5 c (by decide)) ?_; refine step_wait3 J K c (by decide) (by decide) (by decide) (above_T5 c (by decide)) ?_)); refine step_ret c ?_)
  (refine step_part c ?_; refine step_wait2 J K c (by decide) (by decide) (by decide) (above_T5 c (by decide)) ?_; refine step_wait3 J K c (by decide) (by decide) (by decide) (above_T5 c (by decide)) ?_; refine step_wait2 J K c (by decide) (by decide) (by decide) (above_T5 c (by decide)) ?_; refine step_ret c ?_)
  (refine step_part c ?_; refine step_wait3 J K c (by decide) (by decide) (by decide) (above_T5 c (by decide)) ?_; refine (to_out J K c).trans ?_; refine step_o J c (p := 0) (by decide) ?_; refine step_out J c (p := 0) (by decide) rfl ?_; refine (of_out J K c).trans ?_; refine (mac_rot3 J K c).trans ?_; refine (to_comp J K c (p := 3)).trans ?_; refine step_x J c ?_; refine step_wq J c ?_; refine step_dead J c fun _ => ?_; refine step_og J c (p := 3) (by decide) (by decide) rfl ?_; refine step_ret c ?_)
  iterate 2 (refine step_part c ?_; (iterate 3 (refine step_dead J c fun _ => ?_; refine step_og J c (p := 3) (by decide) (by decide) rfl ?_)); refine step_ret c ?_)
  (refine step_part c ?_; refine step_dead J c fun _ => ?_; refine step_og J c (p := 3) (by decide) (by decide) rfl ?_; refine step_dead J c fun _ => ?_; refine step_l J c (p := 3) (by decide) rfl ?_; refine step_blk J c (p := 3) (by decide) ?_; refine step_sbdead J c (p := 3) fun _ => ?_; refine step_sb J c (p := 3) (by decide) rfl ?_; refine (to_send1 J K c).trans ?_; refine step_ret c ?_)
  iterate 2 (refine step_part c ?_; (iterate 2 refine step_send1 J K c (by decide) (by decide) (by decide) ?_); refine step_ret c ?_)
  (refine step_part c ?_; (iterate 3 refine step_send1 J K c (by decide) (by decide) (by decide) ?_); refine step_ret c ?_)
  iterate 11 (refine step_part c ?_; (iterate 2 refine step_send1 J K c (by decide) (by decide) (by decide) ?_); refine step_ret c ?_)
  (refine step_part c ?_; (iterate 2 refine step_send1 J K c (by decide) (by decide) (by decide) ?_); refine (of_send1 J K c).trans ?_; refine (mac_rot1 J K c).trans ?_; refine (to_wait1 J K c).trans ?_; refine step_wait0 J K c (by decide) (by decide) (by decide) (above_T6 c (by decide)) ?_; refine step_ret c ?_)
  (refine step_part c ?_; refine step_wait1 J K c (by decide) (by decide) (by decide) (above_T6 c (by decide)) ?_; refine step_wait0 J K c (by decide) (by decide) (by decide) (above_T6 c (by decide)) ?_; refine step_wait1 J K c (by decide) (by decide) (by decide) (above_T6 c (by decide)) ?_; refine step_ret c ?_)
  (refine step_part c ?_; (iterate 2 (refine step_wait0 J K c (by decide) (by decide) (by decide) (above_T6 c (by decide)) ?_; refine step_wait1 J K c (by decide) (by decide) (by decide) (above_T6 c (by decide)) ?_)); refine step_ret c ?_)
  iterate 2 ((refine step_part c ?_; refine step_wait0 J K c (by decide) (by decide) (by decide) (above_T6 c (by decide)) ?_; refine step_wait1 J K c (by decide) (by decide) (by decide) (above_T6 c (by decide)) ?_; refine step_wait0 J K c (by decide) (by decide) (by decide) (above_T6 c (by decide)) ?_; refine step_ret c ?_); (refine step_part c ?_; (iterate 2 (refine step_wait1 J K c (by decide) (by decide) (by decide) (above_T6 c (by decide)) ?_; refine step_wait0 J K c (by decide) (by decide) (by decide) (above_T6 c (by decide)) ?_)); refine step_ret c ?_); (refine step_part c ?_; refine step_wait1 J K c (by decide) (by decide) (by decide) (above_T6 c (by decide)) ?_; refine step_wait0 J K c (by decide) (by decide) (by decide) (above_T6 c (by decide)) ?_; refine step_wait1 J K c (by decide) (by decide) (by decide) (above_T6 c (by decide)) ?_; refine step_ret c ?_))
  (refine step_part c ?_; (iterate 2 (refine step_wait0 J K c (by decide) (by decide) (by decide) (above_T6 c (by decide)) ?_; refine step_wait1 J K c (by decide) (by decide) (by decide) (above_T6 c (by decide)) ?_)); refine step_ret c ?_)
  (refine step_part c ?_; refine step_wait0 J K c (by decide) (by decide) (by decide) (above_T6 c (by decide)) ?_; refine step_wait1 J K c (by decide) (by decide) (by decide) (above_T6 c (by decide)) ?_; refine step_wait0 J K c (by decide) (by decide) (by decide) (above_T6 c (by decide)) ?_; refine step_ret c ?_)
  (refine step_part c ?_; (iterate 2 (refine step_wait1 J K c (by decide) (by decide) (by decide) (above_T6 c (by decide)) ?_; refine step_wait0 J K c (by decide) (by decide) (by decide) (above_T6 c (by decide)) ?_)); refine step_ret c ?_)
  (refine step_part c ?_; refine step_wait1 J K c (by decide) (by decide) (by decide) (above_T6 c (by decide)) ?_; refine step_wait0 J K c (by decide) (by decide) (by decide) (above_T6 c (by decide)) ?_; refine step_wait1 J K c (by decide) (by decide) (by decide) (above_T6 c (by decide)) ?_; refine step_ret c ?_)
  (refine step_part c ?_; refine step_wait0 J K c (by decide) (by decide) (by decide) (above_T6 c (by decide)) ?_; refine step_wait1 J K c (by decide) (by decide) (by decide) (above_T6 c (by decide)) ?_; refine step_wait0 J K c (by decide) (by decide) (by decide) (above_T6 c (by decide)) ?_; refine step_ret c ?_)
  (refine step_part c ?_; (iterate 2 (refine step_wait1 J K c (by decide) (by decide) (by decide) (above_T6 c (by decide)) ?_; refine step_wait0 J K c (by decide) (by decide) (by decide) (above_T6 c (by decide)) ?_)); (iterate 2 refine step_ret c ?_))
  ((iterate 2 refine step_part c ?_); refine step_wait1 J K c (by decide) (by decide) (by decide) (above_T6 c (by decide)) ?_; refine step_wait0 J K c (by decide) (by decide) (by decide) (above_T6 c (by decide)) ?_; refine step_wait1 J K c (by decide) (by decide) (by decide) (above_T6 c (by decide)) ?_; refine step_ret c ?_)
  (refine step_part c ?_; (iterate 2 (refine step_wait0 J K c (by decide) (by decide) (by decide) (above_T6 c (by decide)) ?_; refine step_wait1 J K c (by decide) (by decide) (by decide) (above_T6 c (by decide)) ?_)); refine step_ret c ?_)
  (refine step_part c ?_; refine step_wait0 J K c (by decide) (by decide) (by decide) (above_T6 c (by decide)) ?_; refine step_wait1 J K c (by decide) (by decide) (by decide) (above_T6 c (by decide)) ?_; refine step_wait0 J K c (by decide) (by decide) (by decide) (above_T6 c (by decide)) ?_; refine step_ret c ?_)
  (refine step_part c ?_; refine step_wait1 J K c (by decide) (by decide) (by decide) (above_T6 c (by decide)) ?_; refine step_wait0 J K c (by decide) (by decide) (by decide) (above_T6 c (by decide)) ?_; refine step_wait1 J K c (by decide) (by decide) (by decide) (above_T6 c (by decide)) ?_; refine (to_norm J K c).trans ?_; refine step_row J c (p := 2) (by decide) (by decide) (k0_off2_eq c ⟨2, by decide⟩) ?_; refine step_stage J c (p := 2) (by decide) ?_; refine (to_store J K c).trans ?_; refine step_ret c ?_)
  (refine step_part c ?_; refine step_os J c (p := 2) (by decide) (k0_off5_eq c ⟨0, by decide⟩) rfl ?_; refine (to_send2 J K c).trans ?_; refine step_ret c ?_)
  iterate 2 ((refine step_part c ?_; (iterate 3 refine step_send2 J K c (by decide) (k0_off6_eq c ⟨0, by decide⟩) (by decide) (by decide) ?_); refine step_ret c ?_); (refine step_part c ?_; (iterate 2 refine step_send2 J K c (by decide) (k0_off6_eq c ⟨0, by decide⟩) (by decide) (by decide) ?_); refine step_ret c ?_); (refine step_part c ?_; (iterate 2 refine step_send2 J K c (by decide) (k0_off6_eq c ⟨0, by decide⟩) (by decide) (by decide) ?_); refine step_ret c ?_); (refine step_part c ?_; (iterate 3 refine step_send2 J K c (by decide) (k0_off6_eq c ⟨0, by decide⟩) (by decide) (by decide) ?_); refine step_ret c ?_); (refine step_part c ?_; (iterate 2 refine step_send2 J K c (by decide) (k0_off6_eq c ⟨0, by decide⟩) (by decide) (by decide) ?_); refine step_ret c ?_))
  (refine step_part c ?_; (iterate 3 refine step_send2 J K c (by decide) (k0_off6_eq c ⟨0, by decide⟩) (by decide) (by decide) ?_); refine step_ret c ?_)
  (refine step_part c ?_; (iterate 2 refine step_send2 J K c (by decide) (k0_off6_eq c ⟨0, by decide⟩) (by decide) (by decide) ?_); refine step_ret c ?_)
  (refine step_part c ?_; (iterate 2 refine step_send2 J K c (by decide) (k0_off6_eq c ⟨0, by decide⟩) (by decide) (by decide) ?_); refine (of_send2 J K c).trans ?_; refine (mac_rot2 J K c).trans ?_; refine (to_wait2 J K c).trans ?_; refine step_wait2 J K c (by decide) (by decide) (by decide) (above_T7 c (by decide)) ?_; refine step_ret c ?_)
  iterate 2 ((refine step_part c ?_; refine step_wait3 J K c (by decide) (by decide) (by decide) (above_T7 c (by decide)) ?_; refine step_wait2 J K c (by decide) (by decide) (by decide) (above_T7 c (by decide)) ?_; refine step_wait3 J K c (by decide) (by decide) (by decide) (above_T7 c (by decide)) ?_; refine step_ret c ?_); (refine step_part c ?_; (iterate 2 (refine step_wait2 J K c (by decide) (by decide) (by decide) (above_T7 c (by decide)) ?_; refine step_wait3 J K c (by decide) (by decide) (by decide) (above_T7 c (by decide)) ?_)); refine step_ret c ?_); (refine step_part c ?_; refine step_wait2 J K c (by decide) (by decide) (by decide) (above_T7 c (by decide)) ?_; refine step_wait3 J K c (by decide) (by decide) (by decide) (above_T7 c (by decide)) ?_; refine step_wait2 J K c (by decide) (by decide) (by decide) (above_T7 c (by decide)) ?_; refine step_ret c ?_); (refine step_part c ?_; (iterate 2 (refine step_wait3 J K c (by decide) (by decide) (by decide) (above_T7 c (by decide)) ?_; refine step_wait2 J K c (by decide) (by decide) (by decide) (above_T7 c (by decide)) ?_)); refine step_ret c ?_); (refine step_part c ?_; refine step_wait3 J K c (by decide) (by decide) (by decide) (above_T7 c (by decide)) ?_; refine step_wait2 J K c (by decide) (by decide) (by decide) (above_T7 c (by decide)) ?_; refine step_wait3 J K c (by decide) (by decide) (by decide) (above_T7 c (by decide)) ?_; refine step_ret c ?_); (refine step_part c ?_; refine step_wait2 J K c (by decide) (by decide) (by decide) (above_T7 c (by decide)) ?_; refine step_wait3 J K c (by decide) (by decide) (by decide) (above_T7 c (by decide)) ?_; refine step_wait2 J K c (by decide) (by decide) (by decide) (above_T7 c (by decide)) ?_; refine step_ret c ?_); (refine step_part c ?_; (iterate 2 (refine step_wait3 J K c (by decide) (by decide) (by decide) (above_T7 c (by decide)) ?_; refine step_wait2 J K c (by decide) (by decide) (by decide) (above_T7 c (by decide)) ?_)); refine step_ret c ?_))
  (refine step_part c ?_; refine step_wait3 J K c (by decide) (by decide) (by decide) (above_T7 c (by decide)) ?_; refine step_wait2 J K c (by decide) (by decide) (by decide) (above_T7 c (by decide)) ?_; refine step_wait3 J K c (by decide) (by decide) (by decide) (above_T7 c (by decide)) ?_; refine step_ret c ?_)
  (refine step_part c ?_; (iterate 2 (refine step_wait2 J K c (by decide) (by decide) (by decide) (above_T7 c (by decide)) ?_; refine step_wait3 J K c (by decide) (by decide) (by decide) (above_T7 c (by decide)) ?_)); refine step_ret c ?_)
  (refine step_part c ?_; refine step_wait2 J K c (by decide) (by decide) (by decide) (above_T7 c (by decide)) ?_; refine step_wait3 J K c (by decide) (by decide) (by decide) (above_T7 c (by decide)) ?_; refine step_wait2 J K c (by decide) (by decide) (by decide) (above_T7 c (by decide)) ?_; refine step_ret c ?_)
  (refine step_part c ?_; refine step_wait3 J K c (by decide) (by decide) (by decide) (above_T7 c (by decide)) ?_; refine step_wait2 J K c (by decide) (by decide) (by decide) (above_T7 c (by decide)) ?_; refine step_wait3 J K c (by decide) (by decide) (by decide) (above_T7 c (by decide)) ?_; refine (to_out J K c).trans ?_; refine step_o J c (p := 1) (by decide) ?_; refine step_out J c (p := 1) (by decide) rfl ?_; refine (of_out J K c).trans ?_; refine (mac_rot1 J K c).trans ?_; refine step_ret c ?_)
  (refine step_part c ?_; refine (to_wait1 J K c).trans ?_; refine step_wait0 J K c (by decide) (by decide) (by decide) (above_T7 c (by decide)) ?_; refine step_wait1 J K c (by decide) (by decide) (by decide) (above_T7 c (by decide)) ?_; refine step_wait0 J K c (by decide) (by decide) (by decide) (above_T7 c (by decide)) ?_; refine step_ret c ?_)
  iterate 2 ((refine step_part c ?_; (iterate 2 (refine step_wait1 J K c (by decide) (by decide) (by decide) (above_T7 c (by decide)) ?_; refine step_wait0 J K c (by decide) (by decide) (by decide) (above_T7 c (by decide)) ?_)); refine step_ret c ?_); (refine step_part c ?_; refine step_wait1 J K c (by decide) (by decide) (by decide) (above_T7 c (by decide)) ?_; refine step_wait0 J K c (by decide) (by decide) (by decide) (above_T7 c (by decide)) ?_; refine step_wait1 J K c (by decide) (by decide) (by decide) (above_T7 c (by decide)) ?_; refine step_ret c ?_); (refine step_part c ?_; refine step_wait0 J K c (by decide) (by decide) (by decide) (above_T7 c (by decide)) ?_; refine step_wait1 J K c (by decide) (by decide) (by decide) (above_T7 c (by decide)) ?_; refine step_wait0 J K c (by decide) (by decide) (by decide) (above_T7 c (by decide)) ?_; refine step_ret c ?_); (refine step_part c ?_; (iterate 2 (refine step_wait1 J K c (by decide) (by decide) (by decide) (above_T7 c (by decide)) ?_; refine step_wait0 J K c (by decide) (by decide) (by decide) (above_T7 c (by decide)) ?_)); refine step_ret c ?_); (refine step_part c ?_; refine step_wait1 J K c (by decide) (by decide) (by decide) (above_T7 c (by decide)) ?_; refine step_wait0 J K c (by decide) (by decide) (by decide) (above_T7 c (by decide)) ?_; refine step_wait1 J K c (by decide) (by decide) (by decide) (above_T7 c (by decide)) ?_; refine step_ret c ?_); (refine step_part c ?_; (iterate 2 (refine step_wait0 J K c (by decide) (by decide) (by decide) (above_T7 c (by decide)) ?_; refine step_wait1 J K c (by decide) (by decide) (by decide) (above_T7 c (by decide)) ?_)); refine step_ret c ?_); (refine step_part c ?_; refine step_wait0 J K c (by decide) (by decide) (by decide) (above_T7 c (by decide)) ?_; refine step_wait1 J K c (by decide) (by decide) (by decide) (above_T7 c (by decide)) ?_; refine step_wait0 J K c (by decide) (by decide) (by decide) (above_T7 c (by decide)) ?_; refine step_ret c ?_))
  (refine step_part c ?_; (iterate 2 (refine step_wait1 J K c (by decide) (by decide) (by decide) (above_T7 c (by decide)) ?_; refine step_wait0 J K c (by decide) (by decide) (by decide) (above_T7 c (by decide)) ?_)); refine step_ret c ?_)
  (refine step_part c ?_; refine step_wait1 J K c (by decide) (by decide) (by decide) (above_T7 c (by decide)) ?_; refine step_wait0 J K c (by decide) (by decide) (by decide) (above_T7 c (by decide)) ?_; refine step_wait1 J K c (by decide) (by decide) (by decide) (above_T7 c (by decide)) ?_; refine step_ret c ?_)
  (refine step_part c ?_; refine step_wait0 J K c (by decide) (by decide) (by decide) (above_T7 c (by decide)) ?_; refine step_wait1 J K c (by decide) (by decide) (by decide) (above_T7 c (by decide)) ?_; refine step_wait0 J K c (by decide) (by decide) (by decide) (above_T7 c (by decide)) ?_; refine step_ret c ?_)
  (refine step_part c ?_; refine step_wait1 J K c (by decide) (by decide) (by decide) (above_T7 c (by decide)) ?_; refine (to_norm J K c).trans ?_; refine step_row J c (p := 3) (by decide) (by decide) (k0_off2_eq c ⟨3, by decide⟩) ?_; refine step_stage J c (p := 3) (by decide) ?_; refine (to_store J K c).trans ?_; refine step_ret c ?_)
  (refine step_part c ?_; refine step_os J c (p := 3) (by decide) (k0_off5_eq c ⟨1, by decide⟩) rfl ?_; refine (to_send2 J K c).trans ?_; (iterate 2 refine step_send2 J K c (by decide) (k0_off6_eq c ⟨1, by decide⟩) (by decide) (by decide) ?_); refine step_ret c ?_)
  (refine step_part c ?_; (iterate 2 refine step_send2 J K c (by decide) (k0_off6_eq c ⟨1, by decide⟩) (by decide) (by decide) ?_); refine step_ret c ?_)
  (refine step_part c ?_; (iterate 3 refine step_send2 J K c (by decide) (k0_off6_eq c ⟨1, by decide⟩) (by decide) (by decide) ?_); refine step_ret c ?_)
  (refine step_part c ?_; (iterate 2 refine step_send2 J K c (by decide) (k0_off6_eq c ⟨1, by decide⟩) (by decide) (by decide) ?_); refine step_ret c ?_)
  (refine step_part c ?_; (iterate 2 refine step_send2 J K c (by decide) (k0_off6_eq c ⟨1, by decide⟩) (by decide) (by decide) ?_); (iterate 2 refine step_ret c ?_))
  ((iterate 2 refine step_part c ?_); (iterate 3 refine step_send2 J K c (by decide) (k0_off6_eq c ⟨1, by decide⟩) (by decide) (by decide) ?_); refine step_ret c ?_)
  iterate 2 ((refine step_part c ?_; (iterate 2 refine step_send2 J K c (by decide) (k0_off6_eq c ⟨1, by decide⟩) (by decide) (by decide) ?_); refine step_ret c ?_); (refine step_part c ?_; (iterate 3 refine step_send2 J K c (by decide) (k0_off6_eq c ⟨1, by decide⟩) (by decide) (by decide) ?_); refine step_ret c ?_); (refine step_part c ?_; (iterate 2 refine step_send2 J K c (by decide) (k0_off6_eq c ⟨1, by decide⟩) (by decide) (by decide) ?_); refine step_ret c ?_))
  (refine step_part c ?_; (iterate 3 refine step_send2 J K c (by decide) (k0_off6_eq c ⟨1, by decide⟩) (by decide) (by decide) ?_); refine (of_send2 J K c).trans ?_; refine (mac_rot2 J K c).trans ?_; refine step_ret c ?_)
  (refine step_part c ?_; refine (to_wait2 J K c).trans ?_; refine step_wait2 J K c (by decide) (by decide) (by decide) (above_T8 (by decide)) ?_; refine step_wait3 J K c (by decide) (by decide) (by decide) (above_T8 (by decide)) ?_; refine step_wait2 J K c (by decide) (by decide) (by decide) (above_T8 (by decide)) ?_; refine step_ret c ?_)
  iterate 2 ((refine step_part c ?_; (iterate 2 (refine step_wait3 J K c (by decide) (by decide) (by decide) (above_T8 (by decide)) ?_; refine step_wait2 J K c (by decide) (by decide) (by decide) (above_T8 (by decide)) ?_)); refine step_ret c ?_); (refine step_part c ?_; refine step_wait3 J K c (by decide) (by decide) (by decide) (above_T8 (by decide)) ?_; refine step_wait2 J K c (by decide) (by decide) (by decide) (above_T8 (by decide)) ?_; refine step_wait3 J K c (by decide) (by decide) (by decide) (above_T8 (by decide)) ?_; refine step_ret c ?_); (refine step_part c ?_; refine step_wait2 J K c (by decide) (by decide) (by decide) (above_T8 (by decide)) ?_; refine step_wait3 J K c (by decide) (by decide) (by decide) (above_T8 (by decide)) ?_; refine step_wait2 J K c (by decide) (by decide) (by decide) (above_T8 (by decide)) ?_; refine step_ret c ?_); (refine step_part c ?_; (iterate 2 (refine step_wait3 J K c (by decide) (by decide) (by decide) (above_T8 (by decide)) ?_; refine step_wait2 J K c (by decide) (by decide) (by decide) (above_T8 (by decide)) ?_)); refine step_ret c ?_); (refine step_part c ?_; refine step_wait3 J K c (by decide) (by decide) (by decide) (above_T8 (by decide)) ?_; refine step_wait2 J K c (by decide) (by decide) (by decide) (above_T8 (by decide)) ?_; refine step_wait3 J K c (by decide) (by decide) (by decide) (above_T8 (by decide)) ?_; refine step_ret c ?_); (refine step_part c ?_; (iterate 2 (refine step_wait2 J K c (by decide) (by decide) (by decide) (above_T8 (by decide)) ?_; refine step_wait3 J K c (by decide) (by decide) (by decide) (above_T8 (by decide)) ?_)); refine step_ret c ?_); (refine step_part c ?_; refine step_wait2 J K c (by decide) (by decide) (by decide) (above_T8 (by decide)) ?_; refine step_wait3 J K c (by decide) (by decide) (by decide) (above_T8 (by decide)) ?_; refine step_wait2 J K c (by decide) (by decide) (by decide) (above_T8 (by decide)) ?_; refine step_ret c ?_))
  (refine step_part c ?_; (iterate 2 (refine step_wait3 J K c (by decide) (by decide) (by decide) (above_T8 (by decide)) ?_; refine step_wait2 J K c (by decide) (by decide) (by decide) (above_T8 (by decide)) ?_)); refine step_ret c ?_)
  (refine step_part c ?_; refine step_wait3 J K c (by decide) (by decide) (by decide) (above_T8 (by decide)) ?_; refine step_wait2 J K c (by decide) (by decide) (by decide) (above_T8 (by decide)) ?_; refine step_wait3 J K c (by decide) (by decide) (by decide) (above_T8 (by decide)) ?_; refine step_ret c ?_)
  (refine step_part c ?_; refine step_wait2 J K c (by decide) (by decide) (by decide) (above_T8 (by decide)) ?_; refine step_wait3 J K c (by decide) (by decide) (by decide) (above_T8 (by decide)) ?_; refine step_wait2 J K c (by decide) (by decide) (by decide) (above_T8 (by decide)) ?_; refine step_ret c ?_)
  (refine step_part c ?_; refine step_wait3 J K c (by decide) (by decide) (by decide) (above_T8 (by decide)) ?_; refine (to_out J K c).trans ?_; refine step_o J c (p := 2) (by decide) ?_; refine step_out J c (p := 2) (by decide) rfl ?_; refine (of_out J K c).trans ?_; refine (mac_rot2 J K c).trans ?_; refine (to_wait2 J K c).trans ?_; refine step_wait2 J K c (by decide) (by decide) (by decide) (above_T8 (by decide)) ?_; refine step_wait3 J K c (by decide) (by decide) (by decide) (above_T8 (by decide)) ?_; refine step_ret c ?_)
  iterate 2 ((refine step_part c ?_; refine step_wait2 J K c (by decide) (by decide) (by decide) (above_T8 (by decide)) ?_; refine step_wait3 J K c (by decide) (by decide) (by decide) (above_T8 (by decide)) ?_; refine step_wait2 J K c (by decide) (by decide) (by decide) (above_T8 (by decide)) ?_; refine step_ret c ?_); (refine step_part c ?_; (iterate 2 (refine step_wait3 J K c (by decide) (by decide) (by decide) (above_T8 (by decide)) ?_; refine step_wait2 J K c (by decide) (by decide) (by decide) (above_T8 (by decide)) ?_)); refine step_ret c ?_); (refine step_part c ?_; refine step_wait3 J K c (by decide) (by decide) (by decide) (above_T8 (by decide)) ?_; refine step_wait2 J K c (by decide) (by decide) (by decide) (above_T8 (by decide)) ?_; refine step_wait3 J K c (by decide) (by decide) (by decide) (above_T8 (by decide)) ?_; refine step_ret c ?_); (refine step_part c ?_; (iterate 2 (refine step_wait2 J K c (by decide) (by decide) (by decide) (above_T8 (by decide)) ?_; refine step_wait3 J K c (by decide) (by decide) (by decide) (above_T8 (by decide)) ?_)); refine step_ret c ?_); (refine step_part c ?_; refine step_wait2 J K c (by decide) (by decide) (by decide) (above_T8 (by decide)) ?_; refine step_wait3 J K c (by decide) (by decide) (by decide) (above_T8 (by decide)) ?_; refine step_wait2 J K c (by decide) (by decide) (by decide) (above_T8 (by decide)) ?_; refine step_ret c ?_); (refine step_part c ?_; (iterate 2 (refine step_wait3 J K c (by decide) (by decide) (by decide) (above_T8 (by decide)) ?_; refine step_wait2 J K c (by decide) (by decide) (by decide) (above_T8 (by decide)) ?_)); refine step_ret c ?_); (refine step_part c ?_; refine step_wait3 J K c (by decide) (by decide) (by decide) (above_T8 (by decide)) ?_; refine step_wait2 J K c (by decide) (by decide) (by decide) (above_T8 (by decide)) ?_; refine step_wait3 J K c (by decide) (by decide) (by decide) (above_T8 (by decide)) ?_; refine step_ret c ?_))
  (refine step_part c ?_; refine step_wait2 J K c (by decide) (by decide) (by decide) (above_T8 (by decide)) ?_; refine step_wait3 J K c (by decide) (by decide) (by decide) (above_T8 (by decide)) ?_; refine step_wait2 J K c (by decide) (by decide) (by decide) (above_T8 (by decide)) ?_; refine step_ret c ?_)
  (refine step_part c ?_; (iterate 2 (refine step_wait3 J K c (by decide) (by decide) (by decide) (above_T8 (by decide)) ?_; refine step_wait2 J K c (by decide) (by decide) (by decide) (above_T8 (by decide)) ?_)); refine step_ret c ?_)
  (refine step_part c ?_; refine step_wait3 J K c (by decide) (by decide) (by decide) (above_T8 (by decide)) ?_; refine step_wait2 J K c (by decide) (by decide) (by decide) (above_T8 (by decide)) ?_; refine step_wait3 J K c (by decide) (by decide) (by decide) (above_T8 (by decide)) ?_; refine step_ret c ?_)
  refine step_wait2 J K c (by decide) (by decide) (by decide) (above_T8 (by decide)) ?_
  refine step_ret c ?_
  refine step_wait3 J K c (by decide) (by decide) (by decide) (above_T8 (by decide)) ?_
  refine (to_out J K c).trans ?_
  refine step_o J c (p := 3) (by decide) ?_
  refine step_out J c (p := 3) (by decide) rfl ?_
  refine (of_out J K c).trans ?_
  refine step_ret c ?_
  exact hf

end Cert.Ring
-- ==== Proof.Cells.lean ====
/-
# The launch: cells, tokens and credits

What the launch deals each device: its positions on its cells, the tokens of the duties it pays, the credits of the
cells it waits on. A device's 512 DMA cells are arranged by phase, kind and distance; those at distance 0 go unused.
-/
module

public import proofs.«01_k».proof.Proof.Phases

@[expose] public section

noncomputable section

namespace Cert.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (J : Dev nD → Ins F) (K : Dev nD × Fin 513 → ℕ) (c : Dev nD)

/-! ## Separating conjunctions over cells -/

theorem sep2 {I : Type} (s : Finset I) (Φ Ψ : I → sProp (MM F)) : (bigSep s fun i => iprop(Φ i ∗ Ψ i)) = iprop(bigSep s Φ ∗ bigSep s Ψ) := bigSep_sep _ _ _

/-- The order of two of them does not matter. -/
theorem swap_of {I I' : Type} [DecidableEq I] (s : Finset I) (t : Finset I') (Φ : I → I' → sProp (MM F)) :
    (bigSep s fun i => bigSep t fun j => Φ i j) = bigSep t fun j => bigSep s fun i => Φ i j := by
  refine Finset.induction_on s ?_ fun i u hi ih => ?_
  · rw [bigSep_empty]; exact ((bigSep_congr fun j _ => bigSep_empty).trans (bigSep_emp_const t)).symm
  · rw [bigSep_insert hi, ih, show (fun j => bigSep (insert i u) fun i => Φ i j) = fun j => iprop(Φ i j ∗ bigSep u fun i => Φ i j) from funext fun j => bigSep_insert hi, sep2]
    rfl

theorem mono_of {I : Type} {s : Finset I} {Φ Ψ : I → sProp (MM F)} (h : ∀ i ∈ s, Φ i ⊢ Ψ i) : bigSep s Φ ⊢ bigSep s Ψ := bigSep_mono h

theorem four (Φ : ℕ → sProp (MM F)) : bigSep (Finset.range 4) Φ = iprop(Φ 0 ∗ Φ 1 ∗ Φ 2 ∗ Φ 3) := by
  rw [show Finset.range 4 = insert 0 (insert 1 (insert 2 {3})) by decide, bigSep_insert (by decide), bigSep_insert (by decide), bigSep_insert (by decide), bigSep_singleton]
  rfl

theorem univ_range (n : ℕ) (f : ℕ → sProp (MM F)) : (bigSep Finset.univ fun i : Fin n => f i.val) = bigSep (Finset.range n) f := by
  rw [show Finset.range n = (Finset.univ : Finset (Fin n)).map Fin.valEmbedding from (Fin.map_valEmbedding_univ.trans (Nat.Iio_eq_range n)).symm, bigSep_map]
  rfl

theorem range32 (f : ℕ → sProp (MM F)) : bigSep (Finset.range 32) f = iprop(f 0 ∗ bigSep (Finset.Ico 1 32) f) := by
  rw [show Finset.range 32 = insert 0 (Finset.Ico 1 32) by decide, bigSep_insert (by decide)]
  rfl

/-- The numbers below `a * b` as a quotient below `a` and a remainder below `b`. -/
theorem range_mul (a b : ℕ) (f : ℕ → sProp (MM F)) : bigSep (Finset.range (a * b)) f = bigSep (Finset.range a) fun i => bigSep (Finset.range b) fun j => f (b * i + j) := by
  rw [← univ_range (a * b), bigSep_univ_equiv finProdFinEquiv, bigSep_univ_prod, ← univ_range a]
  refine bigSep_congr fun i _ => ?_
  rw [← univ_range b]
  refine bigSep_congr fun j _ => ?_
  show f (j.val + b * i.val) = f (b * i.val + j.val)
  rw [add_comm]

/-- The cells of one kind in one phase. -/
def grp (f : ℕ → sProp (MM F)) (k p : ℕ) : sProp (MM F) := iprop(f (cix k p 0) ∗ bigSep (Finset.Ico 1 32) fun o => f (cix k p o))

theorem cells_eq (f : ℕ → sProp (MM F)) :
    (bigSep Finset.univ fun j : Fin 512 => f j.val) = bigSep (Finset.range 4) fun p => bigSep (Finset.range 4) fun k => grp f k p := by
  rw [univ_range 512, show (512 : ℕ) = 4 * 128 from rfl, range_mul, show (128 : ℕ) = 4 * 32 from rfl]
  refine (bigSep_congr fun k _ => range_mul 4 32 _).trans ((swap_of _ _ _).trans (bigSep_congr fun p _ => bigSep_congr fun k _ => ?_))
  rw [range32]
  unfold grp
  refine congrArg₂ (fun a b => iprop(a ∗ b)) (congrArg f ?_) (bigSep_congr fun o _ => congrArg f ?_) <;> (unfold cix; omega)

theorem fin513 (Φ : Fin 513 → sProp (MM F)) : bigSep Finset.univ Φ = iprop(Φ ⟨512, by decide⟩ ∗ bigSep Finset.univ fun j : Fin 512 => Φ ⟨j.val, by omega⟩) := by
  have h : (Finset.univ : Finset (Fin 513)) = insert ⟨512, by decide⟩ ((Finset.univ : Finset (Fin 512)).map Fin.castSuccEmb) := by
    ext i
    refine ⟨fun _ => ?_, fun _ => Finset.mem_univ _⟩
    rw [Finset.mem_insert, Finset.mem_map]
    by_cases hi : i.val < 512
    · exact Or.inr ⟨⟨i.val, hi⟩, Finset.mem_univ _, Fin.ext rfl⟩
    · exact Or.inl (Fin.ext (by show i.val = 512; have := i.isLt; omega))
  rw [h, bigSep_insert, bigSep_map]
  · rfl
  · rw [Finset.mem_map]
    rintro ⟨j, -, e⟩
    have := congrArg Fin.val e
    have hj := j.isLt
    have : j.val = 512 := this
    omega

/-- Something of every cell of a device: the barrier's, then by phase and kind. -/
theorem all_cells (f : GSem nD τ sig → sProp (MM F)) :
    (bigSep Finset.univ fun j : Fin 513 => f (kcell (c, j))) = iprop(f (bcell c) ∗ bigSep (Finset.range 4) fun p => bigSep (Finset.range 4) fun k => grp (fun j => f (dcell c j)) k p) := by
  rw [fin513, kcell_bar]
  congr 1
  rw [← cells_eq]
  exact bigSep_congr fun j _ => by rw [kcell_dma c j.isLt]

def peerE (o : ℕ) : Dev nD ≃ Dev nD := ⟨fun c => peer c o, fun c => back c o, fun c => back_peer c o, fun c => peer_back c o⟩

/-- What each device has for every phase and distance, dealt to the devices at those distances before it. -/
theorem spread (Φ : Dev nD → ℕ → ℕ → sProp (MM F)) :
    (bigSep Finset.univ fun c : Dev nD => bigSep (Finset.range 4) fun p => bigSep (Finset.Ico 1 32) fun o => Φ c p o)
      = bigSep Finset.univ fun c : Dev nD => bigSep (Finset.range 4) fun p => bigSep (Finset.Ico 1 32) fun o => Φ (peer c o) p o := by
  rw [swap_of, swap_of Finset.univ (Finset.range 4)]
  refine bigSep_congr fun p _ => ?_
  rw [swap_of, swap_of Finset.univ (Finset.Ico 1 32)]
  refine bigSep_congr fun o _ => ?_
  exact bigSep_univ_equiv (peerE o) fun c => Φ c p o

/-! ## The tokens -/

theorem kcell_injective : Function.Injective (kcell : Dev nD × Fin 513 → GSem nD τ sig) := by
  rintro ⟨c, k⟩ ⟨c', k'⟩ h
  have h1 : c = c' := congrArg (fun g : GSem nD τ sig => g.1.1) h
  subst h1
  have h2 : csem k = csem k' := congrArg Prod.snd h
  have hk := k.isLt
  have hk' := k'.isLt
  unfold csem at h2
  by_cases a : k.val < 512 <;> by_cases b : k'.val < 512
  · rw [if_pos a, if_pos b] at h2
    have := dj_inj a b (SemLoc.dma.inj h2)
    rw [Fin.ext this]
  · rw [if_pos a, if_neg b] at h2; cases h2
  · rw [if_neg a, if_pos b] at h2; cases h2
  · rw [show k = k' from Fin.ext (by omega)]

def allCells : Finset (GSem nD τ sig) := Finset.univ.map ⟨kcell, kcell_injective⟩

abbrev Tk : Type := (Dev nD × Dev nD) ⊕ (Dev nD × Fin 512)
/-- The duties: every device's barrier one by every device; every DMA cell one by its own device. -/
def tokOf : Tk → GSem nD τ sig × ℕ × Dev nD
  | .inl cd => (bcell cd.1, 0, cd.2)
  | .inr cj => (dcell cj.1 cj.2.val, 0, cj.1)
theorem tokOf_injective : Function.Injective tokOf := by
  rintro (⟨c, d⟩ | ⟨c, j⟩) (⟨c', d'⟩ | ⟨c', j'⟩) h
  · have h1 : c = c' := congrArg (fun x : GSem nD τ sig × ℕ × Dev nD => x.1.1.1) h
    have h2 : d = d' := congrArg (fun x : GSem nD τ sig × ℕ × Dev nD => x.2.2) h
    rw [h1, h2]
  · have h2 : (SemLoc.reg barS : SemLoc sig) = .dma (dj j'.val) := congrArg (fun x : GSem nD τ sig × ℕ × Dev nD => x.1.2) h
    cases h2
  · have h2 : (SemLoc.dma (dj j.val) : SemLoc sig) = .reg barS := congrArg (fun x : GSem nD τ sig × ℕ × Dev nD => x.1.2) h
    cases h2
  · have h1 : c = c' := congrArg (fun x : GSem nD τ sig × ℕ × Dev nD => x.1.1.1) h
    have h2 : (SemLoc.dma (dj j.val) : SemLoc sig) = .dma (dj j'.val) := congrArg (fun x : GSem nD τ sig × ℕ × Dev nD => x.1.2) h
    have := dj_inj j.isLt j'.isLt (SemLoc.dma.inj h2)
    rw [h1, Fin.ext this]
def allToks : Finset (GSem nD τ sig × ℕ × Dev nD) := Finset.univ.map ⟨tokOf, tokOf_injective⟩

def u₀ : UU := (initOf (Pipeline.cells cfgs cellOf_inj) (Pipeline.launchToks cfgs cellOf_inj), initOf allCells allToks)

/-- The tokens of a device's own cells. -/
def ownB (c : Dev nD) : sProp 𝕄 := bigSep Finset.univ fun d : Dev nD => dutyTok ER (bcell c) 0 d
def ownD (c : Dev nD) : sProp 𝕄 := bigSep Finset.univ fun j : Fin 512 => dutyTok ER (dcell c j.val) 0 c
def states (c : Dev nD) : sProp 𝕄 := bigSep Finset.univ fun j : Fin 513 => roundState ER (Rd J) (kcell (c, j)) 0
def ats0 (c : Dev nD) : sProp 𝕄 := bigSep Finset.univ fun j : Fin 513 => atPos ER (kcell (c, j)) 0 ∅ 0
def reach0 (c : Dev nD) : sProp 𝕄 := bigSep Finset.univ fun j : Fin 513 => reached ER (kcell (c, j)) 0

/-- What the launch deals a device. -/
def G (c : Dev nD) : sProp 𝕄 := iprop(states J c ∗ ats0 c ∗ reach0 c ∗ ownB c ∗ ownD c)

theorem over_cells (Φ : GSem nD τ sig → sProp (MM F)) : bigSep allCells Φ = bigSep Finset.univ fun c : Dev nD => bigSep Finset.univ fun j : Fin 513 => Φ (kcell (c, j)) := by
  unfold allCells; rw [bigSep_map, bigSep_univ_prod]; rfl
theorem over_toks : bigSep allToks (fun x => (dutyTok ER x.1 x.2.1 x.2.2 : sProp (MM F))) = iprop(bigSep Finset.univ ownB ∗ bigSep Finset.univ ownD) := by
  unfold allToks; rw [bigSep_map, bigSep_univ_sum, bigSep_univ_prod, bigSep_univ_prod]; rfl

theorem fund_all : BI.own (ER (initOf allCells allToks)) ⊢ (|==> bigSep Finset.univ (G J) : sProp (MM F)) := by
  iintro HX
  imod (Rounds.fund ER (Rd J) allCells allToks) $$ HX with ⟨Hst, Hr, Hat, Htok⟩
  imodintro
  ihave Hst' := (Entails.of_eq (over_cells fun g => roundState ER (Rd J) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  icases Htok' with ⟨HB, HD⟩
  unfold G; rw [sep2, sep2, sep2, sep2]
  isplitl [Hst']; · iexact Hst'
  isplitl [Hat']; · iexact Hat'
  isplitl [Hr']; · iexact Hr'
  isplitl [HB]; · iexact HB
  iexact HD

/-- The tokens of the duties a device pays. -/
def payB (c : Dev nD) : sProp 𝕄 := bigSep (Finset.Ico 1 32) fun o => dutyTok ER (bcell (peer c o)) 0 c
def payS (k : ℕ) (c : Dev nD) : sProp 𝕄 := bigSep (Finset.range 4) fun p => bigSep (Finset.Ico 1 32) fun o => dutyTok ER (dcell c (cix k p o)) 0 c
def payR (k : ℕ) (c : Dev nD) : sProp 𝕄 := bigSep (Finset.range 4) fun p => bigSep (Finset.Ico 1 32) fun o => dutyTok ER (dcell (peer c o) (cix k p o)) 0 (peer c o)

theorem deal_bar : (bigSep Finset.univ fun c : Dev nD => ownB (F := F) c) ⊢ bigSep Finset.univ fun c : Dev nD => payB (F := F) c := by
  unfold ownB payB
  rw [swap_of]
  refine mono_of fun c _ => ?_
  rw [← bigSep_others c (fun d => (dutyTok ER (bcell d) 0 c : sProp (MM F)))]
  exact bigSep_subset (Finset.erase_subset _ _)

theorem own_dma : ownD (F := F) c ⊢ iprop(payS 0 c ∗ payS 1 c ∗ payS 2 c ∗ payS 3 c) := by
  unfold ownD payS
  rw [cells_eq (fun j => (dutyTok ER (dcell c j) 0 c : sProp (MM F)))]
  rw [← sep2, ← sep2, ← sep2]
  refine mono_of fun p _ => ?_
  rw [four]
  unfold grp
  iintro ⟨⟨-, H0⟩, ⟨-, H1⟩, ⟨-, H2⟩, -, H3⟩
  isplitl [H0]; · iexact H0
  isplitl [H1]; · iexact H1
  isplitl [H2]; · iexact H2
  iexact H3

theorem deal_recv (k : ℕ) : (bigSep Finset.univ fun c : Dev nD => payS (F := F) k c) = bigSep Finset.univ fun c : Dev nD => payR (F := F) k c := by
  unfold payS payR
  exact spread fun c p o => (dutyTok ER (dcell c (cix k p o)) 0 c : sProp (MM F))

theorem deal_dma : (bigSep Finset.univ fun c : Dev nD => ownD (F := F) c) ⊢ bigSep Finset.univ fun c : Dev nD => iprop(payS (F := F) 0 c ∗ payR 1 c ∗ payS 2 c ∗ payR 3 c) := by
  refine (mono_of fun c _ => own_dma c).trans (Entails.of_eq ?_)
  rw [sep2, sep2, sep2, sep2, sep2, sep2, deal_recv 1, deal_recv 3]

/-- What stays with a device: its positions, and the tokens it pays with. -/
def linear (c : Dev nD) : sProp 𝕄 := iprop(ats0 c ∗ payB c ∗ payS 0 c ∗ payR 1 c ∗ payS 2 c ∗ payR 3 c)

def books : sProp 𝕄 :=
  iprop((bigSep Finset.univ fun ck : Dev nD × Fin 513 => cellInv ER (Rd J) (K ck) (kcell ck)) ∗ bigSep Finset.univ fun ck : Dev nD × Fin 513 => reached ER (kcell ck) 0)
instance books_persistent : BI.Persistent (books J K) := by unfold books; infer_instance

def G' (c : Dev nD) : sProp 𝕄 := iprop(∃ K, books J K ∗ linear c)

/-! ## The semaphores -/

def osem (j : Fin 512) : SemLoc sig := .dma (dj j.val)

theorem osem_inj : Function.Injective osem := fun j j' h => Fin.ext (dj_inj j.isLt j'.isLt (SemLoc.dma.inj h))

theorem stage_small : ∀ (w : Fin 6) (s : Fin (spec0 w).nbuf), ((spec0 w).sem s).val < 6 := by decide

theorem ownSemFacts : Pipeline.OwnSemFacts cfg0.spec osem where
  isScoped := by decide +kernel
  inj := osem_inj
  disj := fun j w s h => by
    have h' := congrArg Fin.val (SemLoc.dma.inj h)
    rw [dj_val j.isLt] at h'
    have := stage_small w s
    have : ((cfg0.spec w).sem s).val < 6 := this
    have e : 6 + j.val = ((cfg0.spec w).sem s).val := h'
    omega

theorem unscoped_eq : (unscopedSems0 c : sProp (MM F)) = semVal (bcell c) 0 := by
  unfold unscopedSems0; rw [bigSep_eq_bigSepL_of_eq [SemLoc.reg barS] (by decide +kernel) (by decide)]; rfl

theorem own_eq : (Pipeline.ownSems0 (Ix := Unit) (Name := ℕ) (U := UU) (Lvl := ℕ) (Val := Elt F) (τ := τ) osem c : sProp (MM F))
    = bigSep Finset.univ fun j : Fin 512 => semVal (dcell c j.val) 0 := rfl

theorem sems_eq :
    iprop(Pipeline.ownSems0 (Ix := Unit) (Name := ℕ) (U := UU) (Lvl := ℕ) (Val := Elt F) (τ := τ) osem c ∗ unscopedSems0 c)
      ⊢ (bigSep Finset.univ fun j : Fin 513 => semVal (kcell (c, j)) 0 : sProp (MM F)) := by
  rw [own_eq, unscoped_eq, fin513, kcell_bar]
  refine sep_comm.1.trans (sep_mono_right (Entails.of_eq (bigSep_congr fun j _ => ?_)))
  rw [kcell_dma c j.isLt]

theorem core_alloc :
    iprop(Pipeline.ownSems0 (Ix := Unit) (Name := ℕ) (U := UU) (Lvl := ℕ) (Val := Elt F) (τ := τ) osem c ∗ unscopedSems0 c ∗ G J c)
      ⊢ |={Set.univ}=> iprop((bigSep Finset.univ fun j => iprop(∃ κ : ℕ, cellInv ER (Rd J) κ (kcell (c, j)))) ∗ ats0 c ∗ reach0 c ∗ ownB c ∗ ownD c) := by
  unfold G states
  iintro ⟨Hos, Hus, Hst, Hrest⟩
  ihave Hv := (sems_eq (F := F) c) $$ [Hos Hus]
  · isplitl [Hos] <;> iassumption
  imod (show iprop((bigSep Finset.univ fun j : Fin 513 => semVal (kcell (c, j)) 0) ∗ bigSep Finset.univ fun j : Fin 513 => roundState ER (Rd J) (kcell (c, j)) 0)
      ⊢ (|={Set.univ}=> bigSep Finset.univ fun j => iprop(∃ κ : ℕ, cellInv ER (Rd J) κ (kcell (c, j))) : sProp (MM F)) from by
        rw [← sep2]
        exact (bigSep_mono fun j _ => (Rounds.body_intro ER (Rd J) (kcell (c, j))).trans inv_alloc).trans (bigSep_fupd _ _)) $$ [Hv Hst] with Hinv
  · isplitl [Hv] <;> iassumption
  imodintro
  isplitl [Hinv]; · iexact Hinv
  iexact Hrest

theorem book_intro : iprop(books J K ∗ linear c) ⊢ G' J c := by
  unfold G'
  iintro H
  iexists K
  iexact H

theorem linear_intro : iprop(bigSep Finset.univ ats0 ∗ (bigSep Finset.univ fun c : Dev nD => payB (F := F) c) ∗ bigSep Finset.univ fun c : Dev nD => iprop(payS (F := F) 0 c ∗ payR 1 c ∗ payS 2 c ∗ payR 3 c)) ⊢ bigSep Finset.univ fun c : Dev nD => linear (F := F) c := by
  unfold linear
  rw [← sep2, ← sep2]

theorem deal :
    (bigSep Finset.univ fun c : Dev nD => iprop((bigSep Finset.univ fun j => iprop(∃ κ : ℕ, cellInv ER (Rd J) κ (kcell (c, j)))) ∗ ats0 c ∗ reach0 c ∗ ownB c ∗ ownD c) : sProp (MM F))
      ⊢ bigSep Finset.univ (G' J) := by
  rw [sep2, sep2, sep2, sep2, ← bigSep_univ_prod (fun ck : Dev nD × Fin 513 => iprop(∃ κ : ℕ, cellInv ER (Rd J) κ (kcell ck)))]
  unfold reach0
  rw [← bigSep_univ_prod (fun ck : Dev nD × Fin 513 => (reached ER (kcell ck) 0 : sProp (MM F)))]
  iintro ⟨HI, Hat, #HR, HB, HD⟩
  ihave HK := (BI.bigSep_exists_pi Finset.univ (fun (ck : Dev nD × Fin 513) (κ : ℕ) => (cellInv ER (Rd J) κ (kcell ck) : sProp (MM F)))) $$ HI
  icases HK with ⟨%K, #HI⟩
  ihave HB' := (deal_bar (F := F)) $$ HB
  ihave HD' := (deal_dma (F := F)) $$ HD
  iapply (bigSep_with_persistent (R := books J K) (Φ := fun c => linear (F := F) c) fun c _ => book_intro J K c)
  isplitr
  · unfold books; isplitl; · iexact HI
    iexact HR
  · iapply (linear_intro (F := F))
    isplitl [Hat]; · iexact Hat
    isplitl [HB']; · iexact HB'
    iexact HD'

theorem glob : (bigSep Finset.univ fun c => iprop(Pipeline.ownSems0 (Ix := Unit) (Name := ℕ) (U := UU) (Lvl := ℕ) (Val := Elt F) (τ := τ) osem c ∗ unscopedSems0 c ∗ G J c) : sProp (MM F))
    ⊢ |={Set.univ}=> bigSep Finset.univ (G' J) :=
  ((bigSep_mono fun c _ => core_alloc J c).trans (bigSep_fupd _ _)).trans (BI.fupd_mono (deal J))

end Cert.Ring
-- ==== Proof.Entry.lean ====
/-
# Before and after the kernel's body

The credits the launch deals a device; how what it deals, with the scratch buffers cut into their parts, makes the
state the body starts from; and how the state the body ends in gives the buffers and the semaphores back.
-/
module

public import proofs.«01_k».proof.Proof.Cells

@[expose] public section

noncomputable section

namespace Cert.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (J : Dev nD → Ins F) (K : Dev nD × Fin 513 → ℕ) (c : Dev nD)

/-! ## The credits -/

theorem owed_sum (s : ℕ → SemLoc sig) (N : ℕ) (c : Dev nD) (sm : SemLoc sig) :
    (∑ d : Dev nD, (∑ o ∈ Finset.Ico 1 32, tallyAt (((peer d o : Dev nD) : Thread nD τ), s o) () N : CellTallies nD τ sig Unit) ((c : Thread nD τ), sm) ())
      = ∑ o ∈ Finset.Ico 1 32, if sm = s o then N else 0 := by
  rw [Finset.sum_congr rfl fun d _ => by rw [Finset.sum_apply, Finsupp.finsetSum_apply], Finset.sum_comm]
  refine Finset.sum_congr rfl fun o _ => ?_
  rw [Finset.sum_congr rfl fun d _ => tallyAt_apply _ _ _ _ _]
  rw [Fintype.sum_equiv (peerE o) _ (fun d : Dev nD => if d = c then (if sm = s o then N else 0) else 0)]
  · rw [Finset.sum_ite_eq' Finset.univ c, if_pos (Finset.mem_univ _)]
  · intro d
    show (if _ ∧ _ then N else 0) = if peer d o = c then _ else _
    by_cases hd : peer d o = c
    · subst hd
      rw [if_pos rfl]
      refine if_congr ⟨fun h => congrArg Prod.snd h.1, fun h => ⟨by rw [h], rfl⟩⟩ rfl rfl
    · rw [if_neg hd, if_neg fun h => hd ((congrArg (fun g : GSem nD τ sig => g.1.1) h.1).symm)]

theorem pick {k p r k' q : ℕ} (N : ℕ) (hk : k < 4) (hp : p < 4) (hr : 1 ≤ r) (hr' : r < 32) (hk' : k' < 4) (hq : q < 4) :
    (∑ o ∈ Finset.Ico 1 32, if (SemLoc.dma (dj (cix k p r)) : SemLoc sig) = .dma (dj (cix k' q o)) then N else 0) = if k = k' ∧ p = q then N else 0 := by
  have key : ∀ o ∈ Finset.Ico 1 32, ((SemLoc.dma (dj (cix k p r)) : SemLoc sig) = .dma (dj (cix k' q o)) ↔ ((k = k' ∧ p = q) ∧ r = o)) := fun o ho => by
    have ho := Finset.mem_Ico.mp ho
    constructor
    · intro h
      have h := dj_inj (cix_lt hk hp hr') (cix_lt hk' hq ho.2) (SemLoc.dma.inj h)
      unfold cix at h
      omega
    · rintro ⟨⟨rfl, rfl⟩, rfl⟩; rfl
  rw [Finset.sum_congr rfl fun o ho => if_congr (key o ho) rfl rfl]
  by_cases h : k = k' ∧ p = q
  · rw [if_pos h, Finset.sum_congr rfl fun o _ => if_congr (and_iff_right h) rfl rfl, Finset.sum_ite_eq, if_pos (Finset.mem_Ico.mpr ⟨hr, hr'⟩)]
  · rw [if_neg h, Finset.sum_eq_zero fun o _ => if_neg fun e => h e.1]

theorem miss {N : ℕ} {sm : SemLoc sig} {s : ℕ → SemLoc sig} (h : ∀ o, sm ≠ s o) : (∑ o ∈ Finset.Ico 1 32, if sm = s o then N else 0) = 0 :=
  Finset.sum_eq_zero fun o _ => if_neg (h o)

theorem owed_all (sm : SemLoc sig) :
    launchCredit (Pipeline.owing O₀) 0 ((c : Thread nD τ), sm) ()
      = (∑ o ∈ Finset.Ico 1 32, if sm = .reg barS then 1 else 0)
        + ((∑ o ∈ Finset.Ico 1 32, if sm = .dma (dj (cix 1 0 o)) then N1 else 0)
        + ((∑ o ∈ Finset.Ico 1 32, if sm = .dma (dj (cix 1 1 o)) then N1 else 0)
        + ((∑ o ∈ Finset.Ico 1 32, if sm = .dma (dj (cix 3 0 o)) then N2 else 0)
        + ((∑ o ∈ Finset.Ico 1 32, if sm = .dma (dj (cix 1 2 o)) then N1 else 0)
        + ((∑ o ∈ Finset.Ico 1 32, if sm = .dma (dj (cix 3 1 o)) then N2 else 0)
        + ((∑ o ∈ Finset.Ico 1 32, if sm = .dma (dj (cix 1 3 o)) then N1 else 0)
        + ((∑ o ∈ Finset.Ico 1 32, if sm = .dma (dj (cix 3 2 o)) then N2 else 0)
        + (∑ o ∈ Finset.Ico 1 32, if sm = .dma (dj (cix 3 3 o)) then N2 else 0)))))))) := by
  rw [Pipeline.launchCredit_owing]
  have h : ∀ d : Dev nD, O₀ d ((c : Thread nD τ), sm) () = OB d 1 ((c : Thread nD τ), sm) () + (O1 d 0 1 ((c : Thread nD τ), sm) () + (O1 d 1 1 ((c : Thread nD τ), sm) ()
      + (O2 d 0 1 ((c : Thread nD τ), sm) () + (O1 d 2 1 ((c : Thread nD τ), sm) () + (O2 d 1 1 ((c : Thread nD τ), sm) () + (O1 d 3 1 ((c : Thread nD τ), sm) ()
      + (O2 d 2 1 ((c : Thread nD τ), sm) () + O2 d 3 1 ((c : Thread nD τ), sm) ()))))))) := fun d => rfl
  rw [Finset.sum_congr rfl fun d _ => h d]
  simp only [Finset.sum_add_distrib]
  unfold OB O1 O2
  simp only [owed_sum]

theorem tally_is {sm : SemLoc sig} {N : ℕ} (h : launchCredit (Pipeline.owing O₀) 0 ((c : Thread nD τ), sm) () = N) :
    tallyOn ((c : Thread nD τ), sm) (launchCredit (Pipeline.owing O₀) 0 ((c : Thread nD τ), sm)) = (tallyAt ((c : Thread nD τ), sm) () N : CellTallies nD τ sig Unit) := by
  unfold tallyAt; refine congrArg _ (Finsupp.ext fun u => ?_); cases u
  rw [h, Finsupp.single_eq_same]

theorem launch_bar : tallyOn (bcell c) (launchCredit (Pipeline.owing O₀) 0 (bcell c)) = (tallyAt (bcell c) () 31 : CellTallies nD τ sig Unit) := by
  refine tally_is c ?_
  rw [owed_all]
  repeat rw [miss (N := N1) fun o h => by cases h]
  repeat rw [miss (N := N2) fun o h => by cases h]
  rfl

theorem launch_one {p r : ℕ} (hp : p < 4) (hr : 1 ≤ r) (hr' : r < 32) :
    tallyOn (dcell c (cix 1 p r)) (launchCredit (Pipeline.owing O₀) 0 (dcell c (cix 1 p r))) = (tallyAt (dcell c (cix 1 p r)) () N1 : CellTallies nD τ sig Unit) := by
  refine tally_is c ?_
  rw [owed_all, miss (N := 1) fun o h => by cases h]
  rw [pick N1 (by decide) hp hr hr' (by decide) (by decide), pick N1 (by decide) hp hr hr' (by decide) (by decide), pick N1 (by decide) hp hr hr' (by decide) (by decide),
    pick N1 (by decide) hp hr hr' (by decide) (by decide), pick N2 (by decide) hp hr hr' (by decide) (by decide), pick N2 (by decide) hp hr hr' (by decide) (by decide),
    pick N2 (by decide) hp hr hr' (by decide) (by decide), pick N2 (by decide) hp hr hr' (by decide) (by decide)]
  generalize N1 = a
  generalize N2 = b
  have : p = 0 ∨ p = 1 ∨ p = 2 ∨ p = 3 := by omega
  rcases this with rfl | rfl | rfl | rfl <;> simp

theorem launch_two {p r : ℕ} (hp : p < 4) (hr : 1 ≤ r) (hr' : r < 32) :
    tallyOn (dcell c (cix 3 p r)) (launchCredit (Pipeline.owing O₀) 0 (dcell c (cix 3 p r))) = (tallyAt (dcell c (cix 3 p r)) () N2 : CellTallies nD τ sig Unit) := by
  refine tally_is c ?_
  rw [owed_all, miss (N := 1) fun o h => by cases h]
  rw [pick N1 (by decide) hp hr hr' (by decide) (by decide), pick N1 (by decide) hp hr hr' (by decide) (by decide), pick N1 (by decide) hp hr hr' (by decide) (by decide),
    pick N1 (by decide) hp hr hr' (by decide) (by decide), pick N2 (by decide) hp hr hr' (by decide) (by decide), pick N2 (by decide) hp hr hr' (by decide) (by decide),
    pick N2 (by decide) hp hr hr' (by decide) (by decide), pick N2 (by decide) hp hr hr' (by decide) (by decide)]
  generalize N1 = a
  generalize N2 = b
  have : p = 0 ∨ p = 1 ∨ p = 2 ∨ p = 3 := by omega
  rcases this with rfl | rfl | rfl | rfl <;> simp

def credits (c : Dev nD) : sProp 𝕄 := iprop(cred (tallyAt (bcell c) () 31) ∗ bigSep (Finset.range 4) fun p => iprop(crs c 1 N1 p ∗ crs c 3 N2 p))

theorem csem_inj : Function.Injective csem := fun j j' h => by
  have := kcell_injective (a₁ := ((0 : Dev nD), j)) (a₂ := ((0 : Dev nD), j')) (by unfold kcell; rw [h])
  exact congrArg Prod.snd this

theorem credits_intro : (Pipeline.launchCred O₀ c : sProp 𝕄) ⊢ credits c := by
  have h1 : (Pipeline.launchCred O₀ c : sProp (MM F)) ⊢ bigSep Finset.univ fun j : Fin 513 => (cred (tallyOn (kcell (c, j)) (launchCredit (Pipeline.owing O₀) 0 (kcell (c, j)))) : sProp (MM F)) := by
    unfold Pipeline.launchCred
    refine BI.Entails.trans (bigSep_subset (Finset.subset_univ ((Finset.univ : Finset (Fin 513)).map ⟨csem, csem_inj⟩))) ?_
    rw [bigSep_map]
    exact BI.Entails.refl _
  refine h1.trans ((Entails.of_eq (all_cells c fun g => (cred (tallyOn g (launchCredit (Pipeline.owing O₀) 0 g)) : sProp (MM F)))).trans ?_)
  unfold credits
  rw [launch_bar]
  refine sep_mono_right (mono_of fun p hp => ?_)
  have hp := Finset.mem_range.mp hp
  rw [four]
  unfold grp crs
  have e1 : (bigSep (Finset.Ico 1 32) fun o => (cred (tallyOn (dcell c (cix 1 p o)) (launchCredit (Pipeline.owing O₀) 0 (dcell c (cix 1 p o)))) : sProp (MM F))) = bigSep (Finset.Ico 1 32) fun o => cred (tallyAt (dcell c (cix 1 p o)) () N1) :=
    bigSep_congr fun o ho => by rw [launch_one c hp (Finset.mem_Ico.mp ho).1 (Finset.mem_Ico.mp ho).2]
  have e2 : (bigSep (Finset.Ico 1 32) fun o => (cred (tallyOn (dcell c (cix 3 p o)) (launchCredit (Pipeline.owing O₀) 0 (dcell c (cix 3 p o)))) : sProp (MM F))) = bigSep (Finset.Ico 1 32) fun o => cred (tallyAt (dcell c (cix 3 p o)) () N2) :=
    bigSep_congr fun o ho => by rw [launch_two c hp (Finset.mem_Ico.mp ho).1 (Finset.mem_Ico.mp ho).2]
  rw [← e1, ← e2]
  iintro ⟨-, ⟨-, H1⟩, -, -, H3⟩
  isplitl [H1]; · iexact H1
  iexact H3

/-! ## The scratch buffers in parts -/

theorem sb_disj : ∀ p ∈ Finset.range 4, ∀ q ∈ Finset.range 4, p ≠ q → Disjoint (sbBlk p) (sbBlk q) := fun p _ q _ hne => by
  rw [Finset.disjoint_left]
  intro i hi hi'
  exact hne ((mem_sbBlk.mp hi).symm.trans (mem_sbBlk.mp hi'))
theorem os_disj : ∀ p ∈ Finset.range 4, ∀ q ∈ Finset.range 4, p ≠ q → Disjoint (osBlk p) (osBlk q) := fun p _ q _ hne => by
  rw [Finset.disjoint_left]
  intro i hi hi'
  exact hne ((mem_osBlk.mp hi).symm.trans (mem_osBlk.mp hi'))

theorem sb_parts (f : Buf (Elt F) (sbL c)) : (sbL c ↦{fullShare} f : sProp (MM F)) = bigSep (Finset.range 4) fun p => (sbL c ↦[sbBlk p]{fullShare} f : sProp (MM F)) := by
  have h : (Finset.univ : Finset S1024x520.Idx) = (Finset.range 4).biUnion sbBlk := by
    ext i
    refine ⟨fun _ => ?_, fun _ => Finset.mem_univ _⟩
    have h0 : (i 0).val < 1024 := (i 0).isLt
    exact Finset.mem_biUnion.mpr ⟨(i 0).val / 256, Finset.mem_range.mpr (by omega), mem_sbBlk.mpr rfl⟩
  have e : (sbL c ↦[(Finset.range 4).biUnion sbBlk]{fullShare} f : sProp (MM F)) = bigSep (Finset.range 4) fun p => (sbL c ↦[sbBlk p]{fullShare} f : sProp (MM F)) := by
    rw [pointsTo_biUnion]; exact sb_disj
  rw [← e, ← h]

theorem os_parts (f : Buf (Elt F) (osL c)) : (osL c ↦{fullShare} f : sProp (MM F)) = bigSep (Finset.range 4) fun p => (osL c ↦[osBlk p]{fullShare} f : sProp (MM F)) := by
  have h : (Finset.univ : Finset S2x512x512.Idx) = (Finset.range 4).biUnion osBlk := by
    ext i
    refine ⟨fun _ => ?_, fun _ => Finset.mem_univ _⟩
    have h0 : (i 0).val < 2 := (i 0).isLt
    have h1 : (i 1).val < 512 := (i 1).isLt
    exact Finset.mem_biUnion.mpr ⟨2 * (i 0).val + (i 1).val / 256, Finset.mem_range.mpr (by omega), mem_osBlk.mpr rfl⟩
  have e : (osL c ↦[(Finset.range 4).biUnion osBlk]{fullShare} f : sProp (MM F)) = bigSep (Finset.range 4) fun p => (osL c ↦[osBlk p]{fullShare} f : sProp (MM F)) := by
    rw [pointsTo_biUnion]; exact os_disj
  rw [← e, ← h]

theorem os_rows (p : ℕ) (f : Buf (Elt F) (osL c)) : (osL c ↦[osBlk p]{fullShare} f : sProp (MM F)) = bigSep Finset.univ fun t : Dev nD => (osL c ↦[osSet p t]{fullShare} f : sProp (MM F)) := by
  rw [osBlk_eq, pointsTo_biUnion]
  intro t _ t' _ hne
  rw [Finset.disjoint_left]
  intro i hi hi'
  have := mem_osSet.mp hi
  have := mem_osSet.mp hi'
  exact hne (Fin.ext (by omega))

/-- All the staging slots of a phase. -/
def stAll (p : ℕ) : Finset S4x32x8x520.Idx := Finset.univ.filter fun i => (i 0).val = p
theorem mem_stAll {p : ℕ} {i : S4x32x8x520.Idx} : i ∈ stAll p ↔ (i 0).val = p := by
  unfold stAll; rw [Finset.mem_filter]; exact ⟨fun h => h.2, fun h => ⟨Finset.mem_univ _, h⟩⟩
theorem st_univ : (Finset.univ : Finset S4x32x8x520.Idx) = (Finset.range 4).biUnion stAll := by
  ext i
  refine ⟨fun _ => ?_, fun _ => Finset.mem_univ _⟩
  have h0 : (i 0).val < 4 := (i 0).isLt
  exact Finset.mem_biUnion.mpr ⟨(i 0).val, Finset.mem_range.mpr h0, mem_stAll.mpr rfl⟩
theorem st_disj : ∀ p ∈ Finset.range 4, ∀ q ∈ Finset.range 4, p ≠ q → Disjoint (stAll p) (stAll q) := fun p _ q _ hne => by
  rw [Finset.disjoint_left]
  intro i hi hi'
  exact hne ((mem_stAll.mp hi).symm.trans (mem_stAll.mp hi'))

theorem st_parts (f : Buf (Elt F) (stL c)) : (stL c ↦{fullShare} f : sProp (MM F)) = bigSep (Finset.range 4) fun p => (stL c ↦[stAll p]{fullShare} f : sProp (MM F)) := by
  have e : (stL c ↦[(Finset.range 4).biUnion stAll]{fullShare} f : sProp (MM F)) = bigSep (Finset.range 4) fun p => (stL c ↦[stAll p]{fullShare} f : sProp (MM F)) := by
    rw [pointsTo_biUnion]; exact st_disj
  rw [← e, ← st_univ]

theorem st_slots (p : ℕ) (f : Buf (Elt F) (stL c)) : (stL c ↦[stAll p]{fullShare} f : sProp (MM F)) = bigSep (Finset.range 32) fun o => (stL c ↦[stSet p o]{fullShare} f : sProp (MM F)) := by
  have h : stAll p = (Finset.range 32).biUnion (stSet p) := by
    ext i
    have h1 : (i 1).val < 32 := (i 1).isLt
    rw [mem_stAll, Finset.mem_biUnion]
    constructor
    · intro h0; exact ⟨(i 1).val, Finset.mem_range.mpr h1, mem_stSet.mpr ⟨h0, rfl⟩⟩
    · rintro ⟨o, -, ho⟩; exact (mem_stSet.mp ho).1
  rw [h, pointsTo_biUnion]
  intro o _ o' _ hne
  rw [Finset.disjoint_left]
  intro i hi hi'
  exact hne ((mem_stSet.mp hi).2.symm.trans (mem_stSet.mp hi').2)

theorem any_st (p o : ℕ) (f : Buf (Elt F) (stL c)) : (stL c ↦[stSet p o]{fullShare} f : sProp (MM F)) ⊢ stAny c p o := by
  unfold stAny; iintro H; iexists f; iexact H
theorem any_os (p : ℕ) (t : Dev nD) (f : Buf (Elt F) (osL c)) : (osL c ↦[osSet p t]{fullShare} f : sProp (MM F)) ⊢ osAny c p t := by
  unfold osAny; iintro H; iexists f; iexact H

/-- A device's slots for the others, and its copies of their rows. -/
def ownSt (p : ℕ) : sProp 𝕄 := bigSep (Finset.Ico 1 32) fun o => stAny c p o
def ownOs (p : ℕ) : sProp 𝕄 := bigSep (Finset.Ico 1 32) fun o => osAny c p (peer c o)

theorem cut_sb (f : Buf (Elt F) (sbL c)) : (sbL c ↦{fullShare} f : sProp (MM F)) ⊢ bigSep (Finset.range 4) fun p => sbAny c p := by
  rw [sb_parts]; exact mono_of fun p _ => sbAny_intro c f
theorem cut_st (f : Buf (Elt F) (stL c)) : (stL c ↦{fullShare} f : sProp (MM F)) ⊢ bigSep (Finset.range 4) fun p => iprop(stAny c p 0 ∗ ownSt c p) := by
  rw [st_parts]
  refine mono_of fun p _ => ?_
  rw [st_slots]
  refine (mono_of fun o _ => any_st c p o f).trans ?_
  rw [range32]
  exact BI.Entails.refl _
theorem cut_os (f : Buf (Elt F) (osL c)) : (osL c ↦{fullShare} f : sProp (MM F)) ⊢ bigSep (Finset.range 4) fun p => iprop(osAny c p c ∗ ownOs c p) := by
  rw [os_parts]
  refine mono_of fun p _ => ?_
  rw [os_rows]
  refine (mono_of fun t _ => any_os c p t f).trans (Entails.of_eq ?_)
  unfold ownOs
  rw [← bigSep_others c fun t => osAny c p t]
  exact bigSep_erase (Finset.mem_univ c)

/-- The slots for the others in the order of the devices after. -/
theorem flip (Φ : ℕ → sProp (MM F)) : bigSep (Finset.Ico 1 32) Φ = bigSep (Finset.Ico 1 32) fun o => Φ ((c.val + (32 - (peer c o).val)) % 32) := by
  have hc : c.val < 32 := c.isLt
  have e1 := bigSep_others c fun t : Dev nD => Φ ((c.val + (32 - t.val)) % 32)
  have e2 := bigSep_back c fun t : Dev nD => Φ ((c.val + (32 - t.val)) % 32)
  rw [← e1, e2]
  refine bigSep_congr fun o ho => congrArg Φ ?_
  have ho := Finset.mem_Ico.mp ho
  rw [back_val]
  omega

theorem pays_eq : (bigSep (Finset.Ico 1 32) fun o => barPay (F := F) (peer c o) c) = bigSep (Finset.range 4) fun p => iprop(ownSt c p ∗ ownOs c p) := by
  unfold barPay
  rw [swap_of]
  refine bigSep_congr fun p _ => ?_
  rw [sep2]
  unfold ownSt ownOs
  rw [flip c fun o => stAny c p o]

/-! ## Into the body -/

def at0 (p : ℕ) : sProp 𝕄 := bigSep (Finset.range 4) fun k => atPos ER (dcell c (cix k p 0)) 0 ∅ 0
def sv0 (p : ℕ) : sProp 𝕄 := bigSep (Finset.range 4) fun k => semVal (dcell c (cix k p 0)) 0

theorem close_one {j : ℕ} (hj : j < 512) (h0 : j % 32 = 0) : iprop(recs J K ∗ atPos ER (dcell c j) 0 ∅ 0) ⊢ (|={Set.univ}=> semVal (dcell c j) 0 : sProp (MM F)) := by
  iintro ⟨#Hr, Hat⟩
  imod (Rounds.cell_close ER (Rd J) (Set.mem_univ (Kd K c j)) (fun h => h) (R := 0) (fun r _ => duties_unused J c hj h0 r)) $$ [Hat] with Hz
  · isplitr; · iapply (inv_dma J K c hj); iexact Hr
    iexact Hat
  imodintro
  iexact Hz

theorem close_unused : iprop(recs J K ∗ bigSep (Finset.range 4) fun p => at0 c p) ⊢ (|={Set.univ}=> bigSep (Finset.range 4) fun p => sv0 c p : sProp (MM F)) := by
  refine BI.Entails.trans (bigSep_with_persistent (R := recs J K) (Ψ := fun p => iprop(|={Set.univ}=> sv0 c p)) fun p hp => ?_) (bigSep_fupd _ _)
  unfold at0 sv0
  refine BI.Entails.trans (bigSep_with_persistent (R := recs J K) (Ψ := fun k => iprop(|={Set.univ}=> semVal (dcell c (cix k p 0)) 0)) fun k hk => ?_) (bigSep_fupd _ _)
  have hp := Finset.mem_range.mp hp
  have hk := Finset.mem_range.mp hk
  exact close_one J K c (cix_lt hk hp (by decide)) (by unfold cix; omega)

theorem ats_parts : ats0 (F := F) c ⊢ iprop(atPos ER (bcell c) 0 ∅ 0 ∗ bigSep (Finset.range 4) fun p => iprop(at0 c p ∗ ats c 0 p ∗ ats c 1 p ∗ ats c 2 p ∗ ats c 3 p)) := by
  unfold ats0
  rw [all_cells c fun g => (atPos ER g 0 ∅ 0 : sProp (MM F))]
  refine sep_mono_right (mono_of fun p _ => ?_)
  unfold at0 ats
  rw [four, four]
  unfold grp
  iintro ⟨⟨H0, H0'⟩, ⟨H1, H1'⟩, ⟨H2, H2'⟩, H3, H3'⟩
  isplitl [H0 H1 H2 H3]
  · isplitl [H0]; · iexact H0
    isplitl [H1]; · iexact H1
    isplitl [H2]; · iexact H2
    iexact H3
  isplitl [H0']; · iexact H0'
  isplitl [H1']; · iexact H1'
  isplitl [H2']; · iexact H2'
  iexact H3'

def tk1 (p : ℕ) : sProp 𝕄 := bigSep (Finset.Ico 1 32) fun o => duty2 c 0 1 p o
def tk2 (p : ℕ) : sProp 𝕄 := bigSep (Finset.Ico 1 32) fun o => duty2 c 2 3 p o
theorem tk1_eq : (bigSep (Finset.range 4) fun p => tk1 (F := F) c p) = iprop(payS 0 c ∗ payR 1 c) := by
  unfold payS payR tk1 duty2
  rw [← sep2]
  exact bigSep_congr fun p _ => by rw [sep2]
theorem tk2_eq : (bigSep (Finset.range 4) fun p => tk2 (F := F) c p) = iprop(payS 2 c ∗ payR 3 c) := by
  unfold payS payR tk2 duty2
  rw [← sep2]
  exact bigSep_congr fun p _ => by rw [sep2]

/-- A phase's own part before the barrier; what no phase uses. -/
def Pre (p : ℕ) : sProp 𝕄 := iprop(sbAny c p ∗ osAny c p c ∗ (at0 c p ∗ ats c 0 p ∗ ats c 1 p ∗ ats c 2 p ∗ ats c 3 p) ∗ (crs c 1 N1 p ∗ crs c 3 N2 p) ∗ tk1 c p ∗ tk2 c p)
def Pre' (p : ℕ) : sProp 𝕄 := iprop(sbAny c p ∗ osAny c p c ∗ (ats c 0 p ∗ ats c 2 p) ∗ (wrs c 1 N1 p ∗ wrs c 3 N2 p) ∗ tk1 c p ∗ tk2 c p)
def Idle : sProp 𝕄 := iprop((bigSep (Finset.range 4) fun p => stAny c p 0) ∗ bigSep (Finset.range 4) fun p => sv0 c p)

theorem pre_split : (bigSep (Finset.range 4) fun p => Pre (F := F) c p) ⊢ iprop((bigSep (Finset.range 4) fun p => at0 c p) ∗ bigSep (Finset.range 4) fun p => Pre' c p) := by
  rw [← sep2]
  refine mono_of fun p _ => ?_
  unfold Pre Pre'
  rw [wrs_eq, wrs_eq]
  iintro ⟨Hs, Ho, ⟨Ha, H0, H1, H2, H3⟩, ⟨Hc, Hc'⟩, Ht, Ht'⟩
  isplitl [Ha]; · iexact Ha
  isplitl [Hs]; · iexact Hs
  isplitl [Ho]; · iexact Ho
  isplitl [H0 H2]
  · isplitl [H0]; · iexact H0
    iexact H2
  isplitl [H1 H3 Hc Hc']
  · isplitl [H1 Hc]
    · isplitl [Hc]; · iexact Hc
      iexact H1
    · isplitl [Hc']; · iexact Hc'
      iexact H3
  isplitl [Ht]; · iexact Ht
  iexact Ht'

theorem sig_intro : iprop(recs J K ∗ owesE c (OB c 1 + OX c) ∗ payB c ∗ bigSep (Finset.range 4) fun p => iprop(ownSt c p ∗ ownOs c p)) ⊢ SigSt J K c 1 := by
  unfold SigSt payB
  rw [← pays_eq, sep2]

/-- What the body keeps aside until the barrier is passed. -/
def Kept : sProp 𝕄 := iprop(InSt J c ∗ AccSt J c 0 0 ∗ OutSt J c 0 ∗ (bigSep (Finset.range 4) fun p => Pre' c p) ∗ Idle c)

theorem enter (fb : Buf (Elt F) (sbL c)) (ft : Buf (Elt F) (stL c)) (fo : Buf (Elt F) (osL c)) :
    iprop(recs J K ∗ owesE c (O₀ c) ∗ linear c ∗ credits c ∗ (InSt J c ∗ AccSt J c 0 0 ∗ OutSt J c 0) ∗ (sbL c ↦{fullShare} fb) ∗ (stL c ↦{fullShare} ft) ∗ (osL c ↦{fullShare} fo))
      ⊢ (|={Set.univ}=> iprop(SigSt J K c 1 ∗ BarSt c ∗ Kept J c) : sProp (MM F)) := by
  iintro ⟨#Hr, HO, Hl, Hc, ⟨HI, HA, HU⟩, Hb, Ht, Hs⟩
  ihave Hb := (cut_sb c fb) $$ Hb
  ihave Ht := (cut_st c ft) $$ Ht
  ihave Hs := (cut_os c fo) $$ Hs
  ihave Ht := (Entails.of_eq (sep2 (Finset.range 4) (fun p => stAny c p 0) (ownSt c))) $$ Ht
  ihave Hs := (Entails.of_eq (sep2 (Finset.range 4) (fun p => osAny c p c) (ownOs c))) $$ Hs
  icases Ht with ⟨Ht, Ht'⟩
  icases Hs with ⟨Hs, Hs'⟩
  unfold linear credits
  icases Hl with ⟨Hat, HpB, HpS, HpR, HpS', HpR'⟩
  icases Hc with ⟨HcB, Hc⟩
  ihave Hat := (ats_parts c) $$ Hat
  icases Hat with ⟨HaB, Hat⟩
  ihave Ht1 := (Entails.of_eq (tk1_eq (F := F) c).symm) $$ [HpS HpR]
  · isplitl [HpS] <;> iassumption
  ihave Ht2 := (Entails.of_eq (tk2_eq (F := F) c).symm) $$ [HpS' HpR']
  · isplitl [HpS'] <;> iassumption
  ihave Hpre := (show iprop((bigSep (Finset.range 4) fun p => sbAny c p) ∗ (bigSep (Finset.range 4) fun p => osAny c p c)
      ∗ (bigSep (Finset.range 4) fun p => iprop(at0 c p ∗ ats c 0 p ∗ ats c 1 p ∗ ats c 2 p ∗ ats c 3 p)) ∗ (bigSep (Finset.range 4) fun p => iprop(crs c 1 N1 p ∗ crs c 3 N2 p))
      ∗ (bigSep (Finset.range 4) fun p => tk1 c p) ∗ (bigSep (Finset.range 4) fun p => tk2 c p)) ⊢ (bigSep (Finset.range 4) fun p => Pre (F := F) c p) from Entails.of_eq (by
        unfold Pre; iterate 5 rw [← sep2])) $$ [Hb Hs Hat Hc Ht1 Ht2]
  · isplitl [Hb]; · iexact Hb
    isplitl [Hs]; · iexact Hs
    isplitl [Hat]; · iexact Hat
    isplitl [Hc]; · iexact Hc
    isplitl [Ht1]; · iexact Ht1
    iexact Ht2
  ihave Hpre := (pre_split c) $$ Hpre
  icases Hpre with ⟨Ha0, Hpre⟩
  imod (close_unused J K c) $$ [Ha0] with Hz
  · isplitr; · iexact Hr
    iexact Ha0
  imodintro
  isplitl [HO HpB Ht' Hs']
  · iapply (sig_intro J K c)
    isplitr; · iexact Hr
    isplitl [HO]; · iexact HO
    isplitl [HpB]; · iexact HpB
    rw [sep2]
    isplitl [Ht']; · iexact Ht'
    iexact Hs'
  isplitl [HcB HaB]
  · unfold BarSt
    isplitl [HcB]; · iexact HcB
    iexact HaB
  unfold Kept Idle
  isplitl [HI]; · iexact HI
  isplitl [HA]; · iexact HA
  isplitl [HU]; · iexact HU
  isplitl [Hpre]; · iexact Hpre
  isplitl [Ht]; · iexact Ht
  iexact Hz

def gotSt (p : ℕ) : sProp 𝕄 := bigSep (Finset.Ico 1 32) fun o => stAny (peer c o) p o
def gotOs (p : ℕ) : sProp 𝕄 := bigSep (Finset.Ico 1 32) fun o => osAny (peer c o) p c
theorem gotten_parts : gotten (F := F) c = bigSep (Finset.range 4) fun p => iprop(gotSt c p ∗ gotOs c p) := by
  unfold gotten
  rw [swap_of]
  refine bigSep_congr fun p _ => ?_
  unfold gotSt gotOs
  rw [sep2]

theorem phases_start : iprop(gotten c ∗ bigSep (Finset.range 4) fun p => Pre' c p) ⊢ bigSep (Finset.range 4) fun p => St0 (F := F) c p := by
  rw [gotten_parts, ← sep2]
  refine mono_of fun p _ => ?_
  unfold Pre' St0 St0' Ry to1 to2 gotSt gotOs tk1 tk2
  rw [sep2, sep2]
  iintro ⟨⟨Hg, Hg'⟩, Hs, Ho, ⟨H0, H2⟩, ⟨H1, H3⟩, Ht, Ht'⟩
  isplitl [Hs]; · iexact Hs
  isplitl [Hg Ht]
  · isplitl [Hg]; · iexact Hg
    iexact Ht
  isplitl [H0]; · iexact H0
  isplitl [H1]; · iexact H1
  isplitl [Ho]; · iexact Ho
  isplitl [Hg' Ht']
  · isplitl [Hg']; · iexact Hg'
    iexact Ht'
  isplitl [H2]; · iexact H2
  iexact H3

/-- What no phase uses, and the barrier semaphore. -/
def Rest : sProp 𝕄 := iprop(semVal (bcell c) 0 ∗ Idle c)

theorem at_start : iprop((recs J K ∗ owesE c (OX c) ∗ gotten c ∗ semVal (bcell c) 0) ∗ Kept J c) ⊢ Mac J K c (OX c) 0 0 (St0 c 0) iprop(St0 c 1 ∗ St0 c 2 ∗ St0 c 3 ∗ Rest c) := by
  unfold Kept Mac Rest
  iintro ⟨⟨#Hr, HO, Hg, Hb⟩, HI, HA, HU, Hp, Hi⟩
  ihave Hs := (phases_start c) $$ [Hg Hp]
  · isplitl [Hg] <;> iassumption
  ihave Hs := (Entails.of_eq (four (fun p => St0 (F := F) c p))) $$ Hs
  icases Hs with ⟨H0, H1, H2, H3⟩
  isplitr; · iexact Hr
  isplitl [HO]; · iexact HO
  isplitl [HI]; · iexact HI
  isplitl [HA]; · iexact HA
  isplitl [HU]; · iexact HU
  isplitl [H0]; · iexact H0
  isplitl [H1]; · iexact H1
  isplitl [H2]; · iexact H2
  isplitl [H3]; · iexact H3
  isplitl [Hb]; · iexact Hb
  iexact Hi

/-! ## Out of the body -/

theorem sems_back : iprop(semVal (bcell c) 0 ∗ bigSep (Finset.range 4) fun p => iprop(sv0 c p ∗ svs c 0 p ∗ svs c 1 p ∗ svs c 2 p ∗ svs c 3 p))
    ⊢ (iprop(unscopedSems0 c ∗ Pipeline.ownSems0 (Ix := Unit) (Name := ℕ) (U := UU) (Lvl := ℕ) (Val := Elt F) (τ := τ) osem c) : sProp (MM F)) := by
  rw [unscoped_eq, own_eq, cells_eq fun j => (semVal (dcell c j) 0 : sProp (MM F))]
  refine sep_mono_right (mono_of fun p _ => ?_)
  unfold sv0 svs
  rw [four, four]
  unfold grp
  iintro ⟨⟨H0, H1, H2, H3⟩, H0', H1', H2', H3'⟩
  isplitl [H0 H0']
  · isplitl [H0] <;> iassumption
  isplitl [H1 H1']
  · isplitl [H1] <;> iassumption
  isplitl [H2 H2']
  · isplitl [H2] <;> iassumption
  isplitl [H3] <;> iassumption

theorem slot_back (p : ℕ) : iprop(stF J c p ∗ stAny c p 0) ⊢ iprop(∃ f : Buf (Elt F) (stL c), stL c ↦[stAll p]{fullShare} f) := by
  rw [stF_eq]
  unfold stAny
  have h : stBlk p ∪ stSet p 0 = stAll p := by
    ext i
    rw [Finset.mem_union, mem_stBlk, mem_stSet, mem_stAll]
    omega
  have hd : Disjoint (stBlk p) (stSet p 0) := by
    rw [Finset.disjoint_left]
    intro i hi hi'
    have := (mem_stBlk.mp hi).2
    have := (mem_stSet.mp hi').2
    omega
  iintro ⟨H, ⟨%f, H'⟩⟩
  ihave H := (pointsTo_join (ℓ := stL c) (I := stBlk p) (J := stSet p 0) hd) $$ [H H']
  · isplitl [H] <;> iassumption
  rw [h]
  iexists _
  iexact H

theorem st_back : iprop((bigSep (Finset.range 4) fun p => stF J c p) ∗ bigSep (Finset.range 4) fun p => stAny c p 0) ⊢ iprop(∃ f : Buf (Elt F) (stL c), stL c ↦{fullShare} f) := by
  rw [← sep2]
  refine (mono_of fun p _ => slot_back J c p).trans ?_
  iintro H
  ihave H := (BI.bigSep_exists_pi (Finset.range 4) fun (p : ℕ) (f : Buf (Elt F) (stL c)) => (stL c ↦[stAll p]{fullShare} f : sProp (MM F))) $$ H
  icases H with ⟨%fs, H⟩
  ihave H := (pointsTo_biUnion_join (Finset.range 4) stAll fs (fs 0) st_disj) $$ H
  icases H with ⟨%g, -, H⟩
  rw [← st_univ]
  iexists g
  iexact H

/-- The buffers as the pipeline wants them back. -/
def scratch : sProp 𝕄 :=
  iprop((∃ f : Buf (Elt F) (accL c), accL c ↦{fullShare} f) ∗ (∃ f : Buf (Elt F) (sbL c), sbL c ↦{fullShare} f) ∗ (∃ f : Buf (Elt F) (stL c), stL c ↦{fullShare} f) ∗ (∃ f : Buf (Elt F) (osL c), osL c ↦{fullShare} f))

def Done (p : ℕ) : sProp 𝕄 := St3 J c p

theorem done_parts : (bigSep (Finset.range 4) fun p => St3 J c p) ⊢ iprop((bigSep (Finset.range 4) fun p => osFull J c p) ∗ (bigSep (Finset.range 4) fun p => sbFull J c p)
    ∗ (bigSep (Finset.range 4) fun p => stF J c p) ∗ (bigSep (Finset.range 4) fun p => iprop(svs c 0 p ∗ svs c 1 p ∗ svs c 2 p ∗ svs c 3 p))) := by
  rw [← sep2, ← sep2, ← sep2]
  refine mono_of fun p _ => ?_
  unfold St3 M5 D1
  iintro ⟨Ho, ⟨Hb, H0, H1⟩, Hs, H2, H3⟩
  isplitl [Ho]; · iexact Ho
  isplitl [Hb]; · iexact Hb
  isplitl [Hs]; · iexact Hs
  isplitl [H0]; · iexact H0
  isplitl [H1]; · iexact H1
  isplitl [H2]; · iexact H2
  iexact H3

theorem sb_back : (bigSep (Finset.range 4) fun p => sbFull J c p) ⊢ (iprop(∃ f : Buf (Elt F) (sbL c), sbL c ↦{fullShare} f) : sProp (MM F)) := by
  rw [show (fun p => sbFull J c p) = fun p => (sbL c ↦[sbBlk p]{fullShare} (sbV (J c) : Buf (Elt F) (sbL c)) : sProp (MM F)) from funext fun p => sbFull_eq J c p, ← sb_parts]
  iintro H
  iexists _
  iexact H
theorem os_back : (bigSep (Finset.range 4) fun p => osFull J c p) ⊢ (iprop(∃ f : Buf (Elt F) (osL c), osL c ↦{fullShare} f) : sProp (MM F)) := by
  unfold osFull
  rw [← os_parts]
  iintro H
  iexists _
  iexact H
theorem out_back : OutSt J c 4 ⊢ (outL c ↦{fullShare} (outV (J c) J : Buf (Elt F) (outL c)) : sProp (MM F)) := by
  unfold OutSt
  iintro ⟨%f, %hf, H⟩
  iapply (Entails.of_eq (pointsTo_congr (f := f) (g := outV (J c) J) fun i _ => hf i (by
    have h0 : (i 0).val < 2 := (i 0).isLt
    have h1 : (i 1).val < 512 := (i 1).isLt
    omega)))
  iexact H
theorem acc_back {a : ℕ} : AccSt J c a 0 ⊢ (iprop(∃ f : Buf (Elt F) (accL c), accL c ↦{fullShare} f) : sProp (MM F)) := by
  unfold AccSt
  iintro ⟨%f, -, H⟩
  iexists f
  iexact H

theorem at_end : Mac J K c 0 4 4 (St3 J c 3) iprop(St3 J c 1 ∗ St3 J c 2 ∗ St3 J c 0 ∗ Rest c)
    ⊢ iprop(owesE c 0 ∗ InSt J c ∗ (outL c ↦{fullShare} (outV (J c) J : Buf (Elt F) (outL c))) ∗ unscopedSems0 c
        ∗ Pipeline.ownSems0 (Ix := Unit) (Name := ℕ) (U := UU) (Lvl := ℕ) (Val := Elt F) (τ := τ) osem c ∗ scratch c) := by
  unfold Mac Rest Idle scratch
  iintro ⟨-, HO, HI, HA, HU, H3, H1, H2, H0, Hb, Ht, Hz⟩
  ihave Hd := (Entails.of_eq (four (fun p => St3 J c p)).symm) $$ [H0 H1 H2 H3]
  · isplitl [H0]; · iexact H0
    isplitl [H1]; · iexact H1
    isplitl [H2]; · iexact H2
    iexact H3
  ihave Hd := (done_parts J c) $$ Hd
  icases Hd with ⟨Ho, Hs, Hf, Hv⟩
  isplitl [HO]; · iexact HO
  isplitl [HI]; · iexact HI
  isplitl [HU]
  · iapply (out_back J c); iexact HU
  ihave Hx := (sems_back (F := F) c) $$ [Hb Hz Hv]
  · isplitl [Hb]; · iexact Hb
    iapply (Entails.of_eq (sep2 (Finset.range 4) (fun p => sv0 (F := F) c p) (fun p => iprop(svs c 0 p ∗ svs c 1 p ∗ svs c 2 p ∗ svs c 3 p))).symm)
    isplitl [Hz]; · iexact Hz
    iexact Hv
  icases Hx with ⟨Hx, Hx'⟩
  isplitl [Hx]; · iexact Hx
  isplitl [Hx']; · iexact Hx'
  isplitl [HA]
  · iapply (acc_back J c); iexact HA
  isplitl [Hs]
  · iapply (sb_back J c); iexact Hs
  isplitl [Hf Ht]
  · iapply (st_back J c)
    isplitl [Hf] <;> iassumption
  iapply (os_back J c); iexact Ho

end Cert.Ring
-- ==== Proof.Run.lean ====
/-
# The run

The pipeline around the body: one point, every operand copied into its buffer before it and the result out after it.
Its data, the body's obligation, the launch's side conditions, and the run: every device ends with the result `outV`
computes from all devices' operands, the operands as they were and every semaphore at zero.
-/
module

public import proofs.«01_k».proof.Proof.Body
public import proofs.«01_k».proof.Proof.Entry
public import proofs.«01_k».proof.Proof.Gen.KernelIdeal.Frame
public import Idealize.ShloMosaic.Lib.Pipeline.CollectiveSegs

@[expose] public section

noncomputable section

namespace Cert.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The operands of a device as the kernel is launched. -/
def opsOf (c : Dev nD) : Ins F := ⟨iblk m c 0 t0_0, iblk m c 1 t0_0, iblk m c 2 t0_0, iblk m c 3 t0_0, iblk m c 4 t0_0⟩

def start (c : Dev nD) : sProp 𝕄 := iprop((∃ K, recs (opsOf m) K ∗ linear c) ∗ credits c)
def before (c : Dev nD) : sProp 𝕄 := iprop(start m c ∗ Pipeline.scopedRest cfg0.spec c)
def after (c : Dev nD) : sProp 𝕄 := iprop(unscopedSems0 c ∗ Pipeline.ownSems0 osem c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (opsOf m c).x
    | ⟨1, _⟩ => (opsOf m c).wq
    | ⟨2, _⟩ => (opsOf m c).k
    | ⟨3, _⟩ => (opsOf m c).v
    | ⟨4, _⟩ => (opsOf m c).wo
    | ⟨5, _⟩ => outV (opsOf m c) (opsOf m)
  Φ t := match t with
    | ⟨0, _⟩ => before m c
    | ⟨_ + 1, _⟩ => after c
  q _ := fullShare
  owed t := match t with
    | ⟨0, _⟩ => O₀ c
    | ⟨_ + 1, _⟩ => 0

/-! ## The body's obligation -/

theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (bufL c b), ⌜f = X⌝ ∗ (bufL c b ↦{fullShare} f)) := by
  unfold owns; simp only [Memref.view_whole, View.read_whole, View.set_whole]

theorem pt_eq (t : Fin cfg0.N) : t = t0_0 := fin_N0 t

theorem fetched0 (c : Dev nD) (d) : (dats m ρ 0 c).before (0 : Fin 6) t0_0 d = (opsOf m c).x :=
  ((dats m ρ 0 c).before_in_eq_fetched (0 : Fin 6) rfl (fun _ => rfl) (fun _ _ _ => rfl) (fun t => by rw [pt_eq t]; rfl) t0_0 d).trans rfl
theorem fetched1 (c : Dev nD) (d) : (dats m ρ 0 c).before (1 : Fin 6) t0_0 d = (opsOf m c).wq :=
  ((dats m ρ 0 c).before_in_eq_fetched (1 : Fin 6) rfl (fun _ => rfl) (fun _ _ _ => rfl) (fun t => by rw [pt_eq t]; rfl) t0_0 d).trans rfl
theorem fetched2 (c : Dev nD) (d) : (dats m ρ 0 c).before (2 : Fin 6) t0_0 d = (opsOf m c).k :=
  ((dats m ρ 0 c).before_in_eq_fetched (2 : Fin 6) rfl (fun _ => rfl) (fun _ _ _ => rfl) (fun t => by rw [pt_eq t]; rfl) t0_0 d).trans rfl
theorem fetched3 (c : Dev nD) (d) : (dats m ρ 0 c).before (3 : Fin 6) t0_0 d = (opsOf m c).v :=
  ((dats m ρ 0 c).before_in_eq_fetched (3 : Fin 6) rfl (fun _ => rfl) (fun _ _ _ => rfl) (fun t => by rw [pt_eq t]; rfl) t0_0 d).trans rfl
theorem fetched4 (c : Dev nD) (d) : (dats m ρ 0 c).before (4 : Fin 6) t0_0 d = (opsOf m c).wo :=
  ((dats m ρ 0 c).before_in_eq_fetched (4 : Fin 6) rfl (fun _ => rfl) (fun _ _ _ => rfl) (fun t => by rw [pt_eq t]; rfl) t0_0 d).trans rfl

/-- A buffer with given contents, and with any. -/
abbrev held (c : Dev nD) (b : Ref sig .tc) (X : b.ty.Contents (Elt F)) : sProp 𝕄 := iprop(∃ f : Buf (Elt F) (bufL c b), ⌜f = X⌝ ∗ (bufL c b ↦{fullShare} f))

theorem held_intro (c : Dev nD) (b : Ref sig .tc) (X : b.ty.Contents (Elt F)) : (opPts c b X : sProp (MM F)) ⊢ held c b X := by
  unfold opPts
  iintro H
  iexists _
  isplitr; · ipureintro; rfl
  iexact H

theorem held_elim (c : Dev nD) (b : Ref sig .tc) {ι : Type} {Y : ι → b.ty.Contents (Elt F)} {X : b.ty.Contents (Elt F)} (h : ∀ d, Y d = X) :
    iprop(∃ d, held c b (Y d)) ⊢ (opPts c b X : sProp (MM F)) := by
  unfold opPts
  iintro ⟨%d, %f, %hf, H⟩
  have e : f = X := hf.trans (h d)
  subst e
  iexact H

/-- The kernel's body on a device. -/
abbrev prog : Prog (TpuEff nD τ sig (Elt F) Λ₀ .tc) PUnit :=
  cc0_body (F := F) xM (Memref.isWhole_whole _) wqM (Memref.isWhole_whole _) kM (Memref.isWhole_whole _) vM (Memref.isWhole_whole _) woM (Memref.isWhole_whole _) outM (Memref.isWhole_whole _) accM (Memref.isWhole_whole _) sbM (Memref.isWhole_whole _) stM (Memref.isWhole_whole _) osM (Memref.isWhole_whole _) cc0_scratch4 cc0_scratch5 cc0_scratch6 cc0_scratch7

def bodyPre (c : Dev nD) : sProp 𝕄 :=
  iprop(before m c ∗ (dats m ρ 0 c).owesAt () t0_0.castSucc
    ∗ (∃ d, held c cc0_stg0_0 ((dats m ρ 0 c).before (0 : Fin 6) t0_0 d)) ∗ (∃ d, held c cc0_stg1_0 ((dats m ρ 0 c).before (1 : Fin 6) t0_0 d))
    ∗ (∃ d, held c cc0_stg2_0 ((dats m ρ 0 c).before (2 : Fin 6) t0_0 d)) ∗ (∃ d, held c cc0_stg3_0 ((dats m ρ 0 c).before (3 : Fin 6) t0_0 d))
    ∗ (∃ d, held c cc0_stg4_0 ((dats m ρ 0 c).before (4 : Fin 6) t0_0 d)) ∗ (∃ d, held c cc0_stg5_0 ((dats m ρ 0 c).before (5 : Fin 6) t0_0 d)))

def bodyPost (c : Dev nD) : sProp 𝕄 :=
  iprop(after c ∗ (dats m ρ 0 c).owesAt () t0_0.succ
    ∗ held c cc0_stg0_0 (opsOf m c).x ∗ held c cc0_stg1_0 (opsOf m c).wq ∗ held c cc0_stg2_0 (opsOf m c).k ∗ held c cc0_stg3_0 (opsOf m c).v
    ∗ held c cc0_stg4_0 (opsOf m c).wo ∗ held c cc0_stg5_0 (outV (opsOf m c) (opsOf m)))

theorem owe_out (c : Dev nD) : (dats m ρ 0 c).owesAt () t0_0.castSucc ⊢ (owesE c (O₀ c) : sProp (MM F)) := by
  unfold Dat.owesAt Pipeline.owesWithin owesE
  iintro ⟨%Ws, -, H⟩
  iexists Ws
  iexact H
theorem owe_in (c : Dev nD) : (owesE c 0 : sProp (MM F)) ⊢ (dats m ρ 0 c).owesAt () t0_0.succ := by
  unfold Dat.owesAt Pipeline.owesWithin owesE
  iintro ⟨%Ws, H⟩
  iexists Ws
  isplitr; · ipureintro; exact fun _ _ => Or.inl trivial
  iexact H

theorem acc_start (c : Dev nD) (f : Buf (Elt F) (accL c)) : (accL c ↦{fullShare} f : sProp (MM F)) ⊢ AccSt (opsOf m) c 0 0 := by
  unfold AccSt
  iintro H
  iexists f
  isplitr
  · ipureintro
    intro i hi
    omega
  iexact H
theorem out_start (c : Dev nD) : iprop(∃ d, held c cc0_stg5_0 ((dats m ρ 0 c).before (5 : Fin 6) t0_0 d)) ⊢ OutSt (opsOf m) c 0 := by
  unfold OutSt
  iintro ⟨%d, %f, -, H⟩
  iexists f
  isplitr
  · ipureintro
    intro i hi
    omega
  iexact H

theorem end_ok (K : Dev nD × Fin 513 → ℕ) (c : Dev nD) : Mac (opsOf m) K c T8 4 4 (St3 (opsOf m) c 3) iprop(St3 (opsOf m) c 1 ∗ St3 (opsOf m) c 2 ∗ St3 (opsOf m) c 0 ∗ Rest c) ⊢ bodyPost m ρ c := by
  refine (at_end (opsOf m) K c).trans ?_
  unfold bodyPost after InSt scratch
  rw [scopedRest0_eq]
  iintro ⟨HO, ⟨H0, H1, H2, H3, H4⟩, HU, Hs, Hs', Hm⟩
  isplitl [Hs Hs' Hm]
  · isplitl [Hs]; · iexact Hs
    isplitl [Hs']; · iexact Hs'
    iexact Hm
  isplitl [HO]
  · iapply (owe_in m ρ c); iexact HO
  isplitl [H0]
  · iapply (held_intro c cc0_stg0_0); iexact H0
  isplitl [H1]
  · iapply (held_intro c cc0_stg1_0); iexact H1
  isplitl [H2]
  · iapply (held_intro c cc0_stg2_0); iexact H2
  isplitl [H3]
  · iapply (held_intro c cc0_stg3_0); iexact H3
  isplitl [H4]
  · iapply (held_intro c cc0_stg4_0); iexact H4
  iexists _
  isplitr; · ipureintro; rfl
  iexact HU

theorem body_ok (c : Dev nD) : bodyPre m ρ c ⊢ W c prog (fun _ => bodyPost m ρ c) := by
  unfold bodyPre before start
  rw [scopedRest0_eq]
  iintro ⟨⟨⟨⟨%K, #Hr, Hl⟩, Hc⟩, ⟨%fa, Ha⟩, ⟨%fb, Hb⟩, ⟨%ft, Ht⟩, ⟨%fo, Ho⟩⟩, HO, H0, H1, H2, H3, H4, H5⟩
  ihave HO := (owe_out m ρ c) $$ HO
  ihave H0 := (held_elim c cc0_stg0_0 (fetched0 m ρ c)) $$ H0
  ihave H1 := (held_elim c cc0_stg1_0 (fetched1 m ρ c)) $$ H1
  ihave H2 := (held_elim c cc0_stg2_0 (fetched2 m ρ c)) $$ H2
  ihave H3 := (held_elim c cc0_stg3_0 (fetched3 m ρ c)) $$ H3
  ihave H4 := (held_elim c cc0_stg4_0 (fetched4 m ρ c)) $$ H4
  ihave H5 := (out_start m ρ c) $$ H5
  ihave Ha := (acc_start m c fa) $$ Ha
  imod (enter (opsOf m) K c fb ft fo) $$ [HO Hl Hc Hb Ht Ho H0 H1 H2 H3 H4 H5 Ha] with H
  · isplitr; · iexact Hr
    isplitl [HO]; · iexact HO
    isplitl [Hl]; · iexact Hl
    isplitl [Hc]; · iexact Hc
    isplitl [H0 H1 H2 H3 H4 H5 Ha]
    · isplitl [H0 H1 H2 H3 H4]
      · unfold InSt
        isplitl [H0]; · iexact H0
        isplitl [H1]; · iexact H1
        isplitl [H2]; · iexact H2
        isplitl [H3]; · iexact H3
        iexact H4
      isplitl [Ha]; · iexact Ha
      iexact H5
    isplitl [Hb]; · iexact Hb
    isplitl [Ht]; · iexact Ht
    iexact Ho
  iapply (body_run (opsOf m) K c (Q := fun _ => bodyPost m ρ c) (R := Kept (opsOf m) c) (Rest c) (by rw [← OX_T0]; exact at_start (opsOf m) K c) (end_ok m ρ K c))
  iexact H

set_option maxRecDepth 100000 in
theorem body_obligation (c : Dev nD) : BodyObligation (dats (F := F) m ρ 0 c) (defs₀ (F := F)) 𝒱₀ () Set.univ := fun t => by
  rw [pt_eq t]
  rw [bigSep_W0, bigSep_W0]
  simp only [owns_buf]
  exact body_ok m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (opsOf m) c)
      ⊢ |={Set.univ}=> iprop(start m c ∗ emp) := by
  unfold G' books
  iintro ⟨-, Hlev, Hcr, -, ⟨%K, ⟨Hi, Hm⟩, Hl⟩⟩
  ihave Hc := (credits_intro (F := F) c) $$ Hcr
  imodintro
  unfold start recs
  isplitl
  · isplitl [Hi Hm Hl Hlev]
    · iexists K
      isplitl [Hi Hm Hlev]
      · isplitl [Hi]; · iexact Hi
        isplitl [Hm]; · iexact Hm
        iexact Hlev
      iexact Hl
    iexact Hc
  iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl]
  unfold before
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after c from rfl]
  exact Entails.of_eq rfl

theorem waits (c : Dev nD) : (levAts L lv : sProp 𝕄) ⊢ Pipeline.cellsWaits cfgs (dats m ρ) () 0 c :=
  Pipeline.cellsWaits_intro cfgs (dats m ρ) () 0 c fun w s t =>
    mayWait c _ 0 (by fin_cases w <;> fin_cases s <;> decide) (by
      rcases t with ⟨_ | _, ht⟩
      · exact above_add (above_OB c 1) (above_OX c (Nat.zero_le 1))
      · exact above_zero 0)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- Every run ends, every device's arrays at their final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (opsOf m)) (G' := G' (opsOf m)) (u₀ := u₀)
    (hu₀ := by
      unfold u₀
      iintro Hu
      ihave H := (ownU_pair _ _) $$ Hu
      icases H with ⟨HP, HX⟩
      imod (fund_all (opsOf m)) $$ HX with HG
      imodintro
      isplitl [HP] <;> iassumption)
    (hglob := glob (opsOf m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final0 (c : Dev nD) : finalA m ρ c (0 : Fin 6) = m ((c : Thread nD τ).loc main_arg0) := (dats (F := F) m ρ 0 c).arrAt_in (0 : Fin 6) rfl _
theorem final1 (c : Dev nD) : finalA m ρ c (1 : Fin 6) = m ((c : Thread nD τ).loc main_arg1) := (dats (F := F) m ρ 0 c).arrAt_in (1 : Fin 6) rfl _
theorem final2 (c : Dev nD) : finalA m ρ c (2 : Fin 6) = m ((c : Thread nD τ).loc main_arg2) := (dats (F := F) m ρ 0 c).arrAt_in (2 : Fin 6) rfl _
theorem final3 (c : Dev nD) : finalA m ρ c (3 : Fin 6) = m ((c : Thread nD τ).loc main_arg3) := (dats (F := F) m ρ 0 c).arrAt_in (3 : Fin 6) rfl _
theorem final4 (c : Dev nD) : finalA m ρ c (4 : Fin 6) = m ((c : Thread nD τ).loc main_arg4) := (dats (F := F) m ρ 0 c).arrAt_in (4 : Fin 6) rfl _

/-- The operands end as they were, the result array holding the last point's block. -/
theorem run_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c (0 : Fin 6)).trans (final0 m ρ c), (h.1 c (1 : Fin 6)).trans (final1 m ρ c), (h.1 c (2 : Fin 6)).trans (final2 m ρ c),
    (h.1 c (3 : Fin 6)).trans (final3 m ρ c), (h.1 c (4 : Fin 6)).trans (final4 m ρ c)⟩, h.2⟩) (run_main m ρ)

end Cert.Ring
-- ==== Proof.Spec.lean ====
/-
# The attention that both programs compute

The arrays of the problem (`Data`: those the scores come from real, the others extended real) and the result
`attn` as a formula. A query row `i` attends to the keys whose block of 64 has the number of the row's block
modulo 4; those are the keys `key c (grp i) kk`, over the 32 devices `c` and the 128 keys `kk` that each device holds of a group.
-/
module

public import Idealize.ShloMosaic.Lib.Pointwise

@[expose] public section

noncomputable section

namespace Cert.Attn

open Idealize.ShloMosaic

structure Data where
  x : Fin 2 → Fin 512 → Fin 768 → ℝ
  wq : Fin 768 → Fin 512 → ℝ
  k : Fin 2 → Fin 16384 → Fin 8 → Fin 64 → ℝ
  v : Fin 2 → Fin 16384 → Fin 8 → Fin 64 → EReal
  wo : Fin 512 → Fin 768 → EReal

/-- Column `d` of head `h` in a row of all heads. -/
def col (h : Fin 8) (d : Fin 64) : Fin 512 := ⟨64 * h.val + d.val, by omega⟩
/-- The group of a query row: its block's number modulo 4. -/
def grp (i : Fin 512) : Fin 4 := ⟨i.val / 64 % 4, Nat.mod_lt _ (by decide)⟩
/-- The `kk`-th key of group `g` that device `c` holds. -/
def key (c : Fin 32) (g : Fin 4) (kk : Fin 128) : Fin 16384 :=
  ⟨512 * c.val + (256 * (kk.val / 64) + 64 * g.val + kk.val % 64), by omega⟩

variable (D : Data)

def query (b : Fin 2) (i e : Fin 512) : ℝ := ∑ d : Fin 768, D.x b i d * D.wq d e
def score (b : Fin 2) (h : Fin 8) (i : Fin 512) (j : Fin 16384) : ℝ :=
  (∑ d : Fin 64, query D b i (col h d) * D.k b j h d) * (1 / 8)
def weight (b : Fin 2) (h : Fin 8) (i : Fin 512) (j : Fin 16384) : ℝ := Real.exp (score D b h i j)

/-- One device's part of a row's sum of weights. -/
def denP (c : Fin 32) (b : Fin 2) (h : Fin 8) (i : Fin 512) : ℝ := ∑ kk : Fin 128, weight D b h i (key c (grp i) kk)
/-- One device's part of a row's weighted sum of values. -/
def numP (c : Fin 32) (b : Fin 2) (h : Fin 8) (i : Fin 512) (d : Fin 64) : EReal :=
  ∑ kk : Fin 128, (weight D b h i (key c (grp i) kk) : EReal) * D.v b (key c (grp i) kk) h d

def den (b : Fin 2) (h : Fin 8) (i : Fin 512) : ℝ := ∑ c : Fin 32, denP D c b h i
def num (b : Fin 2) (h : Fin 8) (i : Fin 512) (d : Fin 64) : EReal := ∑ c : Fin 32, numP D c b h i d

/-- The attended values of a row, all heads side by side. -/
def ctx (b : Fin 2) (i e : Fin 512) : EReal :=
  Ideal.div (num D b ⟨e.val / 64, by omega⟩ i ⟨e.val % 64, Nat.mod_lt _ (by decide)⟩) (den D b ⟨e.val / 64, by omega⟩ i : EReal)
/-- The result. -/
def attn (b : Fin 2) (i : Fin 512) (f : Fin 768) : EReal := ∑ e : Fin 512, ctx D b i e * D.wo e f

/-- The scores' factor, 1/8, as both programs write it. -/
theorem eighth : Ideal.ofBits .f32 0x3E000000#32 = ((1 / 8 : ℝ) : EReal) := by
  simp [Ideal.ofBits, Ideal.ieee, -EReal.coe_mul]; norm_num

theorem den_pos (b : Fin 2) (h : Fin 8) (i : Fin 512) : 0 < den D b h i :=
  Finset.sum_pos (fun _ _ => Finset.sum_pos (fun _ _ => Real.exp_pos _) ⟨0, Finset.mem_univ _⟩) ⟨0, Finset.mem_univ _⟩

/-- A finite sum of reals is the same sum over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor moves out of a finite sum of extended reals. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The keys that a row attends to, summed over all keys under the mask or device by device. -/
theorem sum_keys {M : Type} [AddCommMonoid M] (g : Fin 4) (f : Fin 16384 → M) :
    (∑ j : Fin 16384, if j.val / 64 % 4 = g.val then f j else 0) = ∑ c : Fin 32, ∑ kk : Fin 128, f (key c g kk) := by
  rw [← Finset.sum_filter, ← Fintype.sum_prod_type' (f := fun c kk => f (key c g kk))]
  symm
  refine Finset.sum_bij' (fun q _ => key q.1 g q.2)
    (fun j _ => (⟨j.val / 512, by omega⟩, ⟨64 * (j.val % 512 / 256) + j.val % 64, by omega⟩)) ?_ ?_ ?_ ?_ ?_
  · rintro ⟨c, kk⟩ -
    simp only [Finset.mem_filter, Finset.mem_univ, true_and, key]; omega
  · intro j _; exact Finset.mem_univ _
  · rintro ⟨c, kk⟩ -
    refine Prod.ext (Fin.ext ?_) (Fin.ext ?_) <;> simp only [key] <;> omega
  · intro j hj
    simp only [Finset.mem_filter, Finset.mem_univ, true_and] at hj
    refine Fin.ext ?_; simp only [key]; omega
  · rintro ⟨c, kk⟩ -; rfl

end Cert.Attn
-- ==== Proof.KReads.lean ====
/-
# The kernel's steps read at one index, over the extended reals

Each step of Vals.lean at an index of its result: loads, regrouping, weights, sums, joined columns, products.
-/
module

public import proofs.«01_k».proof.Proof.Vals
public import proofs.«01_k».proof.Proof.Spec
public import Idealize.ShloMosaic.Lib.Pointwise

@[expose] public section

noncomputable section

namespace Cert.Ring

open Cert.KernelIdeal Cert.KernelIdeal.Gen
open Idealize.ShloMosaic

variable (I : Ins Ideal) (J : Dev nD → Ins Ideal)

theorem ldX_at (p : ℕ) (hp : p < 4) (z : Fin 1) (r : Fin 256) (d : Fin 768) :
    ldX I p hp (ix3 z r d) = I.x (ix3 ⟨p / 2, by omega⟩ ⟨256 * (p % 2) + r.val, by omega⟩ d) := by
  show I.x ((rX p hp).toLoadRect.idx (ix3 z r d)) = _
  pointwise

theorem ldWq_at (d : Fin 768) (e : Fin 512) : ldWq I (ix2 d e) = I.wq (ix2 d e) := by
  show I.wq (rWq.toLoadRect.idx (ix2 d e)) = _
  pointwise

theorem ldWo_at (e : Fin 512) (f : Fin 768) : ldWo I (ix2 e f) = I.wo (ix2 e f) := by
  show I.wo (rWo.toLoadRect.idx (ix2 e f)) = _
  pointwise

theorem ldK_at (b h : ℕ) (hb : b < 2) (hh : h < 8) (y : Fin 1) (j : Fin 512) (z : Fin 1) (d : Fin 64) :
    ldK I b h hb hh (ix4 y j z d) = I.k (ix4 ⟨b, hb⟩ j ⟨h, hh⟩ d) := by
  show I.k ((rKV b h hb hh).toLoadRect.idx (ix4 y j z d)) = _
  pointwise

theorem ldV_at (b h : ℕ) (hb : b < 2) (hh : h < 8) (y : Fin 1) (j : Fin 512) (z : Fin 1) (d : Fin 64) :
    ldV I b h hb hh (ix4 y j z d) = I.v (ix4 ⟨b, hb⟩ j ⟨h, hh⟩ d) := by
  show I.v ((rKV b h hb hh).toLoadRect.idx (ix4 y j z d)) = _
  pointwise

theorem ldRow_at (p : ℕ) (hp : p < 4) (c : Dev nD) (r : Fin 8) (q : Fin 520) (n : Fin 1024) (hn : n.val = 256 * p + 8 * c.val + r.val) :
    ldRow J p hp c (ix2 r q) = accV (J c) (ix2 n q) := by
  obtain ⟨n, hn'⟩ := n
  obtain rfl : n = 256 * p + 8 * c.val + r.val := hn
  show accV (J c) ((rRow p hp c).toLoadRect.idx (ix2 r q)) = _
  pointwise

theorem ldStage_at (p : ℕ) (hp : p < 4) (c : Dev nD) (z : Fin 1) (o : Fin 31) (r : Fin 8) (q : Fin 520) (n : Fin 1024) (hn : n.val = 256 * p + 8 * c.val + r.val) :
    ldStage J p hp c (ix4 z o r q) = accV (J (back c (o.val + 1))) (ix2 n q) := by
  have hs : ldStage J p hp c (ix4 z o r q) = stV J c (ix4 ⟨p, hp⟩ ⟨1 + o.val, by omega⟩ r q) := by
    show stV J c ((rStage p hp).toLoadRect.idx (ix4 z o r q)) = _
    pointwise
  rw [hs, Nat.add_comm o.val 1]
  obtain ⟨n, hn'⟩ := n
  obtain rfl : n = 256 * p + 8 * c.val + r.val := hn
  pointwise [stV, sbV]
  rw [← ix2_eq_valueIdx]

theorem ldO_at (p : ℕ) (hp : p < 4) (z : Fin 1) (r : Fin 256) (e : Fin 512) :
    ldO J p hp (ix3 z r e) = osV J (ix3 ⟨p / 2, by omega⟩ ⟨256 * (p % 2) + r.val, by omega⟩ e) := by
  show osV J ((rO p hp).toLoadRect.idx (ix3 z r e)) = _
  pointwise

theorem pay3_at (x : Vec Ideal S1x256x768 .f32) (w : Vec Ideal S768x512 .f32) (r : Fin 256) (e : Fin 512) :
    k0_pay3 x w (ix2 r e) = ∑ d : Fin 768, x (ix3 0 r d) * w (ix2 d e) := by
  pointwise [k0_pay3]

theorem qGrp_at (q : FVec Ideal S256x512 .f32) (h : ℕ) (hh : h < 8) (g : Fin 4) (u : Fin 64) (d : Fin 64) :
    qGrp q h hh (ix3 g u d) = q (ix2 ⟨g.val * 64 + u.val, by omega⟩ ⟨64 * h + d.val, by omega⟩) := by
  pointwise [qGrp]

theorem regroup_at (w : Vec Ideal S1x512x1x64 .f32) (g : Fin 4) (kk : Fin 128) (d : Fin 64) :
    regroup w (ix3 g kk d) = w (ix4 0 ⟨kk.val / 64 * 256 + g.val * 64 + kk.val % 64, by omega⟩ 0 d) := by
  pointwise [regroup]

theorem expW_at (q : FVec Ideal S256x512 .f32) (k : Vec Ideal S1x512x1x64 .f32) (h : ℕ) (hh : h < 8) (g : Fin 4) (u : Fin 64) (kk : Fin 128) :
    expW q k h hh (ix3 g u kk) = Ideal.exp ((∑ d : Fin 64, qGrp q h hh (ix3 g u d) * regroup k (ix3 g kk d)) * ((1 / 8 : ℝ) : EReal)) := by
  rw [← Attn.eighth]
  pointwise [expW]

theorem denom_at (w : FVec Ideal S4x64x128 .f32) (r : Fin 256) (z : Fin 1) :
    denom w (ix2 r z) = ∑ kk : Fin 128, w (ix3 ⟨r.val / 64, by omega⟩ ⟨r.val % 64, by omega⟩ kk) := by
  pointwise [denom]

theorem numer_at (w : FVec Ideal S4x64x128 .f32) (v : Vec Ideal S1x512x1x64 .f32) (r : Fin 256) (d : Fin 64) :
    numer w v (ix2 r d) = ∑ kk : Fin 128, w (ix3 ⟨r.val / 64, by omega⟩ ⟨r.val % 64, by omega⟩ kk) * regroup v (ix3 ⟨r.val / 64, by omega⟩ kk d) := by
  pointwise [numer]

theorem lV_at {p h h' : ℕ} {hp : p < 4} {hh : h < 8} {hh' : h' < 8} (e : h = h') {j j' : S256x1.Idx} (ej : j = j') :
    lV I p h hp hh j = lV I p h' hp hh' j' := by subst e ej; rfl

theorem ctxH_congr (w : FVec Ideal S8x520 .f32) {h h' : ℕ} {hh : h < 8} {hh' : h' < 8} (e : h = h') {j j' : S8x64.Idx} (ej : j = j') :
    ctxH w h hh j = ctxH w h' hh' j' := by subst e ej; rfl

/-- Column `h` of the joined sums is head `h`'s. -/
theorem lAllV_col (p : ℕ) (hp : p < 4) (r : Fin 256) (h : Fin 8) :
    lAllV I p hp (ix2 r h) = lV I p h.val hp h.isLt (ix2 r 0) := by
  pointwise [lAllV]
  split_ifs <;> exact lV_at I (by omega) (congrArg (ix2 r) (Fin.ext (by dsimp only; omega)))

/-- Column `64 h + d` of the normalised rows is column `d` of head `h`. -/
theorem finV_at (w : FVec Ideal S8x520 .f32) (z : Fin 1) (r : Fin 8) (h : Fin 8) (d : Fin 64) :
    finV w (ix3 z r ⟨64 * h.val + d.val, by omega⟩) = ctxH w h.val h.isLt (ix2 r d) := by
  pointwise [finV]
  split_ifs <;> exact ctxH_congr w (by omega) (congrArg (ix2 r) (Fin.ext (by dsimp only; omega)))

theorem ctxH_at (w : FVec Ideal S8x520 .f32) (h : ℕ) (hh : h < 8) (r : Fin 8) (d : Fin 64) :
    ctxH w h hh (ix2 r d) = Ideal.div (w (ix2 r ⟨64 * h + d.val, by omega⟩)) (w (ix2 r ⟨512 + h, by omega⟩)) := by
  pointwise [ctxH]

theorem pay80_at (w : Vec Ideal S8x520 .f32) (s : Vec Ideal S1x31x8x520 .bf16) (r : Fin 8) (q : Fin 520) :
    k0_pay80 w s (ix2 r q) = w (ix2 r q) + ∑ o : Fin 31, s (ix4 0 o r q) := by
  pointwise [k0_pay80]

theorem pay1_at (w : Vec Ideal S512x768 .f32) (s : Vec Ideal S1x256x512 .bf16) (z : Fin 1) (r : Fin 256) (f : Fin 768) :
    k0_pay1 (k0_pay2 w) s (ix3 z r f) = ∑ e : Fin 512, s (ix3 0 r e) * w (ix2 e f) := by
  pointwise [k0_pay1, k0_pay2]

theorem accV_num (p : ℕ) (hp : p < 4) (r : Fin 256) (h : Fin 8) (d : Fin 64) (n : Fin 1024) (hn : n.val = 256 * p + r.val)
    (q : Fin 520) (hq : q.val = 64 * h.val + d.val) : accV I (ix2 n q) = ogV I p h.val hp h.isLt (ix2 r d) := by
  obtain ⟨n, hn'⟩ := n
  obtain ⟨q, hq'⟩ := q
  obtain rfl : n = 256 * p + r.val := hn
  obtain rfl : q = 64 * h.val + d.val := hq
  have e1 : (256 * p + r.val) / 256 = p := by omega
  have e2 : (256 * p + r.val) % 256 = r.val := by omega
  have e3 : (64 * h.val + d.val) / 64 = h.val := by omega
  have e4 : (64 * h.val + d.val) % 64 = d.val := by omega
  have hl : 64 * h.val + d.val < 512 := by omega
  pointwise [accV]
  simp only [hl, dite_true, e1, e2, e3, e4, ← ix2_eq_valueIdx]

theorem accV_den (p : ℕ) (hp : p < 4) (r : Fin 256) (h : Fin 8) (n : Fin 1024) (hn : n.val = 256 * p + r.val)
    (q : Fin 520) (hq : q.val = 512 + h.val) : accV I (ix2 n q) = lV I p h.val hp h.isLt (ix2 r 0) := by
  obtain ⟨n, hn'⟩ := n
  obtain ⟨q, hq'⟩ := q
  obtain rfl : n = 256 * p + r.val := hn
  obtain rfl : q = 512 + h.val := hq
  rw [← lAllV_col]
  have e1 : (256 * p + r.val) / 256 = p := by omega
  have e2 : (256 * p + r.val) % 256 = r.val := by omega
  have e3 : 512 + h.val - 512 = h.val := by omega
  have hl : ¬ 512 + h.val < 512 := by omega
  pointwise [accV]
  simp only [hl, dite_false, e1, e2, e3, ← ix2_eq_valueIdx]

end Cert.Ring
-- ==== Proof.KVal.lean ====
/-
# The kernel computes the attention

Where the devices hold the arrays of a `Data`, each its own keys and values, the kernel's result is `attn`.
-/
module

public import proofs.«01_k».proof.Proof.KReads
public import proofs.«01_k».proof.Proof.Spec

@[expose] public section

noncomputable section

namespace Cert.Ring

open Cert.KernelIdeal Cert.KernelIdeal.Gen Cert.Attn
open Idealize.ShloMosaic

/-- The devices hold the arrays of `D`: all of the queries' and the weights', each its block of keys and values. -/
structure Holds (J : Dev nD → Ins Ideal) (D : Data) : Prop where
  x : ∀ (c : Dev nD) (b : Fin 2) (i : Fin 512) (d : Fin 768), (J c).x (ix3 b i d) = (D.x b i d : EReal)
  wq : ∀ (c : Dev nD) (d : Fin 768) (e : Fin 512), (J c).wq (ix2 d e) = (D.wq d e : EReal)
  k : ∀ (c : Dev nD) (b : Fin 2) (j : Fin 512) (h : Fin 8) (d : Fin 64) (n : Fin 16384), n.val = 512 * c.val + j.val → (J c).k (ix4 b j h d) = (D.k b n h d : EReal)
  v : ∀ (c : Dev nD) (b : Fin 2) (j : Fin 512) (h : Fin 8) (d : Fin 64) (n : Fin 16384), n.val = 512 * c.val + j.val → (J c).v (ix4 b j h d) = D.v b n h d
  wo : ∀ (c : Dev nD) (e : Fin 512) (f : Fin 768), (J c).wo (ix2 e f) = D.wo e f

variable {J : Dev nD → Ins Ideal} {D : Data} (H : Holds J D)

include H

theorem qV_val (c : Dev nD) (p : ℕ) (hp : p < 4) (r : Fin 256) (e : Fin 512) (b : Fin 2) (i : Fin 512) (hb : b.val = p / 2) (hi : i.val = 256 * (p % 2) + r.val) :
    qV (J c) p hp (ix2 r e) = (query D b i e : EReal) := by
  obtain ⟨b, hb'⟩ := b; obtain rfl : b = p / 2 := hb
  obtain ⟨i, hi'⟩ := i; obtain rfl : i = 256 * (p % 2) + r.val := hi
  rw [qV, pay3_at, query, coe_sum]
  refine Finset.sum_congr rfl fun d _ => ?_
  rw [ldX_at, ldWq_at, H.x, H.wq, EReal.coe_mul]

/-- The weight of a row and one of its device's keys. -/
theorem wV_val (c : Dev nD) (p : ℕ) (hp : p < 4) (h : Fin 8) (g : Fin 4) (u : Fin 64) (kk : Fin 128) (b : Fin 2) (i : Fin 512)
    (hb : b.val = p / 2) (hi : i.val = 256 * (p % 2) + (64 * g.val + u.val)) :
    wV (J c) p h.val hp h.isLt (ix3 g u kk) = (weight D b h i (key c (grp i) kk) : EReal) := by
  rw [wV, expW_at, weight, ← Ideal.exp_coe, score, EReal.coe_mul, coe_sum]
  refine congrArg (fun z : EReal => Ideal.exp (z * ((1 / 8 : ℝ) : EReal))) (Finset.sum_congr rfl fun d _ => ?_)
  rw [qGrp_at, regroup_at, ldK_at, EReal.coe_mul, qV_val H c p hp _ _ b i hb (by dsimp only; omega)]
  obtain ⟨b, hb'⟩ := b; obtain rfl : b = p / 2 := hb
  rw [H.k c _ _ _ _ (key c (grp i) kk) (by dsimp only [key, grp]; omega)]
  rfl

theorem lV_val (c : Dev nD) (p : ℕ) (hp : p < 4) (h : Fin 8) (r : Fin 256) (z : Fin 1) (b : Fin 2) (i : Fin 512)
    (hb : b.val = p / 2) (hi : i.val = 256 * (p % 2) + r.val) : lV (J c) p h.val hp h.isLt (ix2 r z) = (denP D c b h i : EReal) := by
  rw [lV, denom_at, denP, coe_sum]
  exact Finset.sum_congr rfl fun kk _ => wV_val H c p hp h _ _ kk b i hb (by dsimp only; omega)

theorem ogV_val (c : Dev nD) (p : ℕ) (hp : p < 4) (h : Fin 8) (r : Fin 256) (d : Fin 64) (b : Fin 2) (i : Fin 512)
    (hb : b.val = p / 2) (hi : i.val = 256 * (p % 2) + r.val) : ogV (J c) p h.val hp h.isLt (ix2 r d) = numP D c b h i d := by
  rw [ogV, numer_at, numP]
  refine Finset.sum_congr rfl fun kk _ => ?_
  rw [wV_val H c p hp h _ _ kk b i hb (by dsimp only; omega), regroup_at, ldV_at]
  obtain ⟨b, hb'⟩ := b; obtain rfl : b = p / 2 := hb
  rw [H.v c _ _ _ _ (key c (grp i) kk) (by dsimp only [key, grp]; omega)]

omit H in
/-- The device itself and the thirty-one before it are all the devices. -/
theorem sum_devices (c : Dev nD) (f : Dev nD → EReal) : f c + ∑ o : Fin 31, f (back c (o.val + 1)) = ∑ t : Dev nD, f t := by
  have hc : c.val < 32 := c.isLt
  have e : ∑ t : Dev nD, f t = ∑ o : Fin 32, f (back c o.val) := by
    refine (Finset.sum_bij (fun (o : Fin 32) _ => back c o.val) (fun _ _ => Finset.mem_univ _) ?_ ?_ fun _ _ => rfl).symm
    · intro a _ b _ h
      have h := congrArg Fin.val h
      rw [back_val, back_val] at h
      exact Fin.ext (by omega)
    · intro t _
      have ht : t.val < 32 := t.isLt
      refine ⟨⟨(c.val + (32 - t.val)) % 32, Nat.mod_lt _ (by decide)⟩, Finset.mem_univ _, Fin.ext ?_⟩
      rw [back_val]; dsimp only; omega
  rw [e, Fin.sum_univ_succ]
  refine congrArg₂ (· + ·) (congrArg f (Fin.ext ?_)) rfl
  rw [back_val]; simp only [Fin.val_zero]; omega

omit H in
/-- The rows that a device has summed: every device's part. -/
theorem red_val (p : ℕ) (hp : p < 4) (c : Dev nD) (r : Fin 8) (q : Fin 520) (n : Fin 1024) (hn : n.val = 256 * p + 8 * c.val + r.val) :
    k0_pay80 (ldRow J p hp c) (ldStage J p hp c) (ix2 r q) = ∑ t : Dev nD, accV (J t) (ix2 n q) := by
  rw [pay80_at, ldRow_at J p hp c r q n hn, ← sum_devices c]
  exact congrArg _ (Finset.sum_congr rfl fun o _ => ldStage_at J p hp c 0 o r q n hn)

theorem osV_val (b : Fin 2) (i e : Fin 512) : osV J (ix3 b i e) = ctx D b i e := by
  have hb := b.isLt
  have hi := i.isLt
  have he := e.isLt
  have hos : osV J (ix3 b i e) = ctxV J (2 * b.val + i.val / 256) (by omega) ⟨i.val / 8 % 32, Nat.mod_lt _ (by decide)⟩
      (ix3 0 ⟨i.val % 8, Nat.mod_lt _ (by decide)⟩ ⟨64 * (e.val / 64) + e.val % 64, by omega⟩) := by
    pointwise [osV]
    rw [← ix3_eq_valueIdx]
    refine congrArg _ (congrArg₂ (fun z e => ix3 z _ e) rfl (Fin.ext ?_))
    dsimp only; omega
  rw [hos, ctxV, finV_at _ _ _ ⟨e.val / 64, by omega⟩ ⟨e.val % 64, Nat.mod_lt _ (by decide)⟩, ctxH_at,
    red_val _ _ _ _ _ ⟨512 * b.val + i.val, by omega⟩ (by dsimp only; omega),
    red_val _ _ _ _ _ ⟨512 * b.val + i.val, by omega⟩ (by dsimp only; omega), ctx, num, den, coe_sum]
  refine congrArg₂ Ideal.div (Finset.sum_congr rfl fun t _ => ?_) (Finset.sum_congr rfl fun t _ => ?_)
  · rw [accV_num (J t) (2 * b.val + i.val / 256) (by omega) ⟨i.val % 256, Nat.mod_lt _ (by decide)⟩ ⟨e.val / 64, by omega⟩ ⟨e.val % 64, Nat.mod_lt _ (by decide)⟩ _ (by dsimp only; omega) _ rfl]
    exact ogV_val H t _ _ _ _ _ b i (by omega) (by dsimp only; omega)
  · rw [accV_den (J t) (2 * b.val + i.val / 256) (by omega) ⟨i.val % 256, Nat.mod_lt _ (by decide)⟩ ⟨e.val / 64, by omega⟩ _ (by dsimp only; omega) _ rfl]
    exact lV_val H t _ _ _ _ _ b i (by omega) (by dsimp only; omega)

/-- Every device's result is the attention. -/
theorem outV_val (c : Dev nD) (b : Fin 2) (i : Fin 512) (f : Fin 768) : outV (J c) J (ix3 b i f) = attn D b i f := by
  have hb := b.isLt
  have hi := i.isLt
  have ho : outV (J c) J (ix3 b i f) = delV (J c) J (2 * b.val + i.val / 256) (by omega) (ix3 0 ⟨i.val % 256, Nat.mod_lt _ (by decide)⟩ f) := by
    pointwise [outV]
    rw [← ix3_eq_valueIdx]
  rw [ho, delV, pay1_at, attn]
  refine Finset.sum_congr rfl fun e _ => ?_
  rw [ldO_at, ldWo_at, H.wo, osV_val H]
  refine congrArg (· * D.wo e f) (congrArg₂ (fun b i => ctx D b i e) (Fin.ext ?_) (Fin.ext ?_)) <;> dsimp only <;> omega

end Cert.Ring
-- ==== Proof.RVal.lean ====
/-
# The reference computes the attention

The reference's result, stage by stage as functions of its arguments, read at an index: the mask, the masked scores and
their maximum, the weights, the result. The weights are divided by one more factor than in `attn`,
`exp` of the row's maximum, above and below the bar.
-/
module

public import proofs.«01_k».proof.Proof.Gen.ReferenceIdeal.Run
public import proofs.«01_k».proof.Proof.Spec
public import Idealize.ShloMosaic.Lib.Routing.Words

@[expose] public section

noncomputable section

namespace Cert.Attn

open Cert.ReferenceIdeal Cert.ReferenceIdeal.Gen
open Idealize.ShloMosaic

/-- Row `i` attends to key `j`. -/
abbrev attends (i : Fin 512) (j : Fin 16384) : Prop := j.val / 64 % 4 = i.val / 64 % 4

/-! ## The mask -/

def rowBlk : IVec S512x1 32 := broadcastInDim S512x1 ![0] bcast_S512_S512x1_0 (Routing.pyDiv bcast_S_S512 (iotaInDim S512 32 0) (id (constantI S_ 32 64#32)))
def keyBlk : IVec S1x16384 32 := broadcastInDim S1x16384 ![1] bcast_S16384_S1x16384_1 (Routing.pyDiv bcast_S_S16384 (iotaInDim S16384 32 0) (id (constantI S_ 32 64#32)))
def maskT : IVec S512x16384 1 :=
  ori (cmpi .eq (broadcastInDim S512x16384 ![0, 1] bcast_S512x1_S512x16384_0_1 rowBlk) (broadcastInDim S512x16384 ![0, 1] bcast_S1x16384_S512x16384_0_1 keyBlk))
    (cmpi .eq (broadcastInDim S512x16384 ![0, 1] bcast_S1x16384_S512x16384_0_1 (Routing.pyRem bcast_S_S1x16384 keyBlk (id (constantI S_ 32 4#32))))
      (broadcastInDim S512x16384 ![0, 1] bcast_S512x1_S512x16384_0_1 (Routing.pyRem bcast_S_S512x1 rowBlk (id (constantI S_ 32 4#32)))))
def keepT : IVec S1x1x512x1 1 :=
  broadcastInDim S1x1x512x1 ![2] bcast_S512_S1x1x512x1_2 (Host.reduce IntOp.ori maskT (constantI S_ 1 0#1) reducesTo_S512x16384_S512_d1 h_S_)

theorem rowBlk_at (i : Fin 512) (z : Fin 1) : rowBlk (ix2 i z) = BitVec.ofNat 32 (i.val / 64) := by
  pointwise [rowBlk]
  exact Routing.pyDiv_ap _ _ _ _ rfl rfl (by omega) (by decide) (by decide)

theorem keyBlk_at (z : Fin 1) (j : Fin 16384) : keyBlk (ix2 z j) = BitVec.ofNat 32 (j.val / 64) := by
  pointwise [keyBlk]
  exact Routing.pyDiv_ap _ _ _ _ rfl rfl (by omega) (by decide) (by decide)

theorem cmpi_ofNat (a b : ℕ) (ha : a < 2 ^ 31) (hb : b < 2 ^ 31) :
    IntOp.cmpi .eq (BitVec.ofNat 32 a) (BitVec.ofNat 32 b) = BitVec.ofBool (decide (a = b)) := by
  refine congrArg BitVec.ofBool (Bool.eq_iff_iff.mpr ?_)
  simp only [beq_iff_eq, decide_eq_true_eq]
  refine ⟨fun h => ?_, congrArg _⟩
  have h := congrArg BitVec.toNat h
  simp only [BitVec.toNat_ofNat] at h
  omega

theorem maskT_at (i : Fin 512) (j : Fin 16384) : maskT (ix2 i j) = BitVec.ofBool (decide (attends i j)) := by
  have hk : (id (constantI S_ 32 4#32) : IVec S_ 32) ix0 = BitVec.ofNat 32 4 := rfl
  pointwise [maskT]
  rw [Routing.pyRem_ap _ _ _ _ (keyBlk_at 0 j) hk (by omega) (by decide) (by decide),
    Routing.pyRem_ap _ _ _ _ (rowBlk_at i 0) hk (by omega) (by decide) (by decide), rowBlk_at, keyBlk_at, cmpi_ofNat _ _ (by omega) (by omega),
    cmpi_ofNat _ _ (by omega) (by omega)]
  by_cases h : attends i j
  · rw [decide_eq_true h]
    generalize decide (i.val / 64 = j.val / 64) = y
    revert y; decide
  · rw [decide_eq_false h, decide_eq_false (fun e => h (by rw [attends, e]))]; rfl

/-- One bit set makes the bits' disjunction set. -/
theorem fold_ori {ι : Type} (s : Finset ι) (f : ι → BitVec 1) (a : ι) (ha : a ∈ s) (h : f a = 1#1) : s.fold IntOp.ori 0#1 f = 1#1 := by
  classical
  rw [← Finset.insert_erase ha, Finset.fold_insert (Finset.notMem_erase a s), h]
  generalize Finset.fold IntOp.ori 0#1 f (s.erase a) = y
  revert y; decide

/-- Every row attends to some key. -/
theorem keepT_at (z z' z'' : Fin 1) (i : Fin 512) : keepT (ix4 z z' i z'') = 1#1 := by
  pointwise [keepT]
  refine fold_ori _ _ ⟨i.val, by omega⟩ (Finset.mem_univ _) ?_
  rw [maskT_at, decide_eq_true (show attends i ⟨i.val, by omega⟩ from rfl)]; rfl

/-! ## The scores -/

theorem numT_at (D : Data) (b : Fin 2) (h : Fin 8) (i : Fin 512) (d : Fin 64) :
    (∑ j : Fin 16384, if attends i j then (weight D b h i j : EReal) * D.v b j h d else 0) = ∑ c : Fin 32, numP D c b h i d :=
  sum_keys (grp i) fun j => (weight D b h i j : EReal) * D.v b j h d

variable (x : FVec Ideal S2x512x768 .f32) (wq : FVec Ideal S768x512 .f32) (k v : FVec Ideal S2x16384x8x64 .f32) (wo : FVec Ideal S512x768 .f32)

def scoreT : FVec Ideal S2x8x512x16384 .f32 :=
  mulf (Host.dotGeneral dot_S2x512x8x64_S2x16384x8x64_S2x8x512x16384_3_3_1_1_02_02 none (shapeCast _ (Host.dotGeneral dot_S2x512x768_S768x512_S2x512x512_2_0_01_1_n_n none x wq) shapeCasts_S2x512x512_S2x512x8x64) k)
    (broadcastInDim S2x8x512x16384 ![] bcast_S_S2x8x512x16384 (constant S_ .f32 0x3E000000#32))
def maskedT : FVec Ideal S2x8x512x16384 .f32 :=
  select (broadcastInDim S2x8x512x16384 ![0, 1, 2, 3] bcast_S1x1x512x16384_S2x8x512x16384_0_1_2_3 (broadcastInDim S1x1x512x16384 ![2, 3] bcast_S512x16384_S1x1x512x16384_2_3 maskT))
    (scoreT x wq k) (broadcastInDim S2x8x512x16384 ![] bcast_S_S2x8x512x16384 (id (constant S_ .f32 0xFF800000#32)))
def maxT : FVec Ideal S2x8x512 .f32 :=
  Host.reduce FloatOps.maximumf (maskedT x wq k) (constant S_ .f32 0xFF800000#32) reducesTo_S2x8x512x16384_S2x8x512_d3 h_S_
def expT : FVec Ideal S2x8x512x16384 .f32 :=
  Host.exp (subf (maskedT x wq k) (broadcastInDim S2x8x512x16384 ![0, 1, 2, 3] bcast_S2x8x512x1_S2x8x512x16384_0_1_2_3 (broadcastInDim S2x8x512x1 ![0, 1, 2] bcast_S2x8x512_S2x8x512x1_0_1_2 (maxT x wq k))))
def sumT : FVec Ideal S2x8x512 .f32 :=
  Host.reduceAdd (expT x wq k) (constant S_ .f32 0x00000000#32) reducesTo_S2x8x512x16384_S2x8x512_d3 h_S_
def divT (keep : IVec S1x1x512x1 1) (e : FVec Ideal S2x8x512x16384 .f32) (s : FVec Ideal S2x8x512 .f32) : FVec Ideal S2x8x512x16384 .f32 :=
  select (broadcastInDim S2x8x512x16384 ![0, 1, 2, 3] bcast_S1x1x512x1_S2x8x512x16384_0_1_2_3 keep)
    (Host.divf e (broadcastInDim S2x8x512x16384 ![0, 1, 2, 3] bcast_S2x8x512x1_S2x8x512x16384_0_1_2_3
      (select (broadcastInDim S2x8x512x1 ![0, 1, 2, 3] bcast_S1x1x512x1_S2x8x512x1_0_1_2_3 keep)
        (broadcastInDim S2x8x512x1 ![0, 1, 2] bcast_S2x8x512_S2x8x512x1_0_1_2 s)
        (broadcastInDim S2x8x512x1 ![] bcast_S_S2x8x512x1 (id (constant S_ .f32 0x3F800000#32))))))
    (broadcastInDim S2x8x512x16384 ![] bcast_S_S2x8x512x16384 (id (constant S_ .f32 0x00000000#32)))
def weightT : FVec Ideal S2x8x512x16384 .f32 := divT keepT (expT x wq k) (sumT x wq k)
def outT : FVec Ideal S2x512x768 .f32 :=
  Host.dotGeneral dot_S2x512x512_S512x768_S2x512x768_2_0_01_1_n_n none (shapeCast _ (transpose S2x512x8x64 [0, 3, 1, 2]
    (Host.dotGeneral dot_S2x16384x8x64_S2x8x512x16384_S2x8x64x512_1_3_3_2_02_01 none v (weightT x wq k))
    transposes_S2x8x64x512_S2x512x8x64_0_3_1_2) shapeCasts_S2x512x8x64_S2x512x512) wo

theorem divT_at (keep : IVec S1x1x512x1 1) (e : FVec Ideal S2x8x512x16384 .f32) (s : FVec Ideal S2x8x512 .f32) (b : Fin 2) (h : Fin 8) (i : Fin 512)
    (j : Fin 16384) (hk : keep (ix4 0 0 i 0) = 1#1) : divT keep e s (ix4 b h i j) = Ideal.div (e (ix4 b h i j)) (s (ix3 b h i)) := by
  pointwise [divT]
  rw [hk]; rfl

/-- The reference's result is these stages. -/
theorem res_eq (m : (ℓ : Loc nD τ sig) → Buf (Elt Ideal) ℓ) (c : Dev nD) :
    Value.res_main_v39 m c = outT (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- The arguments are the arrays of `D`. -/
structure Args (D : Data) : Prop where
  x : ∀ (b : Fin 2) (i : Fin 512) (d : Fin 768), x (ix3 b i d) = (D.x b i d : EReal)
  wq : ∀ (d : Fin 768) (e : Fin 512), wq (ix2 d e) = (D.wq d e : EReal)
  k : ∀ (b : Fin 2) (n : Fin 16384) (h : Fin 8) (d : Fin 64), k (ix4 b n h d) = (D.k b n h d : EReal)
  v : ∀ (b : Fin 2) (n : Fin 16384) (h : Fin 8) (d : Fin 64), v (ix4 b n h d) = D.v b n h d
  wo : ∀ (e : Fin 512) (f : Fin 768), wo (ix2 e f) = D.wo e f

variable {x wq k v wo} {D : Data} (H : Args x wq k v wo D)

include H

theorem scoreT_at (b : Fin 2) (h : Fin 8) (i : Fin 512) (j : Fin 16384) : scoreT x wq k (ix4 b h i j) = (score D b h i j : EReal) := by
  pointwise [scoreT]
  rw [eighth, score, EReal.coe_mul, coe_sum]
  refine congrArg (· * ((1 / 8 : ℝ) : EReal)) (Finset.sum_congr rfl fun d _ => ?_)
  rw [H.k, EReal.coe_mul, query, coe_sum]
  refine congrArg (· * (D.k b j h d : EReal)) (Finset.sum_congr rfl fun e _ => ?_)
  rw [H.x, H.wq, EReal.coe_mul]
  refine congrArg (fun c => (D.x b i e : EReal) * (D.wq e c : EReal)) (Fin.ext ?_)
  dsimp only [col]; omega

theorem maskedT_at (b : Fin 2) (h : Fin 8) (i : Fin 512) (j : Fin 16384) :
    maskedT x wq k (ix4 b h i j) = if attends i j then (score D b h i j : EReal) else ⊥ := by
  have hb : (id (constant (F := Ideal) S_ .f32 0xFF800000#32) : FVec Ideal S_ .f32) ix0 = ⊥ := by
    show Ideal.ofBits .f32 0xFF800000#32 = ⊥
    simp [Ideal.ofBits, Ideal.ieee]
  pointwise [maskedT]
  rw [maskT_at, scoreT_at H, hb]
  by_cases h : attends i j
  · rw [if_pos h, decide_eq_true h]; rfl
  · rw [if_neg h, decide_eq_false h]; rfl

/-- The maximum of a row is a real number. -/
theorem maxT_at (b : Fin 2) (h : Fin 8) (i : Fin 512) : ∃ m : ℝ, maxT x wq k (ix3 b h i) = (m : EReal) := by
  have hb : Ideal.ofBits .f32 0xFF800000#32 = ⊥ := by simp [Ideal.ofBits, Ideal.ieee]
  pointwise [maxT]
  simp only [maskedT_at H, hb]
  refine ⟨_, (EReal.coe_toReal (ne_of_lt ?_) (ne_of_gt ?_)).symm⟩
  · refine (Finset.fold_max_lt _).mpr ⟨bot_lt_top, fun j _ => ?_⟩
    split_ifs
    · exact EReal.coe_lt_top _
    · exact bot_lt_top
  · refine (Finset.lt_fold_max _).mpr (Or.inr ⟨⟨i.val, by omega⟩, Finset.mem_univ _, ?_⟩)
    rw [if_pos (show attends i ⟨i.val, by omega⟩ from rfl)]
    exact EReal.bot_lt_coe _

theorem expT_at (b : Fin 2) (h : Fin 8) (i : Fin 512) (j : Fin 16384) (m : ℝ) (hm : maxT x wq k (ix3 b h i) = (m : EReal)) :
    expT x wq k (ix4 b h i j) = ((if attends i j then Real.exp (-m) * weight D b h i j else 0 : ℝ) : EReal) := by
  pointwise [expT]
  rw [maskedT_at H, hm]
  split_ifs
  · rw [← EReal.coe_sub, Ideal.exp_coe, weight, ← Real.exp_add, neg_add_eq_sub]
  · rw [EReal.bot_sub]; rfl

theorem sumT_at (b : Fin 2) (h : Fin 8) (i : Fin 512) (m : ℝ) (hm : maxT x wq k (ix3 b h i) = (m : EReal)) :
    sumT x wq k (ix3 b h i) = ((Real.exp (-m) * den D b h i : ℝ) : EReal) := by
  pointwise [sumT]
  simp only [expT_at H b h i _ m hm]
  rw [← coe_sum, den, Finset.mul_sum]
  refine congrArg _ ((sum_keys (grp i) fun j => Real.exp (-m) * weight D b h i j).trans (Finset.sum_congr rfl fun c _ => ?_))
  rw [denP, Finset.mul_sum]

theorem weightT_at (b : Fin 2) (h : Fin 8) (i : Fin 512) (j : Fin 16384) :
    weightT x wq k (ix4 b h i j) = ((if attends i j then weight D b h i j * (1 / den D b h i) else 0 : ℝ) : EReal) := by
  obtain ⟨m, hm⟩ := maxT_at H b h i
  have hd := den_pos D b h i
  have he := Real.exp_pos (-m)
  rw [weightT, divT_at _ _ _ _ _ _ _ (keepT_at 0 0 0 i), expT_at H b h i j m hm, sumT_at H b h i m hm, Ideal.div_coe (ne_of_gt (mul_pos he hd)), ← EReal.coe_mul]
  refine congrArg _ ?_
  split_ifs
  · field_simp
  · rw [zero_mul]

theorem outT_at (b : Fin 2) (i : Fin 512) (f : Fin 768) : outT x wq k v wo (ix3 b i f) = attn D b i f := by
  pointwise [outT]
  rw [attn]
  refine Finset.sum_congr rfl fun e _ => ?_
  rw [H.wo, ctx, Ideal.div_coe (ne_of_gt (den_pos D _ _ _)), num, ← numT_at]
  refine congrArg (· * D.wo e f) ?_
  simp only [weightT_at H, H.v]
  rw [sum_mul_coe _ _ _ (by have := den_pos D b ⟨e.val / 64, by omega⟩ i; positivity)]
  refine Finset.sum_congr rfl fun j _ => ?_
  split_ifs
  · rw [EReal.coe_mul, ← mul_assoc, mul_comm (D.v _ _ _ _)]
  · rw [EReal.coe_zero, mul_zero, zero_mul]

end Cert.Attn
-- ==== Proof.End.lean ====
/-
# The kernel and the reference agree

The operands the kernel works on are the arguments, and its result array ends as `outV`. Where the scores' operands are
finite numbers, the arguments are the arrays of a `Data`: the kernel's result and the reference's are both its `attn`.
-/
module

public import proofs.«01_k».proof.Defs
public import proofs.«01_k».proof.Proof.Run
public import proofs.«01_k».proof.Proof.KVal
public import proofs.«01_k».proof.Proof.RVal
public import proofs.«01_k».proof.Proof.Gen.Pre_finite_scores_KernelIdeal
public import Idealize.ShloMosaic.Lib.Pipeline.ValueKit

@[expose] public section

noncomputable section

namespace Cert.Ring

open Cert.KernelIdeal Cert.KernelIdeal.Gen Cert.Attn
open Idealize.ShloMosaic
open Idealize.ShloMosaic.TcCoe
open Idealize.SL.Sem

section Arrays

variable {F : FTy → Type} [FloatOps F] (m : (ℓ : Loc nD τ sig) → Buf (Elt F) ℓ) (ρ : Dev nD → PrngReg)

/-- Every operand's block is its whole array. -/
theorem ops_eq (c : Dev nD) : opsOf m c = ⟨m ((c : Thread nD τ).loc main_arg0), m ((c : Thread nD τ).loc main_arg1),
    m ((c : Thread nD τ).loc main_arg2), m ((c : Thread nD τ).loc main_arg3), m ((c : Thread nD τ).loc main_arg4)⟩ := by
  have e0 : win0_0.index t0_0 = ![0, 0, 0] := by decide +kernel
  have e1 : win0_1.index t0_0 = ![0, 0] := by decide +kernel
  have e2 : win0_2.index t0_0 = ![0, 0, 0, 0] := by decide +kernel
  have e3 : win0_3.index t0_0 = ![0, 0, 0, 0] := by decide +kernel
  have e4 : win0_4.index t0_0 = ![0, 0] := by decide +kernel
  unfold opsOf
  congr 1
  · funext y; blk_simp [iblk]; refine congrArg (m ((c : Thread nD τ).loc main_arg0)) ?_; blk_ext [e0]
  · funext y; blk_simp [iblk]; refine congrArg (m ((c : Thread nD τ).loc main_arg1)) ?_; blk_ext [e1]
  · funext y; blk_simp [iblk]; refine congrArg (m ((c : Thread nD τ).loc main_arg2)) ?_; blk_ext [e2]
  · funext y; blk_simp [iblk]; refine congrArg (m ((c : Thread nD τ).loc main_arg3)) ?_; blk_ext [e3]
  · funext y; blk_simp [iblk]; refine congrArg (m ((c : Thread nD τ).loc main_arg4)) ?_; blk_ext [e4]

theorem final5 (c : Dev nD) : finalA m ρ c (5 : Fin 6) = outV (opsOf m c) (opsOf m) := by
  funext i
  refine ((dats m ρ 0 c).arrAt_emb_eq_after_last (5 : Fin 6) t0_0 (by decide +kernel) i).trans ?_
  blk_simp
  rfl

end Arrays

/-! ## The arrays of the problem -/

/-- The arrays of a `Data`, from the reference's arguments. -/
def dataOf (x : FVec Ideal S2x512x768 .f32) (wq : FVec Ideal S768x512 .f32) (k v : FVec Ideal Cert.ReferenceIdeal.S2x16384x8x64 .f32)
    (wo : FVec Ideal S512x768 .f32) : Data where
  x b i d := EReal.toReal (x (ix3 b i d))
  wq d e := EReal.toReal (wq (ix2 d e))
  k b n h d := EReal.toReal (k (ix4 b n h d))
  v b n h d := v (ix4 b n h d)
  wo e f := wo (ix2 e f)

/-- A number below infinity in size is a real number. -/
theorem real_of {z : EReal} (h : BitVec.ofBool (decide (max z (-z) < Ideal.ofBits .f32 0x7F800000#32)) = 1#1) : z = ((z.toReal : ℝ) : EReal) := by
  have ht : Ideal.ofBits .f32 0x7F800000#32 = ⊤ := by simp [Ideal.ofBits, Ideal.ieee]
  have h : max z (-z) < ⊤ := by
    by_contra hn
    rw [ht, decide_eq_false hn] at h
    exact absurd h (by decide)
  refine (EReal.coe_toReal (ne_of_lt ((le_max_left _ _).trans_lt h)) ?_).symm
  rintro rfl
  exact absurd h (by simp)

/-- A block of the keys or the values, at an index. -/
theorem block_at (c : Dev nD) (k : FVec Ideal Cert.ReferenceIdeal.S2x16384x8x64 .f32) (b : Fin 2) (j : Fin 512) (h : Fin 8) (d : Fin 64) (n : Fin 16384)
    (hn : n.val = 512 * c.val + j.val) :
    Layout.block ⟨4, ![2, 512, 8, 64]⟩ ⟨4, ![2, 16384, 8, 64]⟩ 1 32 c k (by decide) (ix4 b j h d) = k (ix4 b n h d) := by
  rw [Layout.block_apply]
  refine congrArg k (funext fun a => Fin.ext ?_)
  rw [Layout.Tiles.idx_val]
  match a with
  | 0 => rfl
  | 1 => show c.val * 512 + j.val = n.val; omega
  | 2 => rfl
  | 3 => rfl

section Data

variable {J : Dev nD → Ins Ideal} {x : FVec Ideal S2x512x768 .f32} {wq : FVec Ideal S768x512 .f32} {k v : FVec Ideal Cert.ReferenceIdeal.S2x16384x8x64 .f32}
  {wo : FVec Ideal S512x768 .f32}
  (hx : ∀ c, (J c).x = x) (hwq : ∀ c, (J c).wq = wq) (hk : ∀ c, (J c).k = Layout.block ⟨4, ![2, 512, 8, 64]⟩ ⟨4, ![2, 16384, 8, 64]⟩ 1 32 c k)
  (hv : ∀ c, (J c).v = Layout.block ⟨4, ![2, 512, 8, 64]⟩ ⟨4, ![2, 16384, 8, 64]⟩ 1 32 c v) (hwo : ∀ c, (J c).wo = wo)

include hx hwq hk in
/-- Each device's operands finite, the whole arrays are. -/
theorem args_of (hp : ∀ c, Cert.Pre_finite_scores_KernelIdeal.fn (F := Ideal) (J c).x (J c).wq (J c).k (J c).v (J c).wo = (fun _ => 1#1, fun _ => 1#1, fun _ => 1#1)) :
    Args x wq k v wo (dataOf x wq k v wo) where
  x b i d := by
    have h := congrFun (congrArg Prod.fst (hp 0)) (ix3 b i d)
    pointwise [Cert.Pre_finite_scores_KernelIdeal.fn] at h
    rw [hx] at h
    exact real_of h
  wq d e := by
    have h := congrFun (congrArg (fun q => q.2.1) (hp 0)) (ix2 d e)
    pointwise [Cert.Pre_finite_scores_KernelIdeal.fn] at h
    rw [hwq] at h
    exact real_of h
  k b n h d := by
    have hn := n.isLt
    have h := congrFun (congrArg (fun q => q.2.2) (hp ⟨n.val / 512, by show _ < 32; omega⟩)) (ix4 b ⟨n.val % 512, Nat.mod_lt _ (by decide)⟩ h d)
    pointwise [Cert.Pre_finite_scores_KernelIdeal.fn] at h
    rw [hk, block_at _ _ _ _ _ _ n (by dsimp only; omega)] at h
    exact real_of h
  v _ _ _ _ := rfl
  wo _ _ := rfl

include hx hwq hk hv hwo in
theorem holds_of {D : Data} (H : Args x wq k v wo D) : Holds J D where
  x c b i d := by rw [hx, H.x]
  wq c d e := by rw [hwq, H.wq]
  k c b j h d n hn := by rw [hk, block_at _ _ _ _ _ _ n hn, H.k]
  v c b j h d n hn := by rw [hv, block_at _ _ _ _ _ _ n hn, H.v]
  wo c e f := by rw [hwo, H.wo]

include hx hwq hk hv hwo in
/-- The kernel's result on every device is the reference's. -/
theorem outV_eq {D : Data} (H : Args x wq k v wo D) (c : Dev nD) : outV (J c) J = outT x wq k v wo := by
  funext i
  idx_vars i
  rw [outV_val (holds_of hx hwq hk hv hwo H), outT_at H]

end Data

/-- The kernel and the reference end with the same result, their arguments as they were. -/
theorem agree : Cert.algebraic_KernelIdeal_ReferenceIdeal_pre_finite_scores_KernelIdeal := fun m g m' g' hp hm => by
  have hx := fun c => (congrArg Ins.x (ops_eq m c)).trans (hm c).1
  have hwq := fun c => (congrArg Ins.wq (ops_eq m c)).trans (hm c).2.1
  have hk := fun c => (congrArg Ins.k (ops_eq m c)).trans (hm c).2.2.1
  have hv := fun c => (congrArg Ins.v (ops_eq m c)).trans (hm c).2.2.2.1
  have hwo := fun c => (congrArg Ins.wo (ops_eq m c)).trans (hm c).2.2.2.2
  have H := args_of (J := opsOf m) (v := m' (((0 : Dev Cert.ReferenceIdeal.nD).tc : Thread Cert.ReferenceIdeal.nD Cert.ReferenceIdeal.τ).loc Cert.ReferenceIdeal.main_arg3))
    (wo := m' (((0 : Dev Cert.ReferenceIdeal.nD).tc : Thread Cert.ReferenceIdeal.nD Cert.ReferenceIdeal.τ).loc Cert.ReferenceIdeal.main_arg4)) hx hwq hk
    fun c => by rw [ops_eq]; exact Prod.ext (hp c).1 (Prod.ext (hp c).2.1 (hp c).2.2)
  refine ⟨Cert.ReferenceIdeal.Value.res_main_v39 m' 0, ?_, ?_⟩
  · refine (θ_run defs _ _).mono (fun r h c => ⟨?_, (h.1 c (0 : Fin 6)).trans (final0 m g c), (h.1 c (1 : Fin 6)).trans (final1 m g c),
      (h.1 c (2 : Fin 6)).trans (final2 m g c), (h.1 c (3 : Fin 6)).trans (final3 m g c), (h.1 c (4 : Fin 6)).trans (final4 m g c)⟩) (run_main m g)
    rw [res_eq, ← outV_eq hx hwq hk hv hwo H c]
    exact (h.1 c (5 : Fin 6)).trans (final5 m g c)
  · exact (θ_run Cert.ReferenceIdeal.defs _ _).mono (fun r h => h 0) (Cert.ReferenceIdeal.Value.run (F := Ideal) m' g')

end Cert.Ring
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Run
public import proofs.«01_k».proof.Proof.End
public import Idealize.ShloMosaic.Adequacy
public import Idealize.ShloMosaic.Init

@[expose] public section

noncomputable section

namespace Cert.Proof

open Idealize.ShloMosaic Idealize.SL.Sem

set_option maxRecDepth 100000 in
/-- The printed kernel and the idealized one have the same text: their bodies agree. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

/-- So do their tables of bodies and pipelines. -/
theorem tables_eq : Cert.Kernel.defs (F := Bits) = Cert.KernelIdeal.defs (F := Bits) :=
  congrArg (Pipeline.defs Cert.Kernel.pcfgs) bodies_eq

/-- The printed kernel ends, leaves its operands as they were and every semaphore at zero: it is the idealized
    kernel's own text, so the run proved over any float values is its run. -/
theorem frame_kernel : Cert.quiescent_Kernel := fun m ρ _ => by
  rw [tables_eq]
  exact Cert.Ring.run_frame (F := Bits) m ρ

/-- The same of the kernel over the extended reals. -/
theorem frame_ideal : Cert.quiescent_KernelIdeal := fun m ρ _ =>
  (θ_run Cert.KernelIdeal.defs _ _).mono (fun _ h => h) (Cert.Ring.run_frame (F := Ideal) m ρ)

/-- The reference ends and leaves its arguments as they were; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Pre_finite_scores_KernelIdeal.Gen.facts,
    Cert.Pre_finite_scores_ReferenceIdeal.Gen.facts, frame_kernel, frame_ideal, fun m ρ _ => frame_ideal m ρ trivial, frame_reference,
    fun m ρ _ => frame_reference m ρ trivial, trivial, Cert.Ring.agree⟩

end Cert.Proof

end
